-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreReferenceIdeal (m : (ℓ : Loc Cert.PreReferenceIdeal.nD Cert.PreReferenceIdeal.τ Cert.PreReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4)
      ∧ r.2.mem ((c.tc : Thread Cert.PreKernel.nD Cert.PreKernel.τ).loc Cert.PreKernel.main_arg5) = m ((c.tc : Thread Cert.PreKernel.nD Cert.PreKernel.τ).loc Cert.PreKernel.main_arg5)
      ∧ r.2.mem ((c.tc : Thread Cert.PreKernel.nD Cert.PreKernel.τ).loc Cert.PreKernel.main_arg6) = m ((c.tc : Thread Cert.PreKernel.nD Cert.PreKernel.τ).loc Cert.PreKernel.main_arg6)
      ∧ r.2.mem ((c.tc : Thread Cert.PreKernel.nD Cert.PreKernel.τ).loc Cert.PreKernel.main_arg7) = m ((c.tc : Thread Cert.PreKernel.nD Cert.PreKernel.τ).loc Cert.PreKernel.main_arg7))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
      ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
      ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
      ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5)
      ∧ r.2.mem ((c.tc : Thread Cert.PreReferenceIdeal.nD Cert.PreReferenceIdeal.τ).loc Cert.PreReferenceIdeal.main_arg6) = m ((c.tc : Thread Cert.PreReferenceIdeal.nD Cert.PreReferenceIdeal.τ).loc Cert.PreReferenceIdeal.main_arg6)
      ∧ r.2.mem ((c.tc : Thread Cert.PreReferenceIdeal.nD Cert.PreReferenceIdeal.τ).loc Cert.PreReferenceIdeal.main_arg7) = m ((c.tc : Thread Cert.PreReferenceIdeal.nD Cert.PreReferenceIdeal.τ).loc Cert.PreReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_v5_5) = v5 c
          ∧ r.2.mem ((c.tc : Thread Cert.ReferenceIdeal.nD Cert.ReferenceIdeal.τ).loc Cert.ReferenceIdeal.main_v5_6) = v6 c
          ∧ r.2.mem ((c.tc : Thread Cert.ReferenceIdeal.nD Cert.ReferenceIdeal.τ).loc Cert.ReferenceIdeal.main_v5_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_PreKernel_PreKernelIdeal : Prop :=
  True

def algebraic_PreKernelIdeal_PreReferenceIdeal [hPreKernelIdeal : Cert.PreKernelIdeal.Facts] [hPreReferenceIdeal : Cert.PreReferenceIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreKernelIdeal m →
    (∀ c : Dev Cert.PreKernelIdeal.nD,
      m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0)
      ∧ m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1)
      ∧ m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2)
      ∧ m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3)
      ∧ m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4)
      ∧ m' ((c.tc : Thread Cert.PreReferenceIdeal.nD Cert.PreReferenceIdeal.τ).loc Cert.PreReferenceIdeal.main_arg5) = m ((c.tc : Thread Cert.PreKernelIdeal.nD Cert.PreKernelIdeal.τ).loc Cert.PreKernelIdeal.main_arg5)
      ∧ m' ((c.tc : Thread Cert.PreReferenceIdeal.nD Cert.PreReferenceIdeal.τ).loc Cert.PreReferenceIdeal.main_arg6) = m ((c.tc : Thread Cert.PreKernelIdeal.nD Cert.PreKernelIdeal.τ).loc Cert.PreKernelIdeal.main_arg6)
      ∧ m' ((c.tc : Thread Cert.PreReferenceIdeal.nD Cert.PreReferenceIdeal.τ).loc Cert.PreReferenceIdeal.main_arg7) = m ((c.tc : Thread Cert.PreKernelIdeal.nD Cert.PreKernelIdeal.τ).loc Cert.PreKernelIdeal.main_arg7)) →
    ∃ (v0 : (c : Dev Cert.PreKernelIdeal.nD) → Buf (Elt Ideal) ((c.tc : Thread Cert.PreKernelIdeal.nD Cert.PreKernelIdeal.τ).loc Cert.PreKernelIdeal.main_v9_0)) (v1 : (c : Dev Cert.PreKernelIdeal.nD) → Buf (Elt Ideal) ((c.tc : Thread Cert.PreKernelIdeal.nD Cert.PreKernelIdeal.τ).loc Cert.PreKernelIdeal.main_v9_1)) (v2 : (c : Dev Cert.PreKernelIdeal.nD) → Buf (Elt Ideal) ((c.tc : Thread Cert.PreKernelIdeal.nD Cert.PreKernelIdeal.τ).loc Cert.PreKernelIdeal.main_v9_2)) (v3 : (c : Dev Cert.PreKernelIdeal.nD) → Buf (Elt Ideal) ((c.tc : Thread Cert.PreKernelIdeal.nD Cert.PreKernelIdeal.τ).loc Cert.PreKernelIdeal.main_v9_3)) (v4 : (c : Dev Cert.PreKernelIdeal.nD) → Buf (Elt Ideal) ((c.tc : Thread Cert.PreKernelIdeal.nD Cert.PreKernelIdeal.τ).loc Cert.PreKernelIdeal.main_v9_4)) (v5 : (c : Dev Cert.PreKernelIdeal.nD) → Buf (Elt Ideal) ((c.tc : Thread Cert.PreKernelIdeal.nD Cert.PreKernelIdeal.τ).loc Cert.PreKernelIdeal.main_v9_5)) (v6 : (c : Dev Cert.PreKernelIdeal.nD) → Buf (Elt Ideal) ((c.tc : Thread Cert.PreKernelIdeal.nD Cert.PreKernelIdeal.τ).loc Cert.PreKernelIdeal.main_v9_8)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v9_0) = v0 c
          ∧ r.2.mem ((c.tc : Thread Cert.PreKernelIdeal.nD Cert.PreKernelIdeal.τ).loc Cert.PreKernelIdeal.main_v9_1) = v1 c
          ∧ r.2.mem ((c.tc : Thread Cert.PreKernelIdeal.nD Cert.PreKernelIdeal.τ).loc Cert.PreKernelIdeal.main_v9_2) = v2 c
          ∧ r.2.mem ((c.tc : Thread Cert.PreKernelIdeal.nD Cert.PreKernelIdeal.τ).loc Cert.PreKernelIdeal.main_v9_3) = v3 c
          ∧ r.2.mem ((c.tc : Thread Cert.PreKernelIdeal.nD Cert.PreKernelIdeal.τ).loc Cert.PreKernelIdeal.main_v9_4) = v4 c
          ∧ r.2.mem ((c.tc : Thread Cert.PreKernelIdeal.nD Cert.PreKernelIdeal.τ).loc Cert.PreKernelIdeal.main_v9_5) = v5 c
          ∧ r.2.mem ((c.tc : Thread Cert.PreKernelIdeal.nD Cert.PreKernelIdeal.τ).loc Cert.PreKernelIdeal.main_v9_8) = v6 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
          ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
          ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
          ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v5_0) = v0 c
          ∧ r.2.mem ((c.tc : Thread Cert.PreReferenceIdeal.nD Cert.PreReferenceIdeal.τ).loc Cert.PreReferenceIdeal.main_v5_1) = v1 c
          ∧ r.2.mem ((c.tc : Thread Cert.PreReferenceIdeal.nD Cert.PreReferenceIdeal.τ).loc Cert.PreReferenceIdeal.main_v5_2) = v2 c
          ∧ r.2.mem ((c.tc : Thread Cert.PreReferenceIdeal.nD Cert.PreReferenceIdeal.τ).loc Cert.PreReferenceIdeal.main_v5_3) = v3 c
          ∧ r.2.mem ((c.tc : Thread Cert.PreReferenceIdeal.nD Cert.PreReferenceIdeal.τ).loc Cert.PreReferenceIdeal.main_v5_4) = v4 c
          ∧ r.2.mem ((c.tc : Thread Cert.PreReferenceIdeal.nD Cert.PreReferenceIdeal.τ).loc Cert.PreReferenceIdeal.main_v5_5) = v5 c
          ∧ r.2.mem ((c.tc : Thread Cert.PreReferenceIdeal.nD Cert.PreReferenceIdeal.τ).loc Cert.PreReferenceIdeal.main_v5_6) = v6 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4)
          ∧ r.2.mem ((c.tc : Thread Cert.PreReferenceIdeal.nD Cert.PreReferenceIdeal.τ).loc Cert.PreReferenceIdeal.main_arg5) = m' ((c.tc : Thread Cert.PreReferenceIdeal.nD Cert.PreReferenceIdeal.τ).loc Cert.PreReferenceIdeal.main_arg5)
          ∧ r.2.mem ((c.tc : Thread Cert.PreReferenceIdeal.nD Cert.PreReferenceIdeal.τ).loc Cert.PreReferenceIdeal.main_arg6) = m' ((c.tc : Thread Cert.PreReferenceIdeal.nD Cert.PreReferenceIdeal.τ).loc Cert.PreReferenceIdeal.main_arg6)
          ∧ r.2.mem ((c.tc : Thread Cert.PreReferenceIdeal.nD Cert.PreReferenceIdeal.τ).loc Cert.PreReferenceIdeal.main_arg7) = m' ((c.tc : Thread Cert.PreReferenceIdeal.nD Cert.PreReferenceIdeal.τ).loc Cert.PreReferenceIdeal.main_arg7))

def Claim : Prop :=
  ∃ (hKernel : Cert.Kernel.Facts) (hKernelIdeal : Cert.KernelIdeal.Facts) (hReferenceIdeal : Cert.ReferenceIdeal.Facts) (hPreKernel : Cert.PreKernel.Facts) (hPreKernelIdeal : Cert.PreKernelIdeal.Facts) (hPreReferenceIdeal : Cert.PreReferenceIdeal.Facts),
    quiescent_Kernel (hKernel := hKernel)
    ∧ quiescent_KernelIdeal (hKernelIdeal := hKernelIdeal)
    ∧ quiescent_ReferenceIdeal (hReferenceIdeal := hReferenceIdeal)
    ∧ quiescent_PreKernel (hPreKernel := hPreKernel)
    ∧ quiescent_PreKernelIdeal (hPreKernelIdeal := hPreKernelIdeal)
    ∧ quiescent_PreReferenceIdeal (hPreReferenceIdeal := hPreReferenceIdeal)
    ∧ preserves_Kernel_KernelIdeal
    ∧ algebraic_KernelIdeal_ReferenceIdeal (hKernelIdeal := hKernelIdeal) (hReferenceIdeal := hReferenceIdeal)
    ∧ preserves_PreKernel_PreKernelIdeal
    ∧ algebraic_PreKernelIdeal_PreReferenceIdeal (hPreKernelIdeal := hPreKernelIdeal) (hPreReferenceIdeal := hPreReferenceIdeal)
-- ==== Kernel.lean ====
abbrev S5x16x48x1664 : Shape := ⟨4, ![5, 16, 48, 1664]⟩
abbrev S5x1664x768 : Shape := ⟨3, ![5, 1664, 768]⟩
abbrev S5x1664x384 : Shape := ⟨3, ![5, 1664, 384]⟩
abbrev S384 : Shape := ⟨1, ![384]⟩
abbrev S16x48x768 : Shape := ⟨3, ![16, 48, 768]⟩
abbrev S768 : Shape := ⟨1, ![768]⟩
abbrev S384x2x768 : Shape := ⟨3, ![384, 2, 768]⟩
abbrev S2x768 : Shape := ⟨2, ![2, 768]⟩
abbrev S768x2x1536 : Shape := ⟨3, ![768, 2, 1536]⟩
abbrev S2x1536 : Shape := ⟨2, ![2, 1536]⟩
abbrev S1536x768 : Shape := ⟨2, ![1536, 768]⟩
abbrev S1x384 : Shape := ⟨2, ![1, 384]⟩
abbrev S768x768 : Shape := ⟨2, ![768, 768]⟩
abbrev S1x768 : Shape := ⟨2, ![1, 768]⟩
abbrev S384x1536 : Shape := ⟨2, ![384, 1536]⟩
abbrev S2x768x1536 : Shape := ⟨3, ![2, 768, 1536]⟩
abbrev S5x1x1664 : Shape := ⟨3, ![5, 1, 1664]⟩
abbrev S5x1664x1536 : Shape := ⟨3, ![5, 1664, 1536]⟩
abbrev S1x16x48x256 : Shape := ⟨4, ![1, 16, 48, 256]⟩
abbrev S1x256x768 : Shape := ⟨3, ![1, 256, 768]⟩
abbrev S1x256x384 : Shape := ⟨3, ![1, 256, 384]⟩
abbrev S1x1x256 : Shape := ⟨3, ![1, 1, 256]⟩
abbrev S1x256x1536 : Shape := ⟨3, ![1, 256, 1536]⟩
abbrev S16x48x256 : Shape := ⟨3, ![16, 48, 256]⟩
abbrev S48x256 : Shape := ⟨2, ![48, 256]⟩
abbrev S256 : Shape := ⟨1, ![256]⟩
abbrev S1x256 : Shape := ⟨2, ![1, 256]⟩
abbrev S768x256 : Shape := ⟨2, ![768, 256]⟩
abbrev S128x256 : Shape := ⟨2, ![128, 256]⟩
abbrev S256x128 : Shape := ⟨2, ![256, 128]⟩
abbrev S256x1 : Shape := ⟨2, ![256, 1]⟩
abbrev S256x768 : Shape := ⟨2, ![256, 768]⟩
abbrev S256x384 : Shape := ⟨2, ![256, 384]⟩
abbrev S256x1536 : Shape := ⟨2, ![256, 1536]⟩
abbrev S1x768x1536 : Shape := ⟨3, ![1, 768, 1536]⟩
abbrev S768x1536 : Shape := ⟨2, ![768, 1536]⟩
abbrev S1x1536 : Shape := ⟨2, ![1, 1536]⟩

abbrev nBuf : Space → Nat
  | .hbm => 30
  | .vmem => 33
  | .smem => 0
  | _ => 0

abbrev bufTy : (tb : Table) → Fin (tcTables nBuf tb) → BufTy
  | .hbm, ⟨0, _⟩ => ⟨S5x16x48x1664, .f32⟩
  | .hbm, ⟨1, _⟩ => ⟨S5x1664x768, .bf16⟩
  | .hbm, ⟨2, _⟩ => ⟨S5x1664x384, .bf16⟩
  | .hbm, ⟨3, _⟩ => ⟨S384, .f32⟩
  | .hbm, ⟨4, _⟩ => ⟨S16x48x768, .fp8e4m3⟩
  | .hbm, ⟨5, _⟩ => ⟨S768, .f32⟩
  | .hbm, ⟨6, _⟩ => ⟨S384x2x768, .bf16⟩
  | .hbm, ⟨7, _⟩ => ⟨S2x768, .f32⟩
  | .hbm, ⟨8, _⟩ => ⟨S384x2x768, .bf16⟩
  | .hbm, ⟨9, _⟩ => ⟨S768, .f32⟩
  | .hbm, ⟨10, _⟩ => ⟨S768x2x1536, .fp8e4m3⟩
  | .hbm, ⟨11, _⟩ => ⟨S2x1536, .f32⟩
  | .hbm, ⟨12, _⟩ => ⟨S1536x768, .fp8e4m3⟩
  | .hbm, ⟨13, _⟩ => ⟨S768, .f32⟩
  | .hbm, ⟨14, _⟩ => ⟨S1x384, .f32⟩
  | .hbm, ⟨15, _⟩ => ⟨S768x768, .fp8e4m3⟩
  | .hbm, ⟨16, _⟩ => ⟨S1x768, .f32⟩
  | .hbm, ⟨17, _⟩ => ⟨S384x1536, .bf16⟩
  | .hbm, ⟨18, _⟩ => ⟨S384x1536, .bf16⟩
  | .hbm, ⟨19, _⟩ => ⟨S1x768, .f32⟩
  | .hbm, ⟨20, _⟩ => ⟨S2x768x1536, .fp8e4m3⟩
  | .hbm, ⟨21, _⟩ => ⟨S1x768, .f32⟩
  | .hbm, ⟨22, _⟩ => ⟨S5x1664x768, .bf16⟩
  | .hbm, ⟨23, _⟩ => ⟨S5x1664x768, .f32⟩
  | .hbm, ⟨24, _⟩ => ⟨S5x16x48x1664, .fp8e4m3⟩
  | .hbm, ⟨25, _⟩ => ⟨S5x1x1664, .f32⟩
  | .hbm, ⟨26, _⟩ => ⟨S5x1664x768, .fp8e4m3⟩
  | .hbm, ⟨27, _⟩ => ⟨S5x1x1664, .f32⟩
  | .hbm, ⟨28, _⟩ => ⟨S5x1664x1536, .fp8e4m3⟩
  | .hbm, ⟨29, _⟩ => ⟨S5x1x1664, .f32⟩
  | .local _ .vmem, ⟨0, _⟩ => ⟨S1x16x48x256, .f32⟩
  | .local _ .vmem, ⟨1, _⟩ => ⟨S1x16x48x256, .f32⟩
  | .local _ .vmem, ⟨2, _⟩ => ⟨S1x256x768, .bf16⟩
  | .local _ .vmem, ⟨3, _⟩ => ⟨S1x256x768, .bf16⟩
  | .local _ .vmem, ⟨4, _⟩ => ⟨S1x256x384, .bf16⟩
  | .local _ .vmem, ⟨5, _⟩ => ⟨S1x256x384, .bf16⟩
  | .local _ .vmem, ⟨6, _⟩ => ⟨S1x384, .f32⟩
  | .local _ .vmem, ⟨7, _⟩ => ⟨S768x768, .fp8e4m3⟩
  | .local _ .vmem, ⟨8, _⟩ => ⟨S1x768, .f32⟩
  | .local _ .vmem, ⟨9, _⟩ => ⟨S384x1536, .bf16⟩
  | .local _ .vmem, ⟨10, _⟩ => ⟨S2x768, .f32⟩
  | .local _ .vmem, ⟨11, _⟩ => ⟨S384x1536, .bf16⟩
  | .local _ .vmem, ⟨12, _⟩ => ⟨S1x768, .f32⟩
  | .local _ .vmem, ⟨13, _⟩ => ⟨S2x768x1536, .fp8e4m3⟩
  | .local _ .vmem, ⟨14, _⟩ => ⟨S2x1536, .f32⟩
  | .local _ .vmem, ⟨15, _⟩ => ⟨S1536x768, .fp8e4m3⟩
  | .local _ .vmem, ⟨16, _⟩ => ⟨S1x768, .f32⟩
  | .local _ .vmem, ⟨17, _⟩ => ⟨S1x256x768, .bf16⟩
  | .local _ .vmem, ⟨18, _⟩ => ⟨S1x256x768, .bf16⟩
  | .local _ .vmem, ⟨19, _⟩ => ⟨S1x256x768, .f32⟩
  | .local _ .vmem, ⟨20, _⟩ => ⟨S1x256x768, .f32⟩
  | .local _ .vmem, ⟨21, _⟩ => ⟨S1x16x48x256, .fp8e4m3⟩
  | .local _ .vmem, ⟨22, _⟩ => ⟨S1x16x48x256, .fp8e4m3⟩
  | .local _ .vmem, ⟨23, _⟩ => ⟨S1x1x256, .f32⟩
  | .local _ .vmem, ⟨24, _⟩ => ⟨S1x1x256, .f32⟩
  | .local _ .vmem, ⟨25, _⟩ => ⟨S1x256x768, .fp8e4m3⟩
  | .local _ .vmem, ⟨26, _⟩ => ⟨S1x256x768, .fp8e4m3⟩
  | .local _ .vmem, ⟨27, _⟩ => ⟨S1x1x256, .f32⟩
  | .local _ .vmem, ⟨28, _⟩ => ⟨S1x1x256, .f32⟩
  | .local _ .vmem, ⟨29, _⟩ => ⟨S1x256x1536, .fp8e4m3⟩
  | .local _ .vmem, ⟨30, _⟩ => ⟨S1x256x1536, .fp8e4m3⟩
  | .local _ .vmem, ⟨31, _⟩ => ⟨S1x1x256, .f32⟩
  | .local _ .vmem, ⟨32, _⟩ => ⟨S1x1x256, .f32⟩
  | _, _ => ⟨S5x16x48x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev main_v8_6 : Ref sig .tc := ⟨.hbm, 28, rfl⟩
abbrev main_v8_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨2, ![5, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x48x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x768x1536 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1536x768 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x48x256 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x768 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1536 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ReferenceIdeal.lean ====
abbrev S5x16x48x1664 : Shape := ⟨4, ![5, 16, 48, 1664]⟩
abbrev S5x1664x768 : Shape := ⟨3, ![5, 1664, 768]⟩
abbrev S5x1664x384 : Shape := ⟨3, ![5, 1664, 384]⟩
abbrev S384 : Shape := ⟨1, ![384]⟩
abbrev S16x48x768 : Shape := ⟨3, ![16, 48, 768]⟩
abbrev S768 : Shape := ⟨1, ![768]⟩
abbrev S384x2x768 : Shape := ⟨3, ![384, 2, 768]⟩
abbrev S2x768 : Shape := ⟨2, ![2, 768]⟩
abbrev S768x2x1536 : Shape := ⟨3, ![768, 2, 1536]⟩
abbrev S2x1536 : Shape := ⟨2, ![2, 1536]⟩
abbrev S1536x768 : Shape := ⟨2, ![1536, 768]⟩
abbrev S1x384 : Shape := ⟨2, ![1, 384]⟩
abbrev S768x768 : Shape := ⟨2, ![768, 768]⟩
abbrev S1x768 : Shape := ⟨2, ![1, 768]⟩
abbrev S5x1x1664 : Shape := ⟨3, ![5, 1, 1664]⟩
abbrev S5x1664x1536 : Shape := ⟨3, ![5, 1664, 1536]⟩
abbrev S5x768x1664 : Shape := ⟨3, ![5, 768, 1664]⟩
abbrev S8320x768 : Shape := ⟨2, ![8320, 768]⟩
abbrev S8320 : Shape := ⟨1, ![8320]⟩
abbrev S8320x1 : Shape := ⟨2, ![8320, 1]⟩
abbrev S8320x384 : Shape := ⟨2, ![8320, 384]⟩
abbrev S384x1x768 : Shape := ⟨3, ![384, 1, 768]⟩
abbrev S384x768 : Shape := ⟨2, ![384, 768]⟩
abbrev S768x1x1536 : Shape := ⟨3, ![768, 1, 1536]⟩
abbrev S768x1536 : Shape := ⟨2, ![768, 1536]⟩
abbrev S8320x1536 : Shape := ⟨2, ![8320, 1536]⟩
abbrev S1x1536 : Shape := ⟨2, ![1, 1536]⟩

abbrev nBuf : Space → Nat
  | .hbm => 27
  | .vmem => 22
  | .smem => 0
  | _ => 0

abbrev bufTy : (tb : Table) → Fin (tcTables nBuf tb) → BufTy
  | .hbm, ⟨0, _⟩ => ⟨S5x16x48x1664, .f32⟩
  | .hbm, ⟨1, _⟩ => ⟨S5x1664x768, .bf16⟩
  | .hbm, ⟨2, _⟩ => ⟨S5x1664x384, .bf16⟩
  | .hbm, ⟨3, _⟩ => ⟨S384, .f32⟩
  | .hbm, ⟨4, _⟩ => ⟨S16x48x768, .fp8e4m3⟩
  | .hbm, ⟨5, _⟩ => ⟨S768, .f32⟩
  | .hbm, ⟨6, _⟩ => ⟨S384x2x768, .bf16⟩
  | .hbm, ⟨7, _⟩ => ⟨S2x768, .f32⟩
  | .hbm, ⟨8, _⟩ => ⟨S384x2x768, .bf16⟩
  | .hbm, ⟨9, _⟩ => ⟨S768, .f32⟩
  | .hbm, ⟨10, _⟩ => ⟨S768x2x1536, .fp8e4m3⟩
  | .hbm, ⟨11, _⟩ => ⟨S2x1536, .f32⟩
  | .hbm, ⟨12, _⟩ => ⟨S1536x768, .fp8e4m3⟩
  | .hbm, ⟨13, _⟩ => ⟨S768, .f32⟩
  | .hbm, ⟨14, _⟩ => ⟨S1x384, .f32⟩
  | .hbm, ⟨15, _⟩ => ⟨S768x768, .fp8e4m3⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S5x1664x768, .bf16⟩
  | .hbm, ⟨20, _⟩ => ⟨S5x1664x768, .f32⟩
  | .hbm, ⟨21, _⟩ => ⟨S5x16x48x1664, .fp8e4m3⟩
  | .hbm, ⟨22, _⟩ => ⟨S5x1x1664, .f32⟩
  | .hbm, ⟨23, _⟩ => ⟨S5x1664x768, .fp8e4m3⟩
  | .hbm, ⟨24, _⟩ => ⟨S5x1x1664, .f32⟩
  | .hbm, ⟨25, _⟩ => ⟨S5x1664x1536, .fp8e4m3⟩
  | .hbm, ⟨26, _⟩ => ⟨S5x1x1664, .f32⟩
  | .local _ .vmem, ⟨0, _⟩ => ⟨S5x16x48x1664, .f32⟩
  | .local _ .vmem, ⟨1, _⟩ => ⟨S5x1664x768, .bf16⟩
  | .local _ .vmem, ⟨2, _⟩ => ⟨S5x1664x384, .bf16⟩
  | .local _ .vmem, ⟨3, _⟩ => ⟨S1x384, .f32⟩
  | .local _ .vmem, ⟨4, _⟩ => ⟨S768x768, .fp8e4m3⟩
  | .local _ .vmem, ⟨5, _⟩ => ⟨S1x768, .f32⟩
  | .local _ .vmem, ⟨6, _⟩ => ⟨S384x2x768, .bf16⟩
  | .local _ .vmem, ⟨7, _⟩ => ⟨S2x768, .f32⟩
  | .local _ .vmem, ⟨8, _⟩ => ⟨S384x2x768, .bf16⟩
  | .local _ .vmem, ⟨9, _⟩ => ⟨S1x768, .f32⟩
  | .local _ .vmem, ⟨10, _⟩ => ⟨S768x2x1536, .fp8e4m3⟩
  | .local _ .vmem, ⟨11, _⟩ => ⟨S2x1536, .f32⟩
  | .local _ .vmem, ⟨12, _⟩ => ⟨S1536x768, .fp8e4m3⟩
  | .local _ .vmem, ⟨13, _⟩ => ⟨S1x768, .f32⟩
  | .local _ .vmem, ⟨14, _⟩ => ⟨S5x1664x768, .bf16⟩
  | .local _ .vmem, ⟨15, _⟩ => ⟨S5x1664x768, .f32⟩
  | .local _ .vmem, ⟨16, _⟩ => ⟨S5x16x48x1664, .fp8e4m3⟩
  | .local _ .vmem, ⟨17, _⟩ => ⟨S5x1x1664, .f32⟩
  | .local _ .vmem, ⟨18, _⟩ => ⟨S5x1664x768, .fp8e4m3⟩
  | .local _ .vmem, ⟨19, _⟩ => ⟨S5x1x1664, .f32⟩
  | .local _ .vmem, ⟨20, _⟩ => ⟨S5x1664x1536, .fp8e4m3⟩
  | .local _ .vmem, ⟨21, _⟩ => ⟨S5x1x1664, .f32⟩
  | _, _ => ⟨S5x16x48x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v5_4 : Ref sig .tc := ⟨.hbm, 23, rfl⟩
abbrev main_v5_5 : Ref sig .tc := ⟨.hbm, 24, rfl⟩
abbrev main_v5_6 : Ref sig .tc := ⟨.hbm, 25, rfl⟩
abbrev main_v5_7 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S5x16x48x1664 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x1664x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x1664x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x2x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S384x2x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x2x1536 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x768 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5x1664x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S5x1664x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S5x16x48x1664 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S5x1x1664 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S5x1664x768 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S5x1x1664 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S5x1664x1536 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S5x1x1664 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== PreKernel.lean ====
abbrev S5x1664x768 : Shape := ⟨3, ![5, 1664, 768]⟩
abbrev S5x1664x384 : Shape := ⟨3, ![5, 1664, 384]⟩
abbrev S384 : Shape := ⟨1, ![384]⟩
abbrev S384x2x768 : Shape := ⟨3, ![384, 2, 768]⟩
abbrev S768 : Shape := ⟨1, ![768]⟩
abbrev S768x4x16x48 : Shape := ⟨4, ![768, 4, 16, 48]⟩
abbrev S4x16x48 : Shape := ⟨3, ![4, 16, 48]⟩
abbrev S16x48 : Shape := ⟨2, ![16, 48]⟩
abbrev S4x16x48x768 : Shape := ⟨4, ![4, 16, 48, 768]⟩
abbrev S3072x768 : Shape := ⟨2, ![3072, 768]⟩
abbrev S3072x1 : Shape := ⟨2, ![3072, 1]⟩
abbrev S3072x128 : Shape := ⟨2, ![3072, 128]⟩
abbrev S768x1 : Shape := ⟨2, ![768, 1]⟩
abbrev S768x128 : Shape := ⟨2, ![768, 128]⟩
abbrev S1x384 : Shape := ⟨2, ![1, 384]⟩
abbrev S384x1536 : Shape := ⟨2, ![384, 1536]⟩
abbrev S1x768 : Shape := ⟨2, ![1, 768]⟩
abbrev S5x1x1664 : Shape := ⟨3, ![5, 1, 1664]⟩
abbrev S5x16x48x1664 : Shape := ⟨4, ![5, 16, 48, 1664]⟩
abbrev S5x16x1664 : Shape := ⟨3, ![5, 16, 1664]⟩
abbrev S5x16x128 : Shape := ⟨3, ![5, 16, 128]⟩
abbrev S1x256x768 : Shape := ⟨3, ![1, 256, 768]⟩
abbrev S1x256x384 : Shape := ⟨3, ![1, 256, 384]⟩
abbrev S1x1x256 : Shape := ⟨3, ![1, 1, 256]⟩
abbrev S1x16x48x256 : Shape := ⟨4, ![1, 16, 48, 256]⟩
abbrev S1x16x256 : Shape := ⟨3, ![1, 16, 256]⟩
abbrev S1x16x48x1664 : Shape := ⟨4, ![1, 16, 48, 1664]⟩
abbrev S1x16x128 : Shape := ⟨3, ![1, 16, 128]⟩
abbrev S7x16x48x256 : Shape := ⟨4, ![7, 16, 48, 256]⟩
abbrev S16x128 : Shape := ⟨2, ![16, 128]⟩
abbrev S256x384 : Shape := ⟨2, ![256, 384]⟩
abbrev S256 : Shape := ⟨1, ![256]⟩
abbrev S256x1 : Shape := ⟨2, ![256, 1]⟩
abbrev S256x768 : Shape := ⟨2, ![256, 768]⟩
abbrev S256x1536 : Shape := ⟨2, ![256, 1536]⟩
abbrev S256x128 : Shape := ⟨2, ![256, 128]⟩
abbrev S128x256 : Shape := ⟨2, ![128, 256]⟩
abbrev S1x256 : Shape := ⟨2, ![1, 256]⟩
abbrev S768x256 : Shape := ⟨2, ![768, 256]⟩
abbrev S16x48x256 : Shape := ⟨3, ![16, 48, 256]⟩
abbrev S768x768 : Shape := ⟨2, ![768, 768]⟩
abbrev S16x256 : Shape := ⟨2, ![16, 256]⟩
abbrev S16x1x256 : Shape := ⟨3, ![16, 1, 256]⟩
abbrev S16 : Shape := ⟨1, ![16]⟩
abbrev S16x1 : Shape := ⟨2, ![16, 1]⟩
abbrev S16x1x128 : Shape := ⟨3, ![16, 1, 128]⟩
abbrev S16x48x128 : Shape := ⟨3, ![16, 48, 128]⟩
abbrev S1x16x48x128 : Shape := ⟨4, ![1, 16, 48, 128]⟩

abbrev nBuf : Space → Nat
  | .hbm => 26
  | .vmem => 30
  | .smem => 0
  | _ => 0

abbrev bufTy : (tb : Table) → Fin (tcTables nBuf tb) → BufTy
  | .hbm, ⟨0, _⟩ => ⟨S5x1664x768, .bf16⟩
  | .hbm, ⟨1, _⟩ => ⟨S5x1664x384, .bf16⟩
  | .hbm, ⟨2, _⟩ => ⟨S384, .f32⟩
  | .hbm, ⟨3, _⟩ => ⟨S384x2x768, .bf16⟩
  | .hbm, ⟨4, _⟩ => ⟨S768, .f32⟩
  | .hbm, ⟨5, _⟩ => ⟨S768x4x16x48, .fp8e4m3⟩
  | .hbm, ⟨6, _⟩ => ⟨S4x16x48, .f32⟩
  | .hbm, ⟨7, _⟩ => ⟨S16x48, .f32⟩
  | .hbm, ⟨8, _⟩ => ⟨S4x16x48x768, .fp8e4m3⟩
  | .hbm, ⟨9, _⟩ => ⟨S3072x768, .fp8e4m3⟩
  | .hbm, ⟨10, _⟩ => ⟨S3072x1, .f32⟩
  | .hbm, ⟨11, _⟩ => ⟨S3072x128, .f32⟩
  | .hbm, ⟨12, _⟩ => ⟨S768x1, .f32⟩
  | .hbm, ⟨13, _⟩ => ⟨S768x128, .f32⟩
  | .hbm, ⟨14, _⟩ => ⟨S1x384, .f32⟩
  | .hbm, ⟨15, _⟩ => ⟨S384x1536, .bf16⟩
  | .hbm, ⟨16, _⟩ => ⟨S1x768, .f32⟩
  | .hbm, ⟨17, _⟩ => ⟨S5x1664x768, .fp8e4m3⟩
  | .hbm, ⟨18, _⟩ => ⟨S5x1x1664, .f32⟩
  | .hbm, ⟨19, _⟩ => ⟨S5x16x48x1664, .fp8e4m3⟩
  | .hbm, ⟨20, _⟩ => ⟨S5x16x1664, .f32⟩
  | .hbm, ⟨21, _⟩ => ⟨S5x16x48x1664, .fp8e4m3⟩
  | .hbm, ⟨22, _⟩ => ⟨S5x16x1664, .f32⟩
  | .hbm, ⟨23, _⟩ => ⟨S5x16x48x1664, .fp8e4m3⟩
  | .hbm, ⟨24, _⟩ => ⟨S5x16x128, .f32⟩
  | .hbm, ⟨25, _⟩ => ⟨S5x16x48x1664, .f32⟩
  | .local _ .vmem, ⟨0, _⟩ => ⟨S1x256x768, .bf16⟩
  | .local _ .vmem, ⟨1, _⟩ => ⟨S1x256x768, .bf16⟩
  | .local _ .vmem, ⟨2, _⟩ => ⟨S1x256x384, .bf16⟩
  | .local _ .vmem, ⟨3, _⟩ => ⟨S1x256x384, .bf16⟩
  | .local _ .vmem, ⟨4, _⟩ => ⟨S1x384, .f32⟩
  | .local _ .vmem, ⟨5, _⟩ => ⟨S384x1536, .bf16⟩
  | .local _ .vmem, ⟨6, _⟩ => ⟨S1x768, .f32⟩
  | .local _ .vmem, ⟨7, _⟩ => ⟨S3072x768, .fp8e4m3⟩
  | .local _ .vmem, ⟨8, _⟩ => ⟨S3072x128, .f32⟩
  | .local _ .vmem, ⟨9, _⟩ => ⟨S768x128, .f32⟩
  | .local _ .vmem, ⟨10, _⟩ => ⟨S1x256x768, .fp8e4m3⟩
  | .local _ .vmem, ⟨11, _⟩ => ⟨S1x256x768, .fp8e4m3⟩
  | .local _ .vmem, ⟨12, _⟩ => ⟨S1x1x256, .f32⟩
  | .local _ .vmem, ⟨13, _⟩ => ⟨S1x1x256, .f32⟩
  | .local _ .vmem, ⟨14, _⟩ => ⟨S1x16x48x256, .fp8e4m3⟩
  | .local _ .vmem, ⟨15, _⟩ => ⟨S1x16x48x256, .fp8e4m3⟩
  | .local _ .vmem, ⟨16, _⟩ => ⟨S1x16x256, .f32⟩
  | .local _ .vmem, ⟨17, _⟩ => ⟨S1x16x256, .f32⟩
  | .local _ .vmem, ⟨18, _⟩ => ⟨S1x16x48x256, .fp8e4m3⟩
  | .local _ .vmem, ⟨19, _⟩ => ⟨S1x16x48x256, .fp8e4m3⟩
  | .local _ .vmem, ⟨20, _⟩ => ⟨S1x16x256, .f32⟩
  | .local _ .vmem, ⟨21, _⟩ => ⟨S1x16x256, .f32⟩
  | .local _ .vmem, ⟨22, _⟩ => ⟨S1x16x48x1664, .fp8e4m3⟩
  | .local _ .vmem, ⟨23, _⟩ => ⟨S1x16x48x1664, .fp8e4m3⟩
  | .local _ .vmem, ⟨24, _⟩ => ⟨S1x16x128, .f32⟩
  | .local _ .vmem, ⟨25, _⟩ => ⟨S1x16x128, .f32⟩
  | .local _ .vmem, ⟨26, _⟩ => ⟨S1x16x48x256, .f32⟩
  | .local _ .vmem, ⟨27, _⟩ => ⟨S1x16x48x256, .f32⟩
  | .local _ .vmem, ⟨28, _⟩ => ⟨S7x16x48x256, .f32⟩
  | .local _ .vmem, ⟨29, _⟩ => ⟨S16x128, .f32⟩
  | _, _ => ⟨S5x1664x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v9_7 : Ref sig .tc := ⟨.hbm, 24, rfl⟩
abbrev main_v9_8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![5, 7], ![false, false]⟩

def k0_off1 (i : grid0.Coords) : Fin 4 → Nat :=
  let arg1 : BitVec 32 := BitVec.ofNat 32 (i 1).val
  let v197 : Index := Scalar.indexCast arg1
  let c0_84 : Index := 0#32
  let c0_85 : Index := 0#32
  let c0_86 : Index := 0#32
  ![v197.toNat, 0, 0, 0]
def k0_cond1 (i : grid0.Coords) : BitVec 1 :=
  let arg1 : BitVec 32 := BitVec.ofNat 32 (i 1).val
  let c6_i32 : BitVec 32 := 6#32
  let v217 : BitVec 1 := Scalar.cmpi .eq arg1 c6_i32
  let v218 : BitVec 32 := Scalar.extui v217
  let c0_i32_95 : BitVec 32 := 0#32
  let v219 : BitVec 1 := Scalar.cmpi .ne v218 c0_i32_95
  v219

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3072x768 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3072x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x768 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x48x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x48x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x48x1664 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x16x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x16x48x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== PreReferenceIdeal.lean ====
abbrev S5x1664x768 : Shape := ⟨3, ![5, 1664, 768]⟩
abbrev S5x1664x384 : Shape := ⟨3, ![5, 1664, 384]⟩
abbrev S384 : Shape := ⟨1, ![384]⟩
abbrev S384x2x768 : Shape := ⟨3, ![384, 2, 768]⟩
abbrev S768 : Shape := ⟨1, ![768]⟩
abbrev S768x4x16x48 : Shape := ⟨4, ![768, 4, 16, 48]⟩
abbrev S4x16x48 : Shape := ⟨3, ![4, 16, 48]⟩
abbrev S16x48 : Shape := ⟨2, ![16, 48]⟩
abbrev S1x384 : Shape := ⟨2, ![1, 384]⟩
abbrev S1x768 : Shape := ⟨2, ![1, 768]⟩
abbrev S768x4x768 : Shape := ⟨3, ![768, 4, 768]⟩
abbrev S4x768 : Shape := ⟨2, ![4, 768]⟩
abbrev S5x1x1664 : Shape := ⟨3, ![5, 1, 1664]⟩
abbrev S5x16x48x1664 : Shape := ⟨4, ![5, 16, 48, 1664]⟩
abbrev S5x16x1664 : Shape := ⟨3, ![5, 16, 1664]⟩
abbrev S8320x768 : Shape := ⟨2, ![8320, 768]⟩
abbrev S8320x384 : Shape := ⟨2, ![8320, 384]⟩
abbrev S8320 : Shape := ⟨1, ![8320]⟩
abbrev S8320x1 : Shape := ⟨2, ![8320, 1]⟩
abbrev S384x1x768 : Shape := ⟨3, ![384, 1, 768]⟩
abbrev S384x768 : Shape := ⟨2, ![384, 768]⟩
abbrev S768x1x768 : Shape := ⟨3, ![768, 1, 768]⟩
abbrev S768x768 : Shape := ⟨2, ![768, 768]⟩
abbrev S5x768x1664 : Shape := ⟨3, ![5, 768, 1664]⟩
abbrev S5x16x1x1664 : Shape := ⟨4, ![5, 16, 1, 1664]⟩

abbrev nBuf : Space → Nat
  | .hbm => 20
  | .vmem => 15
  | .smem => 0
  | _ => 0

abbrev bufTy : (tb : Table) → Fin (tcTables nBuf tb) → BufTy
  | .hbm, ⟨0, _⟩ => ⟨S5x1664x768, .bf16⟩
  | .hbm, ⟨1, _⟩ => ⟨S5x1664x384, .bf16⟩
  | .hbm, ⟨2, _⟩ => ⟨S384, .f32⟩
  | .hbm, ⟨3, _⟩ => ⟨S384x2x768, .bf16⟩
  | .hbm, ⟨4, _⟩ => ⟨S768, .f32⟩
  | .hbm, ⟨5, _⟩ => ⟨S768x4x16x48, .fp8e4m3⟩
  | .hbm, ⟨6, _⟩ => ⟨S4x16x48, .f32⟩
  | .hbm, ⟨7, _⟩ => ⟨S16x48, .f32⟩
  | .hbm, ⟨8, _⟩ => ⟨S1x384, .f32⟩
  | .hbm, ⟨9, _⟩ => ⟨S1x768, .f32⟩
  | .hbm, ⟨10, _⟩ => ⟨S768x4x768, .fp8e4m3⟩
  | .hbm, ⟨11, _⟩ => ⟨S4x768, .f32⟩
  | .hbm, ⟨12, _⟩ => ⟨S1x768, .f32⟩
  | .hbm, ⟨13, _⟩ => ⟨S5x1664x768, .fp8e4m3⟩
  | .hbm, ⟨14, _⟩ => ⟨S5x1x1664, .f32⟩
  | .hbm, ⟨15, _⟩ => ⟨S5x16x48x1664, .fp8e4m3⟩
  | .hbm, ⟨16, _⟩ => ⟨S5x16x1664, .f32⟩
  | .hbm, ⟨17, _⟩ => ⟨S5x16x48x1664, .fp8e4m3⟩
  | .hbm, ⟨18, _⟩ => ⟨S5x16x1664, .f32⟩
  | .hbm, ⟨19, _⟩ => ⟨S5x16x48x1664, .f32⟩
  | .local _ .vmem, ⟨0, _⟩ => ⟨S5x1664x768, .bf16⟩
  | .local _ .vmem, ⟨1, _⟩ => ⟨S5x1664x384, .bf16⟩
  | .local _ .vmem, ⟨2, _⟩ => ⟨S1x384, .f32⟩
  | .local _ .vmem, ⟨3, _⟩ => ⟨S384x2x768, .bf16⟩
  | .local _ .vmem, ⟨4, _⟩ => ⟨S1x768, .f32⟩
  | .local _ .vmem, ⟨5, _⟩ => ⟨S768x4x768, .fp8e4m3⟩
  | .local _ .vmem, ⟨6, _⟩ => ⟨S4x768, .f32⟩
  | .local _ .vmem, ⟨7, _⟩ => ⟨S1x768, .f32⟩
  | .local _ .vmem, ⟨8, _⟩ => ⟨S5x1664x768, .fp8e4m3⟩
  | .local _ .vmem, ⟨9, _⟩ => ⟨S5x1x1664, .f32⟩
  | .local _ .vmem, ⟨10, _⟩ => ⟨S5x16x48x1664, .fp8e4m3⟩
  | .local _ .vmem, ⟨11, _⟩ => ⟨S5x16x1664, .f32⟩
  | .local _ .vmem, ⟨12, _⟩ => ⟨S5x16x48x1664, .fp8e4m3⟩
  | .local _ .vmem, ⟨13, _⟩ => ⟨S5x16x1664, .f32⟩
  | .local _ .vmem, ⟨14, _⟩ => ⟨S5x16x48x1664, .f32⟩
  | _, _ => ⟨S5x1664x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S5x1664x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x1664x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x2x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x4x768 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x1664x768 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x1x1664 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5x16x48x1664 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x16x1664 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x16x48x1664 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5x16x1664 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5x16x48x1664 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Post.KernelBody.lean ====
/-
  The kernel body's triple, at any float values: run on whole buffers it ends, the input buffers as they were.
-/
module

public import proofs.«01_k».proof.Proof.Gen.Kernel.Skeleton
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

set_option maxHeartbeats 1000000 in
/-- The kernel body on whole staging buffers runs to its end, the inputs' buffers as they were. -/
theorem sound_kernel (c : Dev nD) (E : Set ℕ) (i : grid0.Coords) (arg2 : Memref sig .tc .vmem S1x16x48x256 .f32) (harg2 : arg2.IsWhole) (arg3 : Memref sig .tc .vmem S1x256x768 .bf16) (harg3 : arg3.IsWhole) (arg4 : Memref sig .tc .vmem S1x256x384 .bf16) (harg4 : arg4.IsWhole) (arg5 : Memref sig .tc .vmem S1x384 .f32) (harg5 : arg5.IsWhole) (arg6 : Memref sig .tc .vmem S768x768 .fp8e4m3) (harg6 : arg6.IsWhole) (arg7 : Memref sig .tc .vmem S1x768 .f32) (harg7 : arg7.IsWhole) (arg8 : Memref sig .tc .vmem S384x1536 .bf16) (harg8 : arg8.IsWhole) (arg9 : Memref sig .tc .vmem S2x768 .f32) (harg9 : arg9.IsWhole) (arg10 : Memref sig .tc .vmem S384x1536 .bf16) (harg10 : arg10.IsWhole) (arg11 : Memref sig .tc .vmem S1x768 .f32) (harg11 : arg11.IsWhole) (arg12 : Memref sig .tc .vmem S2x768x1536 .fp8e4m3) (harg12 : arg12.IsWhole) (arg13 : Memref sig .tc .vmem S2x1536 .f32) (harg13 : arg13.IsWhole) (arg14 : Memref sig .tc .vmem S1536x768 .fp8e4m3) (harg14 : arg14.IsWhole) (arg15 : Memref sig .tc .vmem S1x768 .f32) (harg15 : arg15.IsWhole) (arg16 : Memref sig .tc .vmem S1x256x768 .bf16) (harg16 : arg16.IsWhole) (arg17 : Memref sig .tc .vmem S1x256x768 .f32) (harg17 : arg17.IsWhole) (arg18 : Memref sig .tc .vmem S1x16x48x256 .fp8e4m3) (harg18 : arg18.IsWhole) (arg19 : Memref sig .tc .vmem S1x1x256 .f32) (harg19 : arg19.IsWhole) (arg20 : Memref sig .tc .vmem S1x256x768 .fp8e4m3) (harg20 : arg20.IsWhole) (arg21 : Memref sig .tc .vmem S1x1x256 .f32) (harg21 : arg21.IsWhole) (arg22 : Memref sig .tc .vmem S1x256x1536 .fp8e4m3) (harg22 : arg22.IsWhole) (arg23 : Memref sig .tc .vmem S1x1x256 .f32) (harg23 : arg23.IsWhole)
    (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_out_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_out_ffn_eq_skeleton]; unfold cc0_out_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  iexists _; iexists _; isplitr
  swap; · iexact H21
  ipureintro; rfl

end Cert.Kernel.Hand

end
-- ==== Proof.Post.KernelFrame.lean ====
/-
  The frame of the kernel on any float values: every run ends, the argument arrays unchanged. The last block of tokens overhangs
  the arrays, so the buffers' rows past the array's end hold words nothing names; what the body computes is forgotten here.
-/
module

public import proofs.«01_k».proof.Proof.Gen.Kernel.Skeleton
public import proofs.«01_k».proof.Proof.Post.KernelBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- An input block whose transfer is cut at the array's end, filled out with the zero word past it. -/
def fblk0 (c : Dev nD) (t : Fin cfg0.N) : Vec F S1x16x48x256 .f32 :=
  win0_0.fill (grid0.coords t) (fun _ => Scalar.ofBits .f32 0#32) (iblk m c 0 t)
def fblk1 (c : Dev nD) (t : Fin cfg0.N) : Vec F S1x256x768 .bf16 :=
  win0_1.fill (grid0.coords t) (fun _ => Scalar.ofBits .bf16 0#16) (iblk m c 1 t)
def fblk2 (c : Dev nD) (t : Fin cfg0.N) : Vec F S1x256x384 .bf16 :=
  win0_2.fill (grid0.coords t) (fun _ => Scalar.ofBits .bf16 0#16) (iblk m c 2 t)

/-- The proof data: after the body each input buffer holds its block, each output buffer `o14 … o21`. -/
def dats (o14 : Dev nD → Fin cfg0.N → Vec F S1x256x768 .bf16) (o15 : Dev nD → Fin cfg0.N → Vec F S1x256x768 .f32) (o16 : Dev nD → Fin cfg0.N → Vec F S1x16x48x256 .fp8e4m3) (o17 : Dev nD → Fin cfg0.N → Vec F S1x1x256 .f32) (o18 : Dev nD → Fin cfg0.N → Vec F S1x256x768 .fp8e4m3) (o19 : Dev nD → Fin cfg0.N → Vec F S1x1x256 .f32) (o20 : Dev nD → Fin cfg0.N → Vec F S1x256x1536 .fp8e4m3) (o21 : Dev nD → Fin cfg0.N → Vec F S1x1x256 .f32)
    (_ : Fin 1) (c : Dev nD) : Dat τ (Elt F) Unit ℕ (UR sig nD τ) ℕ cfg0 c where
  A w := V m c (Pipeline.arrRef spec0 w)
  after w t := match w with
    | ⟨0, _⟩ => fblk0 m c t
    | ⟨1, _⟩ => fblk1 m c t
    | ⟨2, _⟩ => fblk2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => o14 c t
    | ⟨15, _⟩ => o15 c t
    | ⟨16, _⟩ => o16 c t
    | ⟨17, _⟩ => o17 c t
    | ⟨18, _⟩ => o18 c t
    | ⟨19, _⟩ => o19 c t
    | ⟨20, _⟩ => o20 c t
    | ⟨21, _⟩ => o21 c t
    | ⟨_ + 22, h⟩ => absurd h (Nat.not_lt.2 (Nat.le_add_left _ _))
  Φ _ := Pipeline.ΦA spec0 c
  q _ := fullShare
  owed _ := 0

variable (o14 : Dev nD → Fin cfg0.N → Vec F S1x256x768 .bf16) (o15 : Dev nD → Fin cfg0.N → Vec F S1x256x768 .f32) (o16 : Dev nD → Fin cfg0.N → Vec F S1x16x48x256 .fp8e4m3) (o17 : Dev nD → Fin cfg0.N → Vec F S1x1x256 .f32) (o18 : Dev nD → Fin cfg0.N → Vec F S1x256x768 .fp8e4m3) (o19 : Dev nD → Fin cfg0.N → Vec F S1x1x256 .f32) (o20 : Dev nD → Fin cfg0.N → Vec F S1x256x1536 .fp8e4m3) (o21 : Dev nD → Fin cfg0.N → Vec F S1x1x256 .f32)

local notation "𝔇" => dats m o14 o15 o16 o17 o18 o19 o20 o21

theorem A_eq (c : Dev nD) (w : Fin cfg0.W) : (𝔇 0 c).A w = V m c (Pipeline.arrRef spec0 w) := by
  dsimp only [dats]

theorem after0_0 (c : Dev nD) (t : Fin cfg0.N) : (𝔇 0 c).after 0 t = fblk0 m c t := by dsimp only [dats]
theorem after0_1 (c : Dev nD) (t : Fin cfg0.N) : (𝔇 0 c).after 1 t = fblk1 m c t := by dsimp only [dats]
theorem after0_2 (c : Dev nD) (t : Fin cfg0.N) : (𝔇 0 c).after 2 t = fblk2 m c t := by dsimp only [dats]
theorem after0_3 (c : Dev nD) (t : Fin cfg0.N) : (𝔇 0 c).after 3 t = iblk m c 3 t := by dsimp only [dats]
theorem after0_4 (c : Dev nD) (t : Fin cfg0.N) : (𝔇 0 c).after 4 t = iblk m c 4 t := by dsimp only [dats]
theorem after0_5 (c : Dev nD) (t : Fin cfg0.N) : (𝔇 0 c).after 5 t = iblk m c 5 t := by dsimp only [dats]
theorem after0_6 (c : Dev nD) (t : Fin cfg0.N) : (𝔇 0 c).after 6 t = iblk m c 6 t := by dsimp only [dats]
theorem after0_7 (c : Dev nD) (t : Fin cfg0.N) : (𝔇 0 c).after 7 t = iblk m c 7 t := by dsimp only [dats]
theorem after0_8 (c : Dev nD) (t : Fin cfg0.N) : (𝔇 0 c).after 8 t = iblk m c 8 t := by dsimp only [dats]
theorem after0_9 (c : Dev nD) (t : Fin cfg0.N) : (𝔇 0 c).after 9 t = iblk m c 9 t := by dsimp only [dats]
theorem after0_10 (c : Dev nD) (t : Fin cfg0.N) : (𝔇 0 c).after 10 t = iblk m c 10 t := by dsimp only [dats]
theorem after0_11 (c : Dev nD) (t : Fin cfg0.N) : (𝔇 0 c).after 11 t = iblk m c 11 t := by dsimp only [dats]
theorem after0_12 (c : Dev nD) (t : Fin cfg0.N) : (𝔇 0 c).after 12 t = iblk m c 12 t := by dsimp only [dats]
theorem after0_13 (c : Dev nD) (t : Fin cfg0.N) : (𝔇 0 c).after 13 t = iblk m c 13 t := by dsimp only [dats]
theorem after0_14 (c : Dev nD) (t : Fin cfg0.N) : (𝔇 0 c).after 14 t = o14 c t := by dsimp only [dats]
theorem after0_15 (c : Dev nD) (t : Fin cfg0.N) : (𝔇 0 c).after 15 t = o15 c t := by dsimp only [dats]
theorem after0_16 (c : Dev nD) (t : Fin cfg0.N) : (𝔇 0 c).after 16 t = o16 c t := by dsimp only [dats]
theorem after0_17 (c : Dev nD) (t : Fin cfg0.N) : (𝔇 0 c).after 17 t = o17 c t := by dsimp only [dats]
theorem after0_18 (c : Dev nD) (t : Fin cfg0.N) : (𝔇 0 c).after 18 t = o18 c t := by dsimp only [dats]
theorem after0_19 (c : Dev nD) (t : Fin cfg0.N) : (𝔇 0 c).after 19 t = o19 c t := by dsimp only [dats]
theorem after0_20 (c : Dev nD) (t : Fin cfg0.N) : (𝔇 0 c).after 20 t = o20 c t := by dsimp only [dats]
theorem after0_21 (c : Dev nD) (t : Fin cfg0.N) : (𝔇 0 c).after 21 t = o21 c t := by dsimp only [dats]

/-- What the body finds in each input buffer: a cut block on the part inside the array, anything past it; -/
theorem before0_0 (c : Dev nD) (t : Fin cfg0.N) (d) :
    (𝔇 0 c).before 0 t d = win0_0.fill (grid0.coords t) d (iblk m c 0 t) := by
  rw [Dat.before_fetched _ _ _ (fetch0_0 t)]; unfold Dat.fetched Dat.blockOf iblk; rw [A_eq]
theorem before0_1 (c : Dev nD) (t : Fin cfg0.N) (d) :
    (𝔇 0 c).before 1 t d = win0_1.fill (grid0.coords t) d (iblk m c 1 t) := by
  rw [Dat.before_fetched _ _ _ (fetch0_1 t)]; unfold Dat.fetched Dat.blockOf iblk; rw [A_eq]
theorem before0_2 (c : Dev nD) (t : Fin cfg0.N) (d) :
    (𝔇 0 c).before 2 t d = win0_2.fill (grid0.coords t) d (iblk m c 2 t) := by
  rw [Dat.before_fetched _ _ _ (fetch0_2 t)]; unfold Dat.fetched Dat.blockOf iblk; rw [A_eq]
/-- a whole block otherwise. -/
theorem before0_3 (c : Dev nD) (t : Fin cfg0.N) (d) : (𝔇 0 c).before 3 t d = iblk m c 3 t :=
  before0_3_of m (𝔇 0 c) (A_eq m o14 o15 o16 o17 o18 o19 o20 o21 c 3) (after0_3 m o14 o15 o16 o17 o18 o19 o20 o21 c) t d
theorem before0_4 (c : Dev nD) (t : Fin cfg0.N) (d) : (𝔇 0 c).before 4 t d = iblk m c 4 t :=
  before0_4_of m (𝔇 0 c) (A_eq m o14 o15 o16 o17 o18 o19 o20 o21 c 4) (after0_4 m o14 o15 o16 o17 o18 o19 o20 o21 c) t d
theorem before0_5 (c : Dev nD) (t : Fin cfg0.N) (d) : (𝔇 0 c).before 5 t d = iblk m c 5 t :=
  before0_5_of m (𝔇 0 c) (A_eq m o14 o15 o16 o17 o18 o19 o20 o21 c 5) (after0_5 m o14 o15 o16 o17 o18 o19 o20 o21 c) t d
theorem before0_6 (c : Dev nD) (t : Fin cfg0.N) (d) : (𝔇 0 c).before 6 t d = iblk m c 6 t :=
  before0_6_of m (𝔇 0 c) (A_eq m o14 o15 o16 o17 o18 o19 o20 o21 c 6) (after0_6 m o14 o15 o16 o17 o18 o19 o20 o21 c) t d
theorem before0_7 (c : Dev nD) (t : Fin cfg0.N) (d) : (𝔇 0 c).before 7 t d = iblk m c 7 t :=
  before0_7_of m (𝔇 0 c) (A_eq m o14 o15 o16 o17 o18 o19 o20 o21 c 7) (after0_7 m o14 o15 o16 o17 o18 o19 o20 o21 c) t d
theorem before0_8 (c : Dev nD) (t : Fin cfg0.N) (d) : (𝔇 0 c).before 8 t d = iblk m c 8 t :=
  before0_8_of m (𝔇 0 c) (A_eq m o14 o15 o16 o17 o18 o19 o20 o21 c 8) (after0_8 m o14 o15 o16 o17 o18 o19 o20 o21 c) t d
theorem before0_9 (c : Dev nD) (t : Fin cfg0.N) (d) : (𝔇 0 c).before 9 t d = iblk m c 9 t :=
  before0_9_of m (𝔇 0 c) (A_eq m o14 o15 o16 o17 o18 o19 o20 o21 c 9) (after0_9 m o14 o15 o16 o17 o18 o19 o20 o21 c) t d
theorem before0_10 (c : Dev nD) (t : Fin cfg0.N) (d) : (𝔇 0 c).before 10 t d = iblk m c 10 t :=
  before0_10_of m (𝔇 0 c) (A_eq m o14 o15 o16 o17 o18 o19 o20 o21 c 10) (after0_10 m o14 o15 o16 o17 o18 o19 o20 o21 c) t d
theorem before0_11 (c : Dev nD) (t : Fin cfg0.N) (d) : (𝔇 0 c).before 11 t d = iblk m c 11 t :=
  before0_11_of m (𝔇 0 c) (A_eq m o14 o15 o16 o17 o18 o19 o20 o21 c 11) (after0_11 m o14 o15 o16 o17 o18 o19 o20 o21 c) t d
theorem before0_12 (c : Dev nD) (t : Fin cfg0.N) (d) : (𝔇 0 c).before 12 t d = iblk m c 12 t :=
  before0_12_of m (𝔇 0 c) (A_eq m o14 o15 o16 o17 o18 o19 o20 o21 c 12) (after0_12 m o14 o15 o16 o17 o18 o19 o20 o21 c) t d
theorem before0_13 (c : Dev nD) (t : Fin cfg0.N) (d) : (𝔇 0 c).before 13 t d = iblk m c 13 t :=
  before0_13_of m (𝔇 0 c) (A_eq m o14 o15 o16 o17 o18 o19 o20 o21 c 13) (after0_13 m o14 o15 o16 o17 o18 o19 o20 o21 c) t d

/-! ## The body obligation -/

/-- What the body is called with at point `t`, -/
def bodyPre (c : Dev nD) (t : Fin cfg0.N) : sProp 𝕄 :=
  iprop((𝔇 0 c).Φ t.castSucc ∗ (𝔇 0 c).owesAt () t.castSucc
    ∗ (∃ d, owns (c : Thread nD τ) (st0_0 t) fullShare ((𝔇 0 c).before 0 t d))
    ∗ (∃ d, owns (c : Thread nD τ) (st0_1 t) fullShare ((𝔇 0 c).before 1 t d))
    ∗ (∃ d, owns (c : Thread nD τ) (st0_2 t) fullShare ((𝔇 0 c).before 2 t d))
    ∗ (∃ d, owns (c : Thread nD τ) (st0_3 t) fullShare ((𝔇 0 c).before 3 t d))
    ∗ (∃ d, owns (c : Thread nD τ) (st0_4 t) fullShare ((𝔇 0 c).before 4 t d))
    ∗ (∃ d, owns (c : Thread nD τ) (st0_5 t) fullShare ((𝔇 0 c).before 5 t d))
    ∗ (∃ d, owns (c : Thread nD τ) (st0_6 t) fullShare ((𝔇 0 c).before 6 t d))
    ∗ (∃ d, owns (c : Thread nD τ) (st0_7 t) fullShare ((𝔇 0 c).before 7 t d))
    ∗ (∃ d, owns (c : Thread nD τ) (st0_8 t) fullShare ((𝔇 0 c).before 8 t d))
    ∗ (∃ d, owns (c : Thread nD τ) (st0_9 t) fullShare ((𝔇 0 c).before 9 t d))
    ∗ (∃ d, owns (c : Thread nD τ) (st0_10 t) fullShare ((𝔇 0 c).before 10 t d))
    ∗ (∃ d, owns (c : Thread nD τ) (st0_11 t) fullShare ((𝔇 0 c).before 11 t d))
    ∗ (∃ d, owns (c : Thread nD τ) (st0_12 t) fullShare ((𝔇 0 c).before 12 t d))
    ∗ (∃ d, owns (c : Thread nD τ) (st0_13 t) fullShare ((𝔇 0 c).before 13 t d))
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X)
    ∗ (∃ X, owns (c : Thread nD τ) (st0_18 t) fullShare X)
    ∗ (∃ X, owns (c : Thread nD τ) (st0_19 t) fullShare X)
    ∗ (∃ X, owns (c : Thread nD τ) (st0_20 t) fullShare X)
    ∗ (∃ X, owns (c : Thread nD τ) (st0_21 t) fullShare X))

/-- and what it returns. -/
def bodyPost (c : Dev nD) (t : Fin cfg0.N) : sProp 𝕄 :=
  iprop((𝔇 0 c).Φ t.succ ∗ (𝔇 0 c).owesAt () t.succ
    ∗ (∃ d, owns (c : Thread nD τ) (st0_0 t) fullShare (win0_0.fill (grid0.coords t) d (win0_0.cut (grid0.coords t) ((𝔇 0 c).after 0 t))))
    ∗ (∃ d, owns (c : Thread nD τ) (st0_1 t) fullShare (win0_1.fill (grid0.coords t) d (win0_1.cut (grid0.coords t) ((𝔇 0 c).after 1 t))))
    ∗ (∃ d, owns (c : Thread nD τ) (st0_2 t) fullShare (win0_2.fill (grid0.coords t) d (win0_2.cut (grid0.coords t) ((𝔇 0 c).after 2 t))))
    ∗ owns (c : Thread nD τ) (st0_3 t) fullShare ((𝔇 0 c).after 3 t)
    ∗ owns (c : Thread nD τ) (st0_4 t) fullShare ((𝔇 0 c).after 4 t)
    ∗ owns (c : Thread nD τ) (st0_5 t) fullShare ((𝔇 0 c).after 5 t)
    ∗ owns (c : Thread nD τ) (st0_6 t) fullShare ((𝔇 0 c).after 6 t)
    ∗ owns (c : Thread nD τ) (st0_7 t) fullShare ((𝔇 0 c).after 7 t)
    ∗ owns (c : Thread nD τ) (st0_8 t) fullShare ((𝔇 0 c).after 8 t)
    ∗ owns (c : Thread nD τ) (st0_9 t) fullShare ((𝔇 0 c).after 9 t)
    ∗ owns (c : Thread nD τ) (st0_10 t) fullShare ((𝔇 0 c).after 10 t)
    ∗ owns (c : Thread nD τ) (st0_11 t) fullShare ((𝔇 0 c).after 11 t)
    ∗ owns (c : Thread nD τ) (st0_12 t) fullShare ((𝔇 0 c).after 12 t)
    ∗ owns (c : Thread nD τ) (st0_13 t) fullShare ((𝔇 0 c).after 13 t)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X)
    ∗ (∃ X, owns (c : Thread nD τ) (st0_18 t) fullShare X)
    ∗ (∃ X, owns (c : Thread nD τ) (st0_19 t) fullShare X)
    ∗ (∃ X, owns (c : Thread nD τ) (st0_20 t) fullShare X)
    ∗ (∃ X, owns (c : Thread nD τ) (st0_21 t) fullShare X))

set_option maxHeartbeats 1600000 in
theorem sound_body (c : Dev nD) (t : Fin cfg0.N) :
    bodyPre m o14 o15 o16 o17 o18 o19 o20 o21 c t ⊢ wp frame (wpE (defs₀ (F := F)) Variants.none c none) Set.univ (bodyAt0 t) (fun _ => bodyPost m o14 o15 o16 o17 o18 o19 o20 o21 c t) := by
  unfold bodyPre bodyPost bodyAt0
  simp only [before0_0, before0_1, before0_2, before0_3, before0_4, before0_5, before0_6, before0_7, before0_8, before0_9, before0_10, before0_11, before0_12, before0_13]
  rw [show (𝔇 0 c).Φ t.succ = (𝔇 0 c).Φ t.castSucc from rfl,
    show (𝔇 0 c).owesAt () t.succ = (𝔇 0 c).owesAt () t.castSucc from rfl,
    after0_0, after0_1, after0_2, after0_3, after0_4, after0_5, after0_6, after0_7, after0_8, after0_9, after0_10, after0_11, after0_12, after0_13]
  have h0 : win0_0.cut (grid0.coords t) (fblk0 m c t) = iblk m c 0 t := win0_0.cut_fill _ _ _
  have h1 : win0_1.cut (grid0.coords t) (fblk1 m c t) = iblk m c 1 t := win0_1.cut_fill _ _ _
  have h2 : win0_2.cut (grid0.coords t) (fblk2 m c t) = iblk m c 2 t := win0_2.cut_fill _ _ _
  rw [h0, h1, h2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists e14; iexact H14
  isplitl [H15]; · iexists e15; iexact H15
  isplitl [H16]; · iexists e16; iexact H16
  isplitl [H17]; · iexists e17; iexact H17
  isplitl [H18]; · iexists e18; iexact H18
  isplitl [H19]; · iexists e19; iexact H19
  isplitl [H20]; · iexists e20; iexact H20
  iexists e21; iexact H21

theorem defs₀_row (t : Fin cfg0.N) :
    defs₀ (F := F) .tc cfg0.body (cfg0.bodyArgs t (cfg0.slots t)) = bodyAt0 t := by
  unfold defs₀; rw [Defs.onTc_tc]

/-- The result windows: what the body leaves there is not claimed. -/
abbrev fgt : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨_ + 22, h⟩ => absurd h (Nat.not_lt.2 (Nat.le_add_left _ _))

theorem body_obligation (c : Dev nD) : BodyObligationLoose (𝔇 0 c) (defs₀ (F := F)) Variants.none () Set.univ fgt := fun t => by
  rw [bigSep_W0, bigSep_W0, defs₀_row]
  exact triple_restated (sound_body m o14 o15 o16 o17 o18 o19 o20 o21 c t) rfl .rfl fun _ => .rfl

/-! ## The run -/

/-- No claim is made of what the results hold, so any blocks do: all zero. -/
abbrev dats0 := dats m (fun _ _ => fun _ => Scalar.ofBits .bf16 0#16) (fun _ _ => fun _ => Scalar.ofBits .f32 0#32) (fun _ _ => fun _ => Scalar.ofBits .fp8e4m3 0#8) (fun _ _ => fun _ => Scalar.ofBits .f32 0#32) (fun _ _ => fun _ => Scalar.ofBits .fp8e4m3 0#8) (fun _ _ => fun _ => Scalar.ofBits .f32 0#32) (fun _ _ => fun _ => Scalar.ofBits .fp8e4m3 0#8) (fun _ _ => fun _ => Scalar.ofBits .f32 0#32)

theorem A_eq0 (c : Dev nD) (w : Fin cfg0.W) : (dats0 m 0 c).A w = V m c (Pipeline.arrRef spec0 w) := A_eq m _ _ _ _ _ _ _ _ c w

set_option backward.isDefEq.respectTransparency.types false in
set_option maxHeartbeats 800000 in
theorem run_main_quiescent : θ_run defs (onTc (τ := τ) (main (F := F))) (s₀ m ρ)
    (fun r => (Pipeline.RDat.FramePost cfg0 (fun c => (dats0 m 0 c).toRForget fgt) (V m)) r ∧ r.2.sem = fun _ => 0) :=
  Pipeline.θ_run_frame_forget (Q' := _) cfgs (dats0 m) (0 : Fin 1) launch0 defs₀ Variants.none fgt m ρ main
    (hbody := fun c => body_obligation m _ _ _ _ _ _ _ _ c) (hshare := fun c => (dats0 m 0 c).share_full fun _ => rfl)
    (howed := fun _ _ => rfl) (V := V m) (hmain := hmain m Variants.none) (hA := A_eq m _ _ _ _ _ _ _ _) (hΦ := fun _ _ => rfl)

set_option maxHeartbeats 1320000 in
/-- THE FRAME: every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) :=
  (θ_run defs _ _).mono (fun _ h => ⟨fun c => ⟨(h.1.arr_in c 0 rfl).trans ((A_eq0 m c 0).trans (V_main_arg0 m c)),
      (h.1.arr_in c 1 rfl).trans ((A_eq0 m c 1).trans (V_main_arg1 m c)),
      (h.1.arr_in c 2 rfl).trans ((A_eq0 m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (h.1.arr_in c 7 rfl).trans ((A_eq0 m c 7).trans (V_main_arg7 m c)),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      (h.1.arr_in c 11 rfl).trans ((A_eq0 m c 11).trans (V_main_arg11 m c)),
      (h.1.arr_in c 12 rfl).trans ((A_eq0 m c 12).trans (V_main_arg12 m c)),
      ((h.1 c).2 main_arg13 (Pipeline.mem_restRefs_of main_arg13 (by decide) (by decide))).trans (V_main_arg13 m c)⟩, h.2⟩) (run_main_quiescent m ρ)

end Cert.Kernel.Hand

end
-- ==== Proof.Post.KernelIdealBody.lean ====
/-
  What the kernel body leaves in each output buffer, as a function of what the input buffers hold, and the body's
  triple: run on whole buffers holding `x0 … x13` it ends with the outputs holding `out0_14 … out0_21` of them.
-/
module

public import proofs.«01_k».proof.Proof.Gen.KernelIdeal.Skeleton
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

abbrev r0_0 : Rect S1x16x48x256 := Rect.unit (s := S1x16x48x256) ![0, 0, 0, 0] S1x16x48x256.size inb_S1x16x48x256_S1x16x48x256_0_0_0_0
abbrev r0_1 : Rect S1x1x256 := Rect.unit (s := S1x1x256) ![0, 0, 0] S1x1x256.size inb_S1x1x256_S1x1x256_0_0_0
abbrev r0_2 : Rect S768x768 := Rect.unit (s := S768x768) ![0, 0] S768x768.size inb_S768x768_S768x768_0_0
abbrev r0_3 : Rect S1x768 := Rect.unit (s := S1x768) ![0, 0] S1x768.size inb_S1x768_S1x768_0_0
abbrev r0_4 : Rect S1x256x384 := Rect.unit (s := S1x256x384) ![0, 0, 0] S1x256x384.size inb_S1x256x384_S1x256x384_0_0_0
abbrev r0_5 : Rect S384x1536 := Rect.unit (s := S384x1536) ![0, 0] S384x1536.size inb_S384x1536_S384x1536_0_0
abbrev r0_6 : Rect S1x256x768 := Rect.unit (s := S1x256x768) ![0, 0, 0] S1x256x768.size inb_S1x256x768_S1x256x768_0_0_0
abbrev r0_7 : Rect S2x768 := Rect.unit (s := S2x768) ![0, 0] S1x768.size inb_S2x768_S1x768_0_0
abbrev r0_8 : Rect S1x384 := Rect.unit (s := S1x384) ![0, 0] S1x384.size inb_S1x384_S1x384_0_0
abbrev r0_9 : Rect S2x768x1536 := Rect.unit (s := S2x768x1536) ![0, 0, 0] S1x768x1536.size inb_S2x768x1536_S1x768x1536_0_0_0
abbrev r0_10 : Rect S2x1536 := Rect.unit (s := S2x1536) ![0, 0] S1x1536.size inb_S2x1536_S1x1536_0_0
abbrev r0_11 : Rect S2x768x1536 := Rect.unit (s := S2x768x1536) ![1, 0, 0] S1x768x1536.size inb_S2x768x1536_S1x768x1536_1_0_0
abbrev r0_12 : Rect S2x1536 := Rect.unit (s := S2x1536) ![1, 0] S1x1536.size inb_S2x1536_S1x1536_1_0
abbrev r0_13 : Rect S1x256x1536 := Rect.unit (s := S1x256x1536) ![0, 0, 0] S1x256x1536.size inb_S1x256x1536_S1x256x1536_0_0_0
abbrev r0_14 : Rect S1536x768 := Rect.unit (s := S1536x768) ![0, 0] S1536x768.size inb_S1536x768_S1536x768_0_0
abbrev r0_15 : Rect S2x768 := Rect.unit (s := S2x768) ![1, 0] S1x768.size inb_S2x768_S1x768_1_0

/-! ## What the body leaves in each output window's buffer -/

/-! ### Values of the body that the stores' payloads, spelt out, would write more than once

    Each is a vector the body binds (often a part call's result), stated over the input windows' blocks and
    numbered on from the skeleton's payload functions (`k0_pay27` …, after `k0_pay26`), so that
    `out0_W` and the values after it name it instead of spelling it out (`unfold_out out0_W` opens a canon
    with them, `unfold_payloads` opens them with the payloads); the comment after each is the printed function's
    name for the value (a count appended where that name is bound again). -/

def k0_pay27 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : FVec F S1x256 .f32 :=
  k0_pay4 (View.ld x0 r0_0) -- `v11`
def k0_pay28 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : FVec F S768x256 .f32 :=
  k0_pay7 (View.ld x0 r0_0) -- `v32`
def k0_pay29 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : FVec F S768x256 .f32 :=
  k0_pay8 (F := F) -- `v33`
def k0_pay30 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : FVec F S256x768 .f32 :=
  k0_pay10 (k0_pay27 x0 x1 x2 x3 x4 x5 x6 x7 x8 x9 x10 x11 x12 x13) (k0_pay28 x0 x1 x2 x3 x4 x5 x6 x7 x8 x9 x10 x11 x12 x13) (Scalar.ofBits .f32 0x43E00000#32) (k0_pay29 x0 x1 x2 x3 x4 x5 x6 x7 x8 x9 x10 x11 x12 x13) (View.ld x4 r0_2) (View.ld x5 r0_3) (View.ld x2 r0_4) (View.ld x6 r0_5) (View.ld x1 r0_6) (View.ld x7 r0_7) -- `v65`
def k0_pay31 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : FVec F S1x768 .f32 :=
  k0_pay13 (View.ld x9 r0_3) -- `v93`
def k0_pay32 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : FVec F S256x1536 .f32 :=
  k0_pay14 (k0_pay12 (View.ld x2 r0_4)) (View.ld x3 r0_8) (View.ld x8 r0_5) -- `v97`
def k0_pay33 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : FVec F S256x768 .f32 :=
  k0_pay15 (k0_pay30 x0 x1 x2 x3 x4 x5 x6 x7 x8 x9 x10 x11 x12 x13) -- `v113`
def k0_pay34 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : FVec F S256x1 .f32 :=
  k0_pay17 (k0_pay31 x0 x1 x2 x3 x4 x5 x6 x7 x8 x9 x10 x11 x12 x13) (k0_pay32 x0 x1 x2 x3 x4 x5 x6 x7 x8 x9 x10 x11 x12 x13) (k0_pay33 x0 x1 x2 x3 x4 x5 x6 x7 x8 x9 x10 x11 x12 x13) -- `v129`
def k0_pay35 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : FVec F S256x768 .fp8e4m3 :=
  k0_pay18 (k0_pay31 x0 x1 x2 x3 x4 x5 x6 x7 x8 x9 x10 x11 x12 x13) (k0_pay32 x0 x1 x2 x3 x4 x5 x6 x7 x8 x9 x10 x11 x12 x13) (k0_pay33 x0 x1 x2 x3 x4 x5 x6 x7 x8 x9 x10 x11 x12 x13) -- `v138`
def k0_pay36 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : FVec F S256x1536 .f32 :=
  k0_pay21 (k0_pay31 x0 x1 x2 x3 x4 x5 x6 x7 x8 x9 x10 x11 x12 x13) (k0_pay32 x0 x1 x2 x3 x4 x5 x6 x7 x8 x9 x10 x11 x12 x13) (k0_pay33 x0 x1 x2 x3 x4 x5 x6 x7 x8 x9 x10 x11 x12 x13) (View.ld x10 r0_9) -- `v153`

/-- Window 14's staging buffer after the body, from the input windows' blocks: its 1 store as pieces, LAST
    FIRST (Lib/Pipeline/FrameBody.lean `View.canon`; the payloads are the skeleton's and the values stated above). -/
def out0_14 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : Vec F S1x256x768 .bf16 :=
  View.canon [⟨r0_6, k0_pay2 (k0_pay9 (View.ld x2 r0_4) (View.ld x6 r0_5)) (k0_pay30 x0 x1 x2 x3 x4 x5 x6 x7 x8 x9 x10 x11 x12 x13) (k0_pay23 (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (View.ld x11 r0_10) (View.ld x10 r0_11) (View.ld x11 r0_12)) (k0_pay24 (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (View.ld x11 r0_10) (View.ld x10 r0_11) (View.ld x11 r0_12)) (View.ld x12 r0_14) (View.ld x13 r0_3) (View.ld x7 r0_15)⟩]

/-- Its stores tile the buffer (checked by evaluation), so they cover it. -/
theorem cover0_14 (p0 : Vec F S1x256x768 .bf16) (y : S1x256x768.Idx) :
    ∃ pc ∈ ([⟨r0_6, p0⟩] : List (View.Piece (Elt F) S1x256x768 .bf16)), y ∈ pc.1.set :=
  View.cover_of_tiled [⟨r0_6, p0⟩] S1x256x768.size (by rfl) y

/-- Window 15's staging buffer after the body, from the input windows' blocks: its 1 store as pieces, LAST
    FIRST (Lib/Pipeline/FrameBody.lean `View.canon`; the payloads are the skeleton's and the values stated above). -/
def out0_15 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : Vec F S1x256x768 .f32 :=
  View.canon [⟨r0_6, k0_pay11 (k0_pay27 x0 x1 x2 x3 x4 x5 x6 x7 x8 x9 x10 x11 x12 x13) (k0_pay28 x0 x1 x2 x3 x4 x5 x6 x7 x8 x9 x10 x11 x12 x13) (Scalar.ofBits .f32 0x43E00000#32) (k0_pay29 x0 x1 x2 x3 x4 x5 x6 x7 x8 x9 x10 x11 x12 x13) (View.ld x4 r0_2) (View.ld x5 r0_3) (View.ld x2 r0_4) (View.ld x6 r0_5) (View.ld x1 r0_6) (View.ld x7 r0_7)⟩]

/-- Its stores tile the buffer (checked by evaluation), so they cover it. -/
theorem cover0_15 (p0 : Vec F S1x256x768 .f32) (y : S1x256x768.Idx) :
    ∃ pc ∈ ([⟨r0_6, p0⟩] : List (View.Piece (Elt F) S1x256x768 .f32)), y ∈ pc.1.set :=
  View.cover_of_tiled [⟨r0_6, p0⟩] S1x256x768.size (by rfl) y

/-- Window 16's staging buffer after the body, from the input windows' blocks: its 1 store as pieces, LAST
    FIRST (Lib/Pipeline/FrameBody.lean `View.canon`; the payloads are the skeleton's and the values stated above). -/
def out0_16 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : Vec F S1x16x48x256 .fp8e4m3 :=
  View.canon [⟨r0_0, k0_pay6 (View.ld x0 r0_0)⟩]

/-- Its stores tile the buffer (checked by evaluation), so they cover it. -/
theorem cover0_16 (p0 : Vec F S1x16x48x256 .fp8e4m3) (y : S1x16x48x256.Idx) :
    ∃ pc ∈ ([⟨r0_0, p0⟩] : List (View.Piece (Elt F) S1x16x48x256 .fp8e4m3)), y ∈ pc.1.set :=
  View.cover_of_tiled [⟨r0_0, p0⟩] S1x16x48x256.size (by rfl) y

/-- Window 17's staging buffer after the body, from the input windows' blocks: its 1 store as pieces, LAST
    FIRST (Lib/Pipeline/FrameBody.lean `View.canon`; the payloads are the skeleton's and the values stated above). -/
def out0_17 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : Vec F S1x1x256 .f32 :=
  View.canon [⟨r0_1, k0_pay5 (View.ld x0 r0_0)⟩]

/-- Its stores tile the buffer (checked by evaluation), so they cover it. -/
theorem cover0_17 (p0 : Vec F S1x1x256 .f32) (y : S1x1x256.Idx) :
    ∃ pc ∈ ([⟨r0_1, p0⟩] : List (View.Piece (Elt F) S1x1x256 .f32)), y ∈ pc.1.set :=
  View.cover_of_tiled [⟨r0_1, p0⟩] S1x1x256.size (by rfl) y

/-- Window 18's staging buffer after the body, from the input windows' blocks: its 1 store as pieces, LAST
    FIRST (Lib/Pipeline/FrameBody.lean `View.canon`; the payloads are the skeleton's and the values stated above). -/
def out0_18 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : Vec F S1x256x768 .fp8e4m3 :=
  View.canon [⟨r0_6, k0_pay19 (k0_pay31 x0 x1 x2 x3 x4 x5 x6 x7 x8 x9 x10 x11 x12 x13) (k0_pay32 x0 x1 x2 x3 x4 x5 x6 x7 x8 x9 x10 x11 x12 x13) (k0_pay33 x0 x1 x2 x3 x4 x5 x6 x7 x8 x9 x10 x11 x12 x13)⟩]

/-- Its stores tile the buffer (checked by evaluation), so they cover it. -/
theorem cover0_18 (p0 : Vec F S1x256x768 .fp8e4m3) (y : S1x256x768.Idx) :
    ∃ pc ∈ ([⟨r0_6, p0⟩] : List (View.Piece (Elt F) S1x256x768 .fp8e4m3)), y ∈ pc.1.set :=
  View.cover_of_tiled [⟨r0_6, p0⟩] S1x256x768.size (by rfl) y

/-- Window 19's staging buffer after the body, from the input windows' blocks: its 1 store as pieces, LAST
    FIRST (Lib/Pipeline/FrameBody.lean `View.canon`; the payloads are the skeleton's and the values stated above). -/
def out0_19 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : Vec F S1x1x256 .f32 :=
  View.canon [⟨r0_1, k0_pay20 (k0_pay31 x0 x1 x2 x3 x4 x5 x6 x7 x8 x9 x10 x11 x12 x13) (k0_pay32 x0 x1 x2 x3 x4 x5 x6 x7 x8 x9 x10 x11 x12 x13) (k0_pay33 x0 x1 x2 x3 x4 x5 x6 x7 x8 x9 x10 x11 x12 x13)⟩]

/-- Its stores tile the buffer (checked by evaluation), so they cover it. -/
theorem cover0_19 (p0 : Vec F S1x1x256 .f32) (y : S1x1x256.Idx) :
    ∃ pc ∈ ([⟨r0_1, p0⟩] : List (View.Piece (Elt F) S1x1x256 .f32)), y ∈ pc.1.set :=
  View.cover_of_tiled [⟨r0_1, p0⟩] S1x1x256.size (by rfl) y

/-- Window 20's staging buffer after the body, from the input windows' blocks: its 1 store as pieces, LAST
    FIRST (Lib/Pipeline/FrameBody.lean `View.canon`; the payloads are the skeleton's and the values stated above). -/
def out0_20 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : Vec F S1x256x1536 .fp8e4m3 :=
  View.canon [⟨r0_13, k0_pay25 (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (View.ld x11 r0_10) (View.ld x10 r0_11) (View.ld x11 r0_12)⟩]

/-- Its stores tile the buffer (checked by evaluation), so they cover it. -/
theorem cover0_20 (p0 : Vec F S1x256x1536 .fp8e4m3) (y : S1x256x1536.Idx) :
    ∃ pc ∈ ([⟨r0_13, p0⟩] : List (View.Piece (Elt F) S1x256x1536 .fp8e4m3)), y ∈ pc.1.set :=
  View.cover_of_tiled [⟨r0_13, p0⟩] S1x256x1536.size (by rfl) y

/-- Window 21's staging buffer after the body, from the input windows' blocks: its 1 store as pieces, LAST
    FIRST (Lib/Pipeline/FrameBody.lean `View.canon`; the payloads are the skeleton's and the values stated above). -/
def out0_21 (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) : Vec F S1x1x256 .f32 :=
  View.canon [⟨r0_1, k0_pay1 (k0_pay26 (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (View.ld x11 r0_10) (View.ld x10 r0_11) (View.ld x11 r0_12))⟩]

/-- Its stores tile the buffer (checked by evaluation), so they cover it. -/
theorem cover0_21 (p0 : Vec F S1x1x256 .f32) (y : S1x1x256.Idx) :
    ∃ pc ∈ ([⟨r0_1, p0⟩] : List (View.Piece (Elt F) S1x1x256 .f32)), y ∈ pc.1.set :=
  View.cover_of_tiled [⟨r0_1, p0⟩] S1x1x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x16x48x256 .f32) (harg2 : arg2.IsWhole) (arg3 : Memref sig .tc .vmem S1x256x768 .bf16) (harg3 : arg3.IsWhole) (arg4 : Memref sig .tc .vmem S1x256x384 .bf16) (harg4 : arg4.IsWhole) (arg5 : Memref sig .tc .vmem S1x384 .f32) (harg5 : arg5.IsWhole) (arg6 : Memref sig .tc .vmem S768x768 .fp8e4m3) (harg6 : arg6.IsWhole) (arg7 : Memref sig .tc .vmem S1x768 .f32) (harg7 : arg7.IsWhole) (arg8 : Memref sig .tc .vmem S384x1536 .bf16) (harg8 : arg8.IsWhole) (arg9 : Memref sig .tc .vmem S2x768 .f32) (harg9 : arg9.IsWhole) (arg10 : Memref sig .tc .vmem S384x1536 .bf16) (harg10 : arg10.IsWhole) (arg11 : Memref sig .tc .vmem S1x768 .f32) (harg11 : arg11.IsWhole) (arg12 : Memref sig .tc .vmem S2x768x1536 .fp8e4m3) (harg12 : arg12.IsWhole) (arg13 : Memref sig .tc .vmem S2x1536 .f32) (harg13 : arg13.IsWhole) (arg14 : Memref sig .tc .vmem S1536x768 .fp8e4m3) (harg14 : arg14.IsWhole) (arg15 : Memref sig .tc .vmem S1x768 .f32) (harg15 : arg15.IsWhole) (arg16 : Memref sig .tc .vmem S1x256x768 .bf16) (harg16 : arg16.IsWhole) (arg17 : Memref sig .tc .vmem S1x256x768 .f32) (harg17 : arg17.IsWhole) (arg18 : Memref sig .tc .vmem S1x16x48x256 .fp8e4m3) (harg18 : arg18.IsWhole) (arg19 : Memref sig .tc .vmem S1x1x256 .f32) (harg19 : arg19.IsWhole) (arg20 : Memref sig .tc .vmem S1x256x768 .fp8e4m3) (harg20 : arg20.IsWhole) (arg21 : Memref sig .tc .vmem S1x1x256 .f32) (harg21 : arg21.IsWhole) (arg22 : Memref sig .tc .vmem S1x256x1536 .fp8e4m3) (harg22 : arg22.IsWhole) (arg23 : Memref sig .tc .vmem S1x1x256 .f32) (harg23 : arg23.IsWhole)
    (x0 : Vec F S1x16x48x256 .f32) (x1 : Vec F S1x256x768 .bf16) (x2 : Vec F S1x256x384 .bf16) (x3 : Vec F S1x384 .f32) (x4 : Vec F S768x768 .fp8e4m3) (x5 : Vec F S1x768 .f32) (x6 : Vec F S384x1536 .bf16) (x7 : Vec F S2x768 .f32) (x8 : Vec F S384x1536 .bf16) (x9 : Vec F S1x768 .f32) (x10 : Vec F S2x768x1536 .fp8e4m3) (x11 : Vec F S2x1536 .f32) (x12 : Vec F S1536x768 .fp8e4m3) (x13 : Vec F S1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (out0_14 x0 x1 x2 x3 x4 x5 x6 x7 x8 x9 x10 x11 x12 x13) ∗ owns (c : Thread nD τ) arg17 fullShare (out0_15 x0 x1 x2 x3 x4 x5 x6 x7 x8 x9 x10 x11 x12 x13) ∗ owns (c : Thread nD τ) arg18 fullShare (out0_16 x0 x1 x2 x3 x4 x5 x6 x7 x8 x9 x10 x11 x12 x13) ∗ owns (c : Thread nD τ) arg19 fullShare (out0_17 x0 x1 x2 x3 x4 x5 x6 x7 x8 x9 x10 x11 x12 x13) ∗ owns (c : Thread nD τ) arg20 fullShare (out0_18 x0 x1 x2 x3 x4 x5 x6 x7 x8 x9 x10 x11 x12 x13) ∗ owns (c : Thread nD τ) arg21 fullShare (out0_19 x0 x1 x2 x3 x4 x5 x6 x7 x8 x9 x10 x11 x12 x13) ∗ owns (c : Thread nD τ) arg22 fullShare (out0_20 x0 x1 x2 x3 x4 x5 x6 x7 x8 x9 x10 x11 x12 x13) ∗ owns (c : Thread nD τ) arg23 fullShare (out0_21 x0 x1 x2 x3 x4 x5 x6 x7 x8 x9 x10 x11 x12 x13)) -∗ K ⟨⟩))
      ⊢ wp frame (wpE (defs₀ (F := F)) Variants.none c none) E (cc0_out_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_out_ffn_eq_skeleton]; unfold cc0_out_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  iexists _; isplitr
  swap; · iexact H21
  ipureintro
  refine (View.read_writes_eq_canon _ _ _ (cover0_21 _)).trans ?_
  rfl

end Cert.KernelIdeal.Hand

end
-- ==== Proof.Post.KernelIdealRun.lean ====
/-
  The run of the kernel over the exact values: every run ends, the arguments unchanged, and each result array is what the
  write-backs of the blocks `o14 … o21` make it — for any such blocks that agree, on the rows inside the array, with what the
  body computes from the input blocks filled out with anything past the array's end (`Agree`).
-/
module

public import proofs.«01_k».proof.Proof.Gen.KernelIdeal.Skeleton
public import proofs.«01_k».proof.Proof.Post.KernelIdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- An input block whose transfer is cut at the array's end, filled out with the zero word past it. -/
def fblk0 (c : Dev nD) (t : Fin cfg0.N) : Vec F S1x16x48x256 .f32 :=
  win0_0.fill (grid0.coords t) (fun _ => Scalar.ofBits .f32 0#32) (iblk m c 0 t)
def fblk1 (c : Dev nD) (t : Fin cfg0.N) : Vec F S1x256x768 .bf16 :=
  win0_1.fill (grid0.coords t) (fun _ => Scalar.ofBits .bf16 0#16) (iblk m c 1 t)
def fblk2 (c : Dev nD) (t : Fin cfg0.N) : Vec F S1x256x384 .bf16 :=
  win0_2.fill (grid0.coords t) (fun _ => Scalar.ofBits .bf16 0#16) (iblk m c 2 t)

/-- The proof data: after the body each input buffer holds its block, each output buffer `o14 … o21`. -/
def dats (o14 : Dev nD → Fin cfg0.N → Vec F S1x256x768 .bf16) (o15 : Dev nD → Fin cfg0.N → Vec F S1x256x768 .f32) (o16 : Dev nD → Fin cfg0.N → Vec F S1x16x48x256 .fp8e4m3) (o17 : Dev nD → Fin cfg0.N → Vec F S1x1x256 .f32) (o18 : Dev nD → Fin cfg0.N → Vec F S1x256x768 .fp8e4m3) (o19 : Dev nD → Fin cfg0.N → Vec F S1x1x256 .f32) (o20 : Dev nD → Fin cfg0.N → Vec F S1x256x1536 .fp8e4m3) (o21 : Dev nD → Fin cfg0.N → Vec F S1x1x256 .f32)
    (_ : Fin 1) (c : Dev nD) : Dat τ (Elt F) Unit ℕ (UR sig nD τ) ℕ cfg0 c where
  A w := V m c (Pipeline.arrRef spec0 w)
  after w t := match w with
    | ⟨0, _⟩ => fblk0 m c t
    | ⟨1, _⟩ => fblk1 m c t
    | ⟨2, _⟩ => fblk2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => o14 c t
    | ⟨15, _⟩ => o15 c t
    | ⟨16, _⟩ => o16 c t
    | ⟨17, _⟩ => o17 c t
    | ⟨18, _⟩ => o18 c t
    | ⟨19, _⟩ => o19 c t
    | ⟨20, _⟩ => o20 c t
    | ⟨21, _⟩ => o21 c t
    | ⟨_ + 22, h⟩ => absurd h (Nat.not_lt.2 (Nat.le_add_left _ _))
  Φ _ := Pipeline.ΦA spec0 c
  q _ := fullShare
  owed _ := 0

variable (o14 : Dev nD → Fin cfg0.N → Vec F S1x256x768 .bf16) (o15 : Dev nD → Fin cfg0.N → Vec F S1x256x768 .f32) (o16 : Dev nD → Fin cfg0.N → Vec F S1x16x48x256 .fp8e4m3) (o17 : Dev nD → Fin cfg0.N → Vec F S1x1x256 .f32) (o18 : Dev nD → Fin cfg0.N → Vec F S1x256x768 .fp8e4m3) (o19 : Dev nD → Fin cfg0.N → Vec F S1x1x256 .f32) (o20 : Dev nD → Fin cfg0.N → Vec F S1x256x1536 .fp8e4m3) (o21 : Dev nD → Fin cfg0.N → Vec F S1x1x256 .f32)

local notation "𝔇" => dats m o14 o15 o16 o17 o18 o19 o20 o21

theorem A_eq (c : Dev nD) (w : Fin cfg0.W) : (𝔇 0 c).A w = V m c (Pipeline.arrRef spec0 w) := by
  dsimp only [dats]

theorem after0_0 (c : Dev nD) (t : Fin cfg0.N) : (𝔇 0 c).after 0 t = fblk0 m c t := by dsimp only [dats]
theorem after0_1 (c : Dev nD) (t : Fin cfg0.N) : (𝔇 0 c).after 1 t = fblk1 m c t := by dsimp only [dats]
theorem after0_2 (c : Dev nD) (t : Fin cfg0.N) : (𝔇 0 c).after 2 t = fblk2 m c t := by dsimp only [dats]
theorem after0_3 (c : Dev nD) (t : Fin cfg0.N) : (𝔇 0 c).after 3 t = iblk m c 3 t := by dsimp only [dats]
theorem after0_4 (c : Dev nD) (t : Fin cfg0.N) : (𝔇 0 c).after 4 t = iblk m c 4 t := by dsimp only [dats]
theorem after0_5 (c : Dev nD) (t : Fin cfg0.N) : (𝔇 0 c).after 5 t = iblk m c 5 t := by dsimp only [dats]
theorem after0_6 (c : Dev nD) (t : Fin cfg0.N) : (𝔇 0 c).after 6 t = iblk m c 6 t := by dsimp only [dats]
theorem after0_7 (c : Dev nD) (t : Fin cfg0.N) : (𝔇 0 c).after 7 t = iblk m c 7 t := by dsimp only [dats]
theorem after0_8 (c : Dev nD) (t : Fin cfg0.N) : (𝔇 0 c).after 8 t = iblk m c 8 t := by dsimp only [dats]
theorem after0_9 (c : Dev nD) (t : Fin cfg0.N) : (𝔇 0 c).after 9 t = iblk m c 9 t := by dsimp only [dats]
theorem after0_10 (c : Dev nD) (t : Fin cfg0.N) : (𝔇 0 c).after 10 t = iblk m c 10 t := by dsimp only [dats]
theorem after0_11 (c : Dev nD) (t : Fin cfg0.N) : (𝔇 0 c).after 11 t = iblk m c 11 t := by dsimp only [dats]
theorem after0_12 (c : Dev nD) (t : Fin cfg0.N) : (𝔇 0 c).after 12 t = iblk m c 12 t := by dsimp only [dats]
theorem after0_13 (c : Dev nD) (t : Fin cfg0.N) : (𝔇 0 c).after 13 t = iblk m c 13 t := by dsimp only [dats]
theorem after0_14 (c : Dev nD) (t : Fin cfg0.N) : (𝔇 0 c).after 14 t = o14 c t := by dsimp only [dats]
theorem after0_15 (c : Dev nD) (t : Fin cfg0.N) : (𝔇 0 c).after 15 t = o15 c t := by dsimp only [dats]
theorem after0_16 (c : Dev nD) (t : Fin cfg0.N) : (𝔇 0 c).after 16 t = o16 c t := by dsimp only [dats]
theorem after0_17 (c : Dev nD) (t : Fin cfg0.N) : (𝔇 0 c).after 17 t = o17 c t := by dsimp only [dats]
theorem after0_18 (c : Dev nD) (t : Fin cfg0.N) : (𝔇 0 c).after 18 t = o18 c t := by dsimp only [dats]
theorem after0_19 (c : Dev nD) (t : Fin cfg0.N) : (𝔇 0 c).after 19 t = o19 c t := by dsimp only [dats]
theorem after0_20 (c : Dev nD) (t : Fin cfg0.N) : (𝔇 0 c).after 20 t = o20 c t := by dsimp only [dats]
theorem after0_21 (c : Dev nD) (t : Fin cfg0.N) : (𝔇 0 c).after 21 t = o21 c t := by dsimp only [dats]

/-- What the body finds in each input buffer: a cut block on the part inside the array, anything past it; -/
theorem before0_0 (c : Dev nD) (t : Fin cfg0.N) (d) :
    (𝔇 0 c).before 0 t d = win0_0.fill (grid0.coords t) d (iblk m c 0 t) := by
  rw [Dat.before_fetched _ _ _ (fetch0_0 t)]; unfold Dat.fetched Dat.blockOf iblk; rw [A_eq]
theorem before0_1 (c : Dev nD) (t : Fin cfg0.N) (d) :
    (𝔇 0 c).before 1 t d = win0_1.fill (grid0.coords t) d (iblk m c 1 t) := by
  rw [Dat.before_fetched _ _ _ (fetch0_1 t)]; unfold Dat.fetched Dat.blockOf iblk; rw [A_eq]
theorem before0_2 (c : Dev nD) (t : Fin cfg0.N) (d) :
    (𝔇 0 c).before 2 t d = win0_2.fill (grid0.coords t) d (iblk m c 2 t) := by
  rw [Dat.before_fetched _ _ _ (fetch0_2 t)]; unfold Dat.fetched Dat.blockOf iblk; rw [A_eq]
/-- a whole block otherwise. -/
theorem before0_3 (c : Dev nD) (t : Fin cfg0.N) (d) : (𝔇 0 c).before 3 t d = iblk m c 3 t :=
  before0_3_of m (𝔇 0 c) (A_eq m o14 o15 o16 o17 o18 o19 o20 o21 c 3) (after0_3 m o14 o15 o16 o17 o18 o19 o20 o21 c) t d
theorem before0_4 (c : Dev nD) (t : Fin cfg0.N) (d) : (𝔇 0 c).before 4 t d = iblk m c 4 t :=
  before0_4_of m (𝔇 0 c) (A_eq m o14 o15 o16 o17 o18 o19 o20 o21 c 4) (after0_4 m o14 o15 o16 o17 o18 o19 o20 o21 c) t d
theorem before0_5 (c : Dev nD) (t : Fin cfg0.N) (d) : (𝔇 0 c).before 5 t d = iblk m c 5 t :=
  before0_5_of m (𝔇 0 c) (A_eq m o14 o15 o16 o17 o18 o19 o20 o21 c 5) (after0_5 m o14 o15 o16 o17 o18 o19 o20 o21 c) t d
theorem before0_6 (c : Dev nD) (t : Fin cfg0.N) (d) : (𝔇 0 c).before 6 t d = iblk m c 6 t :=
  before0_6_of m (𝔇 0 c) (A_eq m o14 o15 o16 o17 o18 o19 o20 o21 c 6) (after0_6 m o14 o15 o16 o17 o18 o19 o20 o21 c) t d
theorem before0_7 (c : Dev nD) (t : Fin cfg0.N) (d) : (𝔇 0 c).before 7 t d = iblk m c 7 t :=
  before0_7_of m (𝔇 0 c) (A_eq m o14 o15 o16 o17 o18 o19 o20 o21 c 7) (after0_7 m o14 o15 o16 o17 o18 o19 o20 o21 c) t d
theorem before0_8 (c : Dev nD) (t : Fin cfg0.N) (d) : (𝔇 0 c).before 8 t d = iblk m c 8 t :=
  before0_8_of m (𝔇 0 c) (A_eq m o14 o15 o16 o17 o18 o19 o20 o21 c 8) (after0_8 m o14 o15 o16 o17 o18 o19 o20 o21 c) t d
theorem before0_9 (c : Dev nD) (t : Fin cfg0.N) (d) : (𝔇 0 c).before 9 t d = iblk m c 9 t :=
  before0_9_of m (𝔇 0 c) (A_eq m o14 o15 o16 o17 o18 o19 o20 o21 c 9) (after0_9 m o14 o15 o16 o17 o18 o19 o20 o21 c) t d
theorem before0_10 (c : Dev nD) (t : Fin cfg0.N) (d) : (𝔇 0 c).before 10 t d = iblk m c 10 t :=
  before0_10_of m (𝔇 0 c) (A_eq m o14 o15 o16 o17 o18 o19 o20 o21 c 10) (after0_10 m o14 o15 o16 o17 o18 o19 o20 o21 c) t d
theorem before0_11 (c : Dev nD) (t : Fin cfg0.N) (d) : (𝔇 0 c).before 11 t d = iblk m c 11 t :=
  before0_11_of m (𝔇 0 c) (A_eq m o14 o15 o16 o17 o18 o19 o20 o21 c 11) (after0_11 m o14 o15 o16 o17 o18 o19 o20 o21 c) t d
theorem before0_12 (c : Dev nD) (t : Fin cfg0.N) (d) : (𝔇 0 c).before 12 t d = iblk m c 12 t :=
  before0_12_of m (𝔇 0 c) (A_eq m o14 o15 o16 o17 o18 o19 o20 o21 c 12) (after0_12 m o14 o15 o16 o17 o18 o19 o20 o21 c) t d
theorem before0_13 (c : Dev nD) (t : Fin cfg0.N) (d) : (𝔇 0 c).before 13 t d = iblk m c 13 t :=
  before0_13_of m (𝔇 0 c) (A_eq m o14 o15 o16 o17 o18 o19 o20 o21 c 13) (after0_13 m o14 o15 o16 o17 o18 o19 o20 o21 c) t d

/-- The blocks `o14 … o21` agree, inside the array, with what the body computes whatever the input buffers hold past its end. -/
def Agree (c : Dev nD) (t : Fin cfg0.N) : Prop :=
  ∀ (d0 : Vec F S1x16x48x256 .f32) (d1 : Vec F S1x256x768 .bf16) (d2 : Vec F S1x256x384 .bf16),
    win0_14.cut (grid0.coords t) (o14 c t) = win0_14.cut (grid0.coords t) (out0_14 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t))
    ∧ win0_15.cut (grid0.coords t) (o15 c t) = win0_15.cut (grid0.coords t) (out0_15 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t))
    ∧ win0_16.cut (grid0.coords t) (o16 c t) = win0_16.cut (grid0.coords t) (out0_16 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t))
    ∧ win0_17.cut (grid0.coords t) (o17 c t) = win0_17.cut (grid0.coords t) (out0_17 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t))
    ∧ win0_18.cut (grid0.coords t) (o18 c t) = win0_18.cut (grid0.coords t) (out0_18 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t))
    ∧ win0_19.cut (grid0.coords t) (o19 c t) = win0_19.cut (grid0.coords t) (out0_19 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t))
    ∧ win0_20.cut (grid0.coords t) (o20 c t) = win0_20.cut (grid0.coords t) (out0_20 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t))
    ∧ win0_21.cut (grid0.coords t) (o21 c t) = win0_21.cut (grid0.coords t) (out0_21 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t))

/-! ## The body obligation -/

/-- What the body is called with at point `t`, -/
def bodyPre (c : Dev nD) (t : Fin cfg0.N) : sProp 𝕄 :=
  iprop((𝔇 0 c).Φ t.castSucc ∗ (𝔇 0 c).owesAt () t.castSucc
    ∗ (∃ d, owns (c : Thread nD τ) (st0_0 t) fullShare ((𝔇 0 c).before 0 t d))
    ∗ (∃ d, owns (c : Thread nD τ) (st0_1 t) fullShare ((𝔇 0 c).before 1 t d))
    ∗ (∃ d, owns (c : Thread nD τ) (st0_2 t) fullShare ((𝔇 0 c).before 2 t d))
    ∗ (∃ d, owns (c : Thread nD τ) (st0_3 t) fullShare ((𝔇 0 c).before 3 t d))
    ∗ (∃ d, owns (c : Thread nD τ) (st0_4 t) fullShare ((𝔇 0 c).before 4 t d))
    ∗ (∃ d, owns (c : Thread nD τ) (st0_5 t) fullShare ((𝔇 0 c).before 5 t d))
    ∗ (∃ d, owns (c : Thread nD τ) (st0_6 t) fullShare ((𝔇 0 c).before 6 t d))
    ∗ (∃ d, owns (c : Thread nD τ) (st0_7 t) fullShare ((𝔇 0 c).before 7 t d))
    ∗ (∃ d, owns (c : Thread nD τ) (st0_8 t) fullShare ((𝔇 0 c).before 8 t d))
    ∗ (∃ d, owns (c : Thread nD τ) (st0_9 t) fullShare ((𝔇 0 c).before 9 t d))
    ∗ (∃ d, owns (c : Thread nD τ) (st0_10 t) fullShare ((𝔇 0 c).before 10 t d))
    ∗ (∃ d, owns (c : Thread nD τ) (st0_11 t) fullShare ((𝔇 0 c).before 11 t d))
    ∗ (∃ d, owns (c : Thread nD τ) (st0_12 t) fullShare ((𝔇 0 c).before 12 t d))
    ∗ (∃ d, owns (c : Thread nD τ) (st0_13 t) fullShare ((𝔇 0 c).before 13 t d))
    ∗ (∃ d, owns (c : Thread nD τ) (st0_14 t) fullShare ((𝔇 0 c).before 14 t d))
    ∗ (∃ d, owns (c : Thread nD τ) (st0_15 t) fullShare ((𝔇 0 c).before 15 t d))
    ∗ (∃ d, owns (c : Thread nD τ) (st0_16 t) fullShare ((𝔇 0 c).before 16 t d))
    ∗ (∃ d, owns (c : Thread nD τ) (st0_17 t) fullShare ((𝔇 0 c).before 17 t d))
    ∗ (∃ d, owns (c : Thread nD τ) (st0_18 t) fullShare ((𝔇 0 c).before 18 t d))
    ∗ (∃ d, owns (c : Thread nD τ) (st0_19 t) fullShare ((𝔇 0 c).before 19 t d))
    ∗ (∃ d, owns (c : Thread nD τ) (st0_20 t) fullShare ((𝔇 0 c).before 20 t d))
    ∗ (∃ d, owns (c : Thread nD τ) (st0_21 t) fullShare ((𝔇 0 c).before 21 t d)))

/-- and what it returns. -/
def bodyPost (c : Dev nD) (t : Fin cfg0.N) : sProp 𝕄 :=
  iprop((𝔇 0 c).Φ t.succ ∗ (𝔇 0 c).owesAt () t.succ
    ∗ (∃ d, owns (c : Thread nD τ) (st0_0 t) fullShare (win0_0.fill (grid0.coords t) d (win0_0.cut (grid0.coords t) ((𝔇 0 c).after 0 t))))
    ∗ (∃ d, owns (c : Thread nD τ) (st0_1 t) fullShare (win0_1.fill (grid0.coords t) d (win0_1.cut (grid0.coords t) ((𝔇 0 c).after 1 t))))
    ∗ (∃ d, owns (c : Thread nD τ) (st0_2 t) fullShare (win0_2.fill (grid0.coords t) d (win0_2.cut (grid0.coords t) ((𝔇 0 c).after 2 t))))
    ∗ owns (c : Thread nD τ) (st0_3 t) fullShare ((𝔇 0 c).after 3 t)
    ∗ owns (c : Thread nD τ) (st0_4 t) fullShare ((𝔇 0 c).after 4 t)
    ∗ owns (c : Thread nD τ) (st0_5 t) fullShare ((𝔇 0 c).after 5 t)
    ∗ owns (c : Thread nD τ) (st0_6 t) fullShare ((𝔇 0 c).after 6 t)
    ∗ owns (c : Thread nD τ) (st0_7 t) fullShare ((𝔇 0 c).after 7 t)
    ∗ owns (c : Thread nD τ) (st0_8 t) fullShare ((𝔇 0 c).after 8 t)
    ∗ owns (c : Thread nD τ) (st0_9 t) fullShare ((𝔇 0 c).after 9 t)
    ∗ owns (c : Thread nD τ) (st0_10 t) fullShare ((𝔇 0 c).after 10 t)
    ∗ owns (c : Thread nD τ) (st0_11 t) fullShare ((𝔇 0 c).after 11 t)
    ∗ owns (c : Thread nD τ) (st0_12 t) fullShare ((𝔇 0 c).after 12 t)
    ∗ owns (c : Thread nD τ) (st0_13 t) fullShare ((𝔇 0 c).after 13 t)
    ∗ (∃ d, owns (c : Thread nD τ) (st0_14 t) fullShare (win0_14.fill (grid0.coords t) d (win0_14.cut (grid0.coords t) ((𝔇 0 c).after 14 t))))
    ∗ (∃ d, owns (c : Thread nD τ) (st0_15 t) fullShare (win0_15.fill (grid0.coords t) d (win0_15.cut (grid0.coords t) ((𝔇 0 c).after 15 t))))
    ∗ (∃ d, owns (c : Thread nD τ) (st0_16 t) fullShare (win0_16.fill (grid0.coords t) d (win0_16.cut (grid0.coords t) ((𝔇 0 c).after 16 t))))
    ∗ (∃ d, owns (c : Thread nD τ) (st0_17 t) fullShare (win0_17.fill (grid0.coords t) d (win0_17.cut (grid0.coords t) ((𝔇 0 c).after 17 t))))
    ∗ (∃ d, owns (c : Thread nD τ) (st0_18 t) fullShare (win0_18.fill (grid0.coords t) d (win0_18.cut (grid0.coords t) ((𝔇 0 c).after 18 t))))
    ∗ (∃ d, owns (c : Thread nD τ) (st0_19 t) fullShare (win0_19.fill (grid0.coords t) d (win0_19.cut (grid0.coords t) ((𝔇 0 c).after 19 t))))
    ∗ (∃ d, owns (c : Thread nD τ) (st0_20 t) fullShare (win0_20.fill (grid0.coords t) d (win0_20.cut (grid0.coords t) ((𝔇 0 c).after 20 t))))
    ∗ (∃ d, owns (c : Thread nD τ) (st0_21 t) fullShare (win0_21.fill (grid0.coords t) d (win0_21.cut (grid0.coords t) ((𝔇 0 c).after 21 t)))))

set_option maxHeartbeats 1600000 in
theorem sound_body (c : Dev nD) (t : Fin cfg0.N) (hag : Agree m o14 o15 o16 o17 o18 o19 o20 o21 c t) :
    bodyPre m o14 o15 o16 o17 o18 o19 o20 o21 c t ⊢ wp frame (wpE (defs₀ (F := F)) Variants.none c none) Set.univ (bodyAt0 t) (fun _ => bodyPost m o14 o15 o16 o17 o18 o19 o20 o21 c t) := by
  unfold bodyPre bodyPost bodyAt0
  simp only [before0_0, before0_1, before0_2, before0_3, before0_4, before0_5, before0_6, before0_7, before0_8, before0_9, before0_10, before0_11, before0_12, before0_13]
  rw [show (𝔇 0 c).Φ t.succ = (𝔇 0 c).Φ t.castSucc from rfl,
    show (𝔇 0 c).owesAt () t.succ = (𝔇 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  have h0 : win0_0.cut (grid0.coords t) (fblk0 m c t) = iblk m c 0 t := win0_0.cut_fill _ _ _
  have h1 : win0_1.cut (grid0.coords t) (fblk1 m c t) = iblk m c 1 t := win0_1.cut_fill _ _ _
  have h2 : win0_2.cut (grid0.coords t) (fblk2 m c t) = iblk m c 2 t := win0_2.cut_fill _ _ _
  rw [h0, h1, h2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  obtain ⟨e14, e15, e16, e17, e18, e19, e20, e21⟩ := hag d0 d1 d2
  rw [e14, e15, e16, e17, e18, e19, e20, e21]
  iapply (sound_kernel c Set.univ (grid0.coords t) _ _ _ _ _ _ _ _ _ _ _ _ _ _ _ _ _ _ _ _ _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists (out0_14 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)); rw [Window.fill_cut]; iexact H14
  isplitl [H15]; · iexists (out0_15 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)); rw [Window.fill_cut]; iexact H15
  isplitl [H16]; · iexists (out0_16 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)); rw [Window.fill_cut]; iexact H16
  isplitl [H17]; · iexists (out0_17 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)); rw [Window.fill_cut]; iexact H17
  isplitl [H18]; · iexists (out0_18 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)); rw [Window.fill_cut]; iexact H18
  isplitl [H19]; · iexists (out0_19 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)); rw [Window.fill_cut]; iexact H19
  isplitl [H20]; · iexists (out0_20 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)); rw [Window.fill_cut]; iexact H20
  iexists (out0_21 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)); rw [Window.fill_cut]; iexact H21

theorem defs₀_row (t : Fin cfg0.N) :
    defs₀ (F := F) .tc cfg0.body (cfg0.bodyArgs t (cfg0.slots t)) = bodyAt0 t := by
  unfold defs₀; rw [Defs.onTc_tc]

theorem body_obligation (hag : ∀ c t, Agree m o14 o15 o16 o17 o18 o19 o20 o21 c t) (c : Dev nD) : BodyObligationLoose (𝔇 0 c) (defs₀ (F := F)) Variants.none () Set.univ := fun t => by
  rw [bigSep_W0, bigSep_W0, defs₀_row]
  exact triple_restated (sound_body m o14 o15 o16 o17 o18 o19 o20 o21 c t (hag c t)) rfl .rfl fun _ => .rfl

/-! ## The run -/

set_option backward.isDefEq.respectTransparency.types false in
set_option maxHeartbeats 800000 in
theorem run_main_quiescent (hag : ∀ c t, Agree m o14 o15 o16 o17 o18 o19 o20 o21 c t) : θ_run defs (onTc (τ := τ) (main (F := F))) (s₀ m ρ)
    (fun r => (Pipeline.FramePost cfgs (𝔇) 0 (V m)) r ∧ r.2.sem = fun _ => 0) :=
  Pipeline.θ_run_frame (Q' := _) cfgs (𝔇) (0 : Fin 1) launch0 defs₀ Variants.none m ρ main
    (hbody := fun c => body_obligation m o14 o15 o16 o17 o18 o19 o20 o21 hag c) (hshare := fun c => (𝔇 0 c).share_full fun _ => rfl)
    (howed := fun _ _ => rfl) (V := V m) (hmain := hmain m Variants.none) (hA := A_eq m o14 o15 o16 o17 o18 o19 o20 o21) (hΦ := fun _ _ => rfl)

end Cert.KernelIdeal.Hand

end
-- ==== Proof.Post.Rows.lean ====
/-
  The mathematics of one token, over the extended reals: quantisation with one scale per token, layer normalisation, a
  row times a matrix, and from them every result of the layer as a function of the token's rows and the weights.
  Both programs are read against these functions, row by row.
-/
module

public import Idealize.ShloMosaic.Lib.Pointwise
public import Idealize.ShloMosaic.Lib.ValueIdx

@[expose] public section

noncomputable section

namespace Cert.Rows

open Idealize.ShloMosaic
open scoped BigOperators

/-! ## Constants -/

/-- The largest finite value of the code format, 448. -/
def top8 : EReal := Ideal.ofBits .f32 0x43E00000#32
/-- Its negative. -/
def bot8 : EReal := Ideal.ofBits .f32 0xC3E00000#32
/-- The variance offset of the layer norms. -/
def eps : EReal := Ideal.ofBits .f32 0x3727C5AC#32
/-- The length of a conditioning row, 384. -/
def len384 : EReal := Ideal.ofBits .f32 0x43C00000#32
/-- The length of an activation row, 768. -/
def len768 : EReal := Ideal.ofBits .f32 0x44400000#32

/-! ## Quantisation of a row -/

/-- The absolute value. -/
def mag (x : EReal) : EReal := max x (-x)

/-- The largest magnitude of a row. -/
def absMax {K : ℕ} (v : Fin K → EReal) : EReal := (Finset.univ : Finset (Fin K)).fold max ⊥ (fun k => mag (v k))

/-- A row's scale from its largest magnitude: a row of zeros takes 1. -/
def scaleOf (m : EReal) : EReal := if m = 0 then 1 else Ideal.div m top8

/-- A row's scale. -/
def scale {K : ℕ} (v : Fin K → EReal) : EReal := scaleOf (absMax v)

/-- The code of a value at a scale: divided and clipped. -/
def codeAt (x s : EReal) : EReal := min top8 (max bot8 (Ideal.div x s))

/-- A row's codes. -/
def code {K : ℕ} (v : Fin K → EReal) (k : Fin K) : EReal := codeAt (v k) (scale v)

/-! ## Layer normalisation of a row -/

/-- A row's mean, its length given as the constant the programs divide by. -/
def mean {K : ℕ} (n : EReal) (v : Fin K → EReal) : EReal := Ideal.div (∑ k, v k) n

/-- A row less its mean. -/
def centred {K : ℕ} (n : EReal) (v : Fin K → EReal) (k : Fin K) : EReal := v k - mean n v

/-- A row's variance. -/
def var {K : ℕ} (n : EReal) (v : Fin K → EReal) : EReal := mean n (fun k => centred n v k * centred n v k)

/-- A row normalised. -/
def normed {K : ℕ} (n : EReal) (v : Fin K → EReal) (k : Fin K) : EReal :=
  Ideal.div (centred n v k) (Ideal.sqrt (var n v + eps))

/-- A row times a matrix. -/
def dot {K N : ℕ} (v : Fin K → EReal) (w : Fin K → Fin N → EReal) (j : Fin N) : EReal := ∑ k, v k * w k j

/-- A quantised row times a quantised matrix: the product of the codes, times the row's scale, times the column's. -/
def qdot {K N : ℕ} (v : Fin K → EReal) (w : Fin K → Fin N → EReal) (ws : Fin N → EReal) (j : Fin N) : EReal :=
  dot (code v) w j * scale v * ws j

/-! ## A quotient by a scale and a quotient by a root -/

theorem top8_eq : top8 = ((448 : ℝ) : EReal) := by
  simp [top8, Ideal.ofBits, Ideal.ieee, -EReal.coe_mul]; norm_num

theorem scaleOf_ne_zero (m : EReal) : scaleOf m ≠ 0 := by
  unfold scaleOf
  split
  · exact one_ne_zero
  · rename_i h
    rw [top8_eq]
    unfold Ideal.div
    rw [if_neg (by norm_cast)]
    intro hm
    rcases mul_eq_zero.mp hm with h' | h'
    · exact h h'
    · rw [← EReal.coe_inv] at h'
      norm_cast at h'
      norm_num at h'

theorem mul_recip (x : EReal) {s : EReal} (hs : s ≠ 0) : x * Ideal.div 1 s = Ideal.div x s := by
  simp only [Ideal.div, if_neg hs, one_mul]

/-- Multiplying by the reciprocal of a row's scale is dividing by it. -/
theorem mul_recip_scale {K : ℕ} (x : EReal) (v : Fin K → EReal) : x * Ideal.div 1 (scale v) = Ideal.div x (scale v) :=
  mul_recip x (scaleOf_ne_zero _)

theorem eps_pos : ∃ e : ℝ, 0 < e ∧ eps = (e : EReal) := by
  refine ⟨(2 ^ 23 + 2606508 : ℕ) * (2 : ℝ) ^ ((110 : ℤ) - 127 - 23), by positivity, ?_⟩
  simp [eps, Ideal.ofBits, Ideal.ieee, -EReal.coe_mul]

theorem mul_rsqrt {x : EReal} (c : EReal) (hx : 0 < x) : c * Ideal.rsqrt x = Ideal.div c (Ideal.sqrt x) := by
  induction x using EReal.rec with
  | bot => simp at hx
  | top => rw [Ideal.rsqrt_top, Ideal.sqrt_top]; simp [Ideal.div]
  | coe r =>
    have hr : 0 < r := by exact_mod_cast hx
    have hs : Real.sqrt r ≠ 0 := (Real.sqrt_pos.mpr hr).ne'
    rw [Ideal.rsqrt_coe, Ideal.sqrt_coe, if_neg hr.not_gt, if_neg hr.ne', if_neg hr.not_gt, Ideal.div,
      if_neg (by exact_mod_cast hs), EReal.coe_inv]

theorem mul_self_nonneg' (x : EReal) : 0 ≤ x * x := by
  rcases le_total 0 x with h | h
  · exact mul_nonneg h h
  · have h' : 0 ≤ -x := by simpa using EReal.neg_le_neg_iff.mpr h
    simpa using mul_nonneg h' h'

theorem var_nonneg {K : ℕ} {n : EReal} (hn : ∃ r : ℝ, 0 < r ∧ n = (r : EReal)) (v : Fin K → EReal) : 0 ≤ var n v := by
  obtain ⟨r, hr, rfl⟩ := hn
  unfold var mean Ideal.div
  rw [if_neg (by exact_mod_cast hr.ne')]
  refine mul_nonneg (Finset.sum_nonneg fun k _ => mul_self_nonneg' _) ?_
  rw [← EReal.coe_inv]; exact_mod_cast (inv_pos.mpr hr).le

theorem len384_pos : ∃ r : ℝ, 0 < r ∧ len384 = (r : EReal) := by
  refine ⟨384, by norm_num, ?_⟩
  simp [len384, Ideal.ofBits, Ideal.ieee, -EReal.coe_mul]; norm_num

theorem len768_pos : ∃ r : ℝ, 0 < r ∧ len768 = (r : EReal) := by
  refine ⟨768, by norm_num, ?_⟩
  simp [len768, Ideal.ofBits, Ideal.ieee, -EReal.coe_mul]; norm_num

/-- Multiplying a centred row by the reciprocal root of its offset variance is dividing by the root. -/
theorem mul_rsqrt_var {K : ℕ} {n : EReal} (hn : ∃ r : ℝ, 0 < r ∧ n = (r : EReal)) (v : Fin K → EReal) (c : EReal) :
    c * Ideal.rsqrt (var n v + eps) = Ideal.div c (Ideal.sqrt (var n v + eps)) := by
  refine mul_rsqrt c ?_
  obtain ⟨e, he, h⟩ := eps_pos
  rw [h]
  exact lt_of_lt_of_le (by exact_mod_cast he : (0 : EReal) < (e : EReal)) (le_add_of_nonneg_left (var_nonneg hn v))

/-- The largest magnitude is a supremum: it is at most `b` when every magnitude is. -/
theorem absMax_le {K : ℕ} {v : Fin K → EReal} {b : EReal} : absMax v ≤ b ↔ ∀ k, mag (v k) ≤ b := by
  simp [absMax, Finset.fold_max_le]

/-! ## The second half of the layer, for one token -/

/-- The weights of the output projection, its gate, the second adaptive norm and the gated feed-forward net. -/
structure Weights where
  gain : Fin 384 → EReal
  wo : Fin 768 → Fin 768 → EReal
  wos : Fin 768 → EReal
  wsg : Fin 2 → Fin 384 → Fin 768 → EReal
  bsg : Fin 2 → Fin 768 → EReal
  wada : Fin 2 → Fin 384 → Fin 768 → EReal
  bada : Fin 768 → EReal
  win : Fin 2 → Fin 768 → Fin 1536 → EReal
  wins : Fin 2 → Fin 1536 → EReal
  wout : Fin 1536 → Fin 768 → EReal
  wouts : Fin 768 → EReal

namespace Weights

variable (W : Weights)

/-- One of the two gates taken from the conditioning row. -/
def sgate (s : Fin 384 → EReal) (i : Fin 2) (d : Fin 768) : EReal := Ideal.logistic (dot s (W.wsg i) d + W.bsg i d)

/-- The activation row after the attention branch. -/
def aMid (og a : Fin 768 → EReal) (s : Fin 384 → EReal) (d : Fin 768) : EReal :=
  a d + W.sgate s 0 d * qdot og W.wo W.wos d

/-- The conditioning row, normalised and scaled by its gain. -/
def sn (s : Fin 384 → EReal) (k : Fin 384) : EReal := normed len384 s k * W.gain k

/-- The adaptively normalised activation row. -/
def x2 (am : Fin 768 → EReal) (s : Fin 384 → EReal) (d : Fin 768) : EReal :=
  normed len768 am d * Ideal.logistic (dot (W.sn s) (W.wada 0) d + W.bada d) + dot (W.sn s) (W.wada 1) d

/-- The hidden row of the gated feed-forward net. -/
def hid (x : Fin 768 → EReal) (j : Fin 1536) : EReal :=
  qdot x (W.win 0) (W.wins 0) j * Ideal.logistic (qdot x (W.win 0) (W.wins 0) j) * qdot x (W.win 1) (W.wins 1) j

/-- The layer's result. -/
def y (am : Fin 768 → EReal) (s : Fin 384 → EReal) (h : Fin 1536 → EReal) (d : Fin 768) : EReal :=
  am d + W.sgate s 1 d * qdot h W.wout W.wouts d

/-- The normalised row, the hidden row and the result, from the token's attention, activation and conditioning rows. -/
def X (og a : Fin 768 → EReal) (s : Fin 384 → EReal) : Fin 768 → EReal := W.x2 (W.aMid og a s) s
def H (og a : Fin 768 → EReal) (s : Fin 384 → EReal) : Fin 1536 → EReal := W.hid (W.X og a s)
def Y (og a : Fin 768 → EReal) (s : Fin 384 → EReal) : Fin 768 → EReal := W.y (W.aMid og a s) s (W.H og a s)

end Weights

end Cert.Rows

end
-- ==== Proof.Post.KernelBlock.lean ====
/-
  What the kernel body computes, read at the rows of a block: each of its intermediate vectors, at row `r`, is the
  matching function of one token (Rows.lean) of row `r` of the input blocks.
-/
module

public import proofs.«01_k».proof.Proof.Post.Rows
public import proofs.«01_k».proof.Proof.Gen.KernelIdeal.Skeleton
public import proofs.«01_k».proof.Proof.Gen.KernelIdeal

@[expose] public section

set_option maxRecDepth 16384

noncomputable section

namespace Cert.KernelIdeal.Hand

open Cert.KernelIdeal Cert.KernelIdeal.Gen Cert.Rows
open Idealize.ShloMosaic
open scoped BigOperators

/-- Row `r` of the attention block, heads and head columns as one axis. -/
def ogRow (v : Vec Ideal S1x16x48x256 .f32) (r : Fin 256) (k : Fin 768) : EReal :=
  v (ix4 0 ⟨k.val / 48, by omega⟩ ⟨k.val % 48, by omega⟩ r)

/-- The largest magnitude taken over heads and then over head columns is the largest of the flattened row. -/
theorem absMax_two (f : Fin 16 → Fin 48 → EReal) :
    Finset.fold max (Ideal.ofBits .f32 0xFF800000#32) (fun e : Fin 48 =>
      Finset.fold max (Ideal.ofBits .f32 0xFF800000#32) (fun h : Fin 16 => mag (f h e)) Finset.univ) Finset.univ
      = absMax (fun k : Fin 768 => f ⟨k.val / 48, by omega⟩ ⟨k.val % 48, by omega⟩) := by
  have hb : Ideal.ofBits .f32 0xFF800000#32 = ⊥ := by simp [Ideal.ofBits, Ideal.ieee]
  rw [hb]
  refine eq_of_forall_ge_iff fun b => ?_
  rw [absMax_le]
  simp only [Finset.fold_max_le, bot_le, true_and, Finset.mem_univ, forall_true_left]
  constructor
  · intro h k; exact h _ _
  · intro h e x
    have := h ⟨x.val * 48 + e.val, by omega⟩
    have h1 : (x.val * 48 + e.val) / 48 = x.val := by omega
    have h2 : (x.val * 48 + e.val) % 48 = e.val := by omega
    simpa only [h1, h2] using this

theorem absMax_one {K : ℕ} (f : Fin K → EReal) :
    Finset.fold max (Ideal.ofBits .f32 0xFF800000#32) (fun k => FloatOps.absf (F := Ideal) (φ := .f32) (f k)) Finset.univ = absMax f := by
  have hb : Ideal.ofBits .f32 0xFF800000#32 = ⊥ := by simp [Ideal.ofBits, Ideal.ieee]
  rw [hb]; rfl

theorem pay4_at (v : Vec Ideal S1x16x48x256 .f32) (r : Fin 256) : k0_pay4 v (ix2 0 r) = scale (ogRow v r) := by
  unfold k0_pay4 k0_pay3
  pointwise
  have h := absMax_two (fun h e => v (ix4 0 h e r))
  unfold mag at h
  unfold scale scaleOf
  exact congrArg (fun m : EReal => if m = 0 then (1 : EReal) else Ideal.div m top8) h

theorem pay5_at (v : Vec Ideal S1x16x48x256 .f32) (r : Fin 256) : k0_pay5 v (ix3 0 0 r) = scale (ogRow v r) := by
  rw [← pay4_at]
  unfold k0_pay5
  pointwise

theorem pay6_at (v : Vec Ideal S1x16x48x256 .f32) (r : Fin 256) (h : Fin 16) (e : Fin 48) :
    k0_pay6 v (ix4 0 h e r) = codeAt (v (ix4 0 h e r)) (scale (ogRow v r)) := by
  unfold codeAt
  rw [← mul_recip_scale, ← pay4_at]
  unfold k0_pay6 k0_pay3
  pointwise
  rfl

theorem pay7_at (v : Vec Ideal S1x16x48x256 .f32) (r : Fin 256) (k : Fin 768) :
    k0_pay7 v (ix2 k r) = Ideal.div (ogRow v r k) (scale (ogRow v r)) := by
  rw [← mul_recip_scale, ← pay4_at]
  unfold k0_pay7 k0_pay3
  pointwise
  rfl

theorem pay9_at (v51 : Vec Ideal S1x256x384 .bf16) (v53 : Vec Ideal S384x1536 .bf16) (r : Fin 256) (j : Fin 1536) :
   k0_pay9 v51 v53 (ix2 r j) = ∑ k : Fin 384, v51 (ix3 0 r k) * v53 (ix2 k j) := by
  unfold k0_pay9
  pointwise [dot_S256x384_S384x1536_S256x1536_1_0_0_1_n_n]

theorem pay10_at (v11 : FVec Ideal S1x256 .f32) (v32 : FVec Ideal S768x256 .f32) (v42 : Vec Ideal S768x768 .fp8e4m3)
    (v47 : Vec Ideal S1x768 .f32) (v51 : Vec Ideal S1x256x384 .bf16) (v53 : Vec Ideal S384x1536 .bf16)
    (v56 : Vec Ideal S1x256x768 .bf16) (v60 : Vec Ideal S1x768 .f32) (r : Fin 256) (d : Fin 768) :
    k0_pay10 v11 v32 (Scalar.ofBits .f32 0x43E00000#32) k0_pay8 v42 v47 v51 v53 v56 v60 (ix2 r d)
      = v56 (ix3 0 r d) + Ideal.logistic ((∑ k : Fin 384, v51 (ix3 0 r k) * v53 (ix2 k ⟨d.val, by omega⟩)) + v60 (ix2 0 d))
        * ((∑ k : Fin 768, min top8 (max bot8 (v32 (ix2 k r))) * v42 (ix2 k d)) * v11 (ix2 0 r) * v47 (ix2 0 d)) := by
  unfold k0_pay10 k0_pay8
  pointwise [dot_S768x256_S768x768_S256x768_0_0_1_1_n_n, pay9_at]
  rfl

theorem pay14_at (v70 : FVec Ideal S256x384 .bf16) (v88 : Vec Ideal S1x384 .f32) (v90 : Vec Ideal S384x1536 .bf16) (r : Fin 256) (j : Fin 1536) :
    k0_pay14 v70 v88 v90 (ix2 r j) = ∑ k : Fin 384, (normed len384 (fun k => v70 (ix2 r k)) k * v88 (ix2 0 k)) * v90 (ix2 k j) := by
  unfold k0_pay14
  pointwise [dot_S256x384_S384x1536_S256x1536_1_0_0_1_n_n]
  refine Finset.sum_congr rfl fun k _ => ?_
  congr 2
  exact mul_rsqrt_var len384_pos _ _

theorem pay15_at (v : FVec Ideal S256x768 .f32) (r : Fin 256) (d : Fin 768) :
   k0_pay15 v (ix2 r d) = normed len768 (fun k => v (ix2 r k)) d := by
  unfold k0_pay15
  pointwise
  exact mul_rsqrt_var len768_pos _ _

theorem pay16_at (v93 : FVec Ideal S1x768 .f32) (v97 : FVec Ideal S256x1536 .f32) (v113 : FVec Ideal S256x768 .f32) (r : Fin 256) (d : Fin 768) :
    k0_pay16 v93 v97 v113 (ix2 r d)
      = v113 (ix2 r d) * Ideal.logistic (v97 (ix2 r ⟨d.val, by omega⟩) + v93 (ix2 0 d)) + v97 (ix2 r ⟨768 + d.val, by omega⟩) := by
  unfold k0_pay16
  pointwise

theorem pay17_at (v93 : FVec Ideal S1x768 .f32) (v97 : FVec Ideal S256x1536 .f32) (v113 : FVec Ideal S256x768 .f32) (r : Fin 256) :
    k0_pay17 v93 v97 v113 (ix2 r 0) = scale (fun d => k0_pay16 v93 v97 v113 (ix2 r d)) := by
  unfold k0_pay17
  pointwise [absMax_one]
  rfl

theorem pay18_at (v93 : FVec Ideal S1x768 .f32) (v97 : FVec Ideal S256x1536 .f32) (v113 : FVec Ideal S256x768 .f32) (r : Fin 256) (d : Fin 768) :
    k0_pay18 v93 v97 v113 (ix2 r d) = code (fun d => k0_pay16 v93 v97 v113 (ix2 r d)) d := by
  unfold k0_pay18 code codeAt
  rw [← mul_recip_scale]
  pointwise [pay17_at]
  rfl

theorem pay19_at (v93 : FVec Ideal S1x768 .f32) (v97 : FVec Ideal S256x1536 .f32) (v113 : FVec Ideal S256x768 .f32) (r : Fin 256) (d : Fin 768) :
    k0_pay19 v93 v97 v113 (ix3 0 r d) = code (fun d => k0_pay16 v93 v97 v113 (ix2 r d)) d := by
  unfold k0_pay19
  pointwise [pay18_at]

theorem pay20_at (v93 : FVec Ideal S1x768 .f32) (v97 : FVec Ideal S256x1536 .f32) (v113 : FVec Ideal S256x768 .f32) (r : Fin 256) :
    k0_pay20 v93 v97 v113 (ix3 0 0 r) = scale (fun d => k0_pay16 v93 v97 v113 (ix2 r d)) := by
  unfold k0_pay20
  pointwise [pay17_at]

theorem pay21_at (v93 : FVec Ideal S1x768 .f32) (v97 : FVec Ideal S256x1536 .f32) (v113 : FVec Ideal S256x768 .f32)
    (v149 : Vec Ideal S1x768x1536 .fp8e4m3) (r : Fin 256) (j : Fin 1536) :
    k0_pay21 v93 v97 v113 v149 (ix2 r j)
      = (∑ k : Fin 768, code (fun d => k0_pay16 v93 v97 v113 (ix2 r d)) k * v149 (ix3 0 k j)) * scale (fun d => k0_pay16 v93 v97 v113 (ix2 r d)) := by
  unfold k0_pay21
  pointwise [dot_S256x768_S768x1536_S256x1536_1_0_0_1_n_n, pay17_at, pay18_at]

theorem pay22_at (v129 : FVec Ideal S256x1 .f32) (v138 : FVec Ideal S256x768 .fp8e4m3) (v153 : FVec Ideal S256x1536 .f32)
    (v154 : Vec Ideal S1x1536 .f32) (v157 : Vec Ideal S1x768x1536 .fp8e4m3) (v162 : Vec Ideal S1x1536 .f32) (r : Fin 256) (j : Fin 1536) :
    k0_pay22 v129 v138 v153 v154 v157 v162 (ix2 r j)
      = v153 (ix2 r j) * v154 (ix2 0 j) * Ideal.logistic (v153 (ix2 r j) * v154 (ix2 0 j))
        * ((∑ k : Fin 768, v138 (ix2 r k) * v157 (ix3 0 k j)) * v129 (ix2 r 0) * v162 (ix2 0 j)) := by
  unfold k0_pay22
  pointwise [dot_S256x768_S768x1536_S256x1536_1_0_0_1_n_n]

theorem pay23_at (v129 : FVec Ideal S256x1 .f32) (v138 : FVec Ideal S256x768 .fp8e4m3) (v153 : FVec Ideal S256x1536 .f32)
    (v154 : Vec Ideal S1x1536 .f32) (v157 : Vec Ideal S1x768x1536 .fp8e4m3) (v162 : Vec Ideal S1x1536 .f32) (r : Fin 256) :
    k0_pay23 v129 v138 v153 v154 v157 v162 (ix2 r 0) = scale (fun j => k0_pay22 v129 v138 v153 v154 v157 v162 (ix2 r j)) := by
  unfold k0_pay23
  pointwise [absMax_one]
  rfl

theorem pay24_at (v129 : FVec Ideal S256x1 .f32) (v138 : FVec Ideal S256x768 .fp8e4m3) (v153 : FVec Ideal S256x1536 .f32)
    (v154 : Vec Ideal S1x1536 .f32) (v157 : Vec Ideal S1x768x1536 .fp8e4m3) (v162 : Vec Ideal S1x1536 .f32) (r : Fin 256) (j : Fin 1536) :
    k0_pay24 v129 v138 v153 v154 v157 v162 (ix2 r j) = code (fun j => k0_pay22 v129 v138 v153 v154 v157 v162 (ix2 r j)) j := by
  unfold k0_pay24 code codeAt
  rw [← mul_recip_scale]
  pointwise [pay23_at]
  rfl

theorem pay25_at (v129 : FVec Ideal S256x1 .f32) (v138 : FVec Ideal S256x768 .fp8e4m3) (v153 : FVec Ideal S256x1536 .f32)
    (v154 : Vec Ideal S1x1536 .f32) (v157 : Vec Ideal S1x768x1536 .fp8e4m3) (v162 : Vec Ideal S1x1536 .f32) (r : Fin 256) (j : Fin 1536) :
    k0_pay25 v129 v138 v153 v154 v157 v162 (ix3 0 r j) = code (fun j => k0_pay22 v129 v138 v153 v154 v157 v162 (ix2 r j)) j := by
  unfold k0_pay25
  pointwise [pay24_at]

theorem pay26_at (v129 : FVec Ideal S256x1 .f32) (v138 : FVec Ideal S256x768 .fp8e4m3) (v153 : FVec Ideal S256x1536 .f32)
    (v154 : Vec Ideal S1x1536 .f32) (v157 : Vec Ideal S1x768x1536 .fp8e4m3) (v162 : Vec Ideal S1x1536 .f32) (r : Fin 256) :
    k0_pay1 (k0_pay26 v129 v138 v153 v154 v157 v162) (ix3 0 0 r) = scale (fun j => k0_pay22 v129 v138 v153 v154 v157 v162 (ix2 r j)) := by
  unfold k0_pay1 k0_pay26
  pointwise [pay23_at]

theorem pay2_at (v55 : FVec Ideal S256x1536 .f32) (v65 : FVec Ideal S256x768 .f32) (v176 : FVec Ideal S256x1 .f32)
    (v185 : FVec Ideal S256x1536 .fp8e4m3) (v196 : Vec Ideal S1536x768 .fp8e4m3) (v200 : Vec Ideal S1x768 .f32)
    (v205 : Vec Ideal S1x768 .f32) (r : Fin 256) (d : Fin 768) :
    k0_pay2 v55 v65 v176 v185 v196 v200 v205 (ix3 0 r d)
      = v65 (ix2 r d) + Ideal.logistic (v55 (ix2 r ⟨768 + d.val, by omega⟩) + v205 (ix2 0 d))
        * ((∑ j : Fin 1536, v185 (ix2 r j) * v196 (ix2 j d)) * v176 (ix2 r 0) * v200 (ix2 0 d)) := by
  unfold k0_pay2
  pointwise [dot_S256x1536_S1536x768_S256x768_1_0_0_1_n_n]

end Cert.KernelIdeal.Hand

end
-- ==== Proof.Post.KernelRows.lean ====
/-
  The kernel body's stores, read at a row of the block: each is the token function of Rows.lean at that row of the input
  blocks and the weights the weight blocks hold.
-/
module

public import proofs.«01_k».proof.Proof.Post.KernelBlock
public import proofs.«01_k».proof.Proof.Post.KernelIdealBody

@[expose] public section

set_option maxRecDepth 16384

noncomputable section

namespace Cert.KernelIdeal.Hand

open Cert.KernelIdeal Cert.KernelIdeal.Gen Cert.Rows
open Idealize.ShloMosaic
open scoped BigOperators

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-! ## Loads -/

theorem ld_0 (x : Vec Ideal S1x16x48x256 .f32) : View.ld x r0_0 = x := View.ld_unit_zero (S := S1x16x48x256) z4 _ x
theorem ld_2 (x : Vec Ideal S768x768 .fp8e4m3) : View.ld x r0_2 = x := View.ld_unit_zero (S := S768x768) z2 _ x
theorem ld_3 (x : Vec Ideal S1x768 .f32) : View.ld x r0_3 = x := View.ld_unit_zero (S := S1x768) z2 _ x
theorem ld_4 (x : Vec Ideal S1x256x384 .bf16) : View.ld x r0_4 = x := View.ld_unit_zero (S := S1x256x384) z3 _ x
theorem ld_5 (x : Vec Ideal S384x1536 .bf16) : View.ld x r0_5 = x := View.ld_unit_zero (S := S384x1536) z2 _ x
theorem ld_6 (x : Vec Ideal S1x256x768 .bf16) : View.ld x r0_6 = x := View.ld_unit_zero (S := S1x256x768) z3 _ x
theorem ld_8 (x : Vec Ideal S1x384 .f32) : View.ld x r0_8 = x := View.ld_unit_zero (S := S1x384) z2 _ x
theorem ld_14 (x : Vec Ideal S1536x768 .fp8e4m3) : View.ld x r0_14 = x := View.ld_unit_zero (S := S1536x768) z2 _ x
theorem ld_7 (x : Vec Ideal S2x768 .f32) (d : Fin 768) : (View.ld x r0_7 : Vec Ideal S1x768 .f32) (ix2 0 d) = x (ix2 0 d) := by pointwise
theorem ld_15 (x : Vec Ideal S2x768 .f32) (d : Fin 768) : (View.ld x r0_15 : Vec Ideal S1x768 .f32) (ix2 0 d) = x (ix2 1 d) := by pointwise
theorem ld_9 (x : Vec Ideal S2x768x1536 .fp8e4m3) (k : Fin 768) (j : Fin 1536) : (View.ld x r0_9 : Vec Ideal S1x768x1536 .fp8e4m3) (ix3 0 k j) = x (ix3 0 k j) := by pointwise
theorem ld_11 (x : Vec Ideal S2x768x1536 .fp8e4m3) (k : Fin 768) (j : Fin 1536) : (View.ld x r0_11 : Vec Ideal S1x768x1536 .fp8e4m3) (ix3 0 k j) = x (ix3 1 k j) := by pointwise
theorem ld_10 (x : Vec Ideal S2x1536 .f32) (j : Fin 1536) : (View.ld x r0_10 : Vec Ideal S1x1536 .f32) (ix2 0 j) = x (ix2 0 j) := by pointwise
theorem ld_12 (x : Vec Ideal S2x1536 .f32) (j : Fin 1536) : (View.ld x r0_12 : Vec Ideal S1x1536 .f32) (ix2 0 j) = x (ix2 1 j) := by pointwise

theorem pay11_at (v11 : FVec Ideal S1x256 .f32) (v32 : FVec Ideal S768x256 .f32) (c : Ideal .f32) (v33 : FVec Ideal S768x256 .f32) (v42 : Vec Ideal S768x768 .fp8e4m3)
    (v47 : Vec Ideal S1x768 .f32) (v51 : Vec Ideal S1x256x384 .bf16) (v53 : Vec Ideal S384x1536 .bf16)
    (v56 : Vec Ideal S1x256x768 .bf16) (v60 : Vec Ideal S1x768 .f32) (r : Fin 256) (d : Fin 768) :
    k0_pay11 v11 v32 c v33 v42 v47 v51 v53 v56 v60 (ix3 0 r d) = k0_pay10 v11 v32 c v33 v42 v47 v51 v53 v56 v60 (ix2 r d) := by
  unfold k0_pay11
  pointwise

theorem pay12_at (v : Vec Ideal S1x256x384 .bf16) (r : Fin 256) (k : Fin 384) : k0_pay12 v (ix2 r k) = v (ix3 0 r k) := by
  unfold k0_pay12
  pointwise

theorem pay13_at (v : Vec Ideal S1x768 .f32) (d : Fin 768) : k0_pay13 v (ix2 0 d) = v (ix2 0 d) := by
  unfold k0_pay13
  pointwise

/-! ## The token functions -/

/-- The weights the weight blocks hold. -/
def blockW (x3 : Vec Ideal S1x384 .f32) (x4 : Vec Ideal S768x768 .fp8e4m3) (x5 : Vec Ideal S1x768 .f32) (x6 : Vec Ideal S384x1536 .bf16) (x7 : Vec Ideal S2x768 .f32) (x8 : Vec Ideal S384x1536 .bf16) (x9 : Vec Ideal S1x768 .f32) (x10 : Vec Ideal S2x768x1536 .fp8e4m3) (x11 : Vec Ideal S2x1536 .f32) (x12 : Vec Ideal S1536x768 .fp8e4m3) (x13 : Vec Ideal S1x768 .f32) : Weights where
  gain k := x3 (ix2 0 k)
  wo k d := x4 (ix2 k d)
  wos d := x5 (ix2 0 d)
  wsg i k d := x6 (ix2 k ⟨i.val * 768 + d.val, by omega⟩)
  bsg i d := x7 (ix2 i d)
  wada i k d := x8 (ix2 k ⟨i.val * 768 + d.val, by omega⟩)
  bada d := x9 (ix2 0 d)
  win i k j := x10 (ix3 i k j)
  wins i j := x11 (ix2 i j)
  wout j d := x12 (ix2 j d)
  wouts d := x13 (ix2 0 d)

variable (x0 : Vec Ideal S1x16x48x256 .f32) (x1 : Vec Ideal S1x256x768 .bf16) (x2 : Vec Ideal S1x256x384 .bf16) (x3 : Vec Ideal S1x384 .f32) (x4 : Vec Ideal S768x768 .fp8e4m3) (x5 : Vec Ideal S1x768 .f32) (x6 : Vec Ideal S384x1536 .bf16) (x7 : Vec Ideal S2x768 .f32) (x8 : Vec Ideal S384x1536 .bf16) (x9 : Vec Ideal S1x768 .f32) (x10 : Vec Ideal S2x768x1536 .fp8e4m3) (x11 : Vec Ideal S2x1536 .f32) (x12 : Vec Ideal S1536x768 .fp8e4m3) (x13 : Vec Ideal S1x768 .f32)

theorem half0 (d : Fin 768) (h) : (⟨(0 : Fin 2).val * 768 + d.val, h⟩ : Fin 1536) = ⟨d.val, by omega⟩ := Fin.ext (by simp)
theorem half1 (d : Fin 768) (h) : (⟨(1 : Fin 2).val * 768 + d.val, h⟩ : Fin 1536) = ⟨768 + d.val, by omega⟩ := Fin.ext (by simp)

theorem aMid_at (r : Fin 256) (d : Fin 768) : k0_pay30 x0 x1 x2 x3 x4 x5 x6 x7 x8 x9 x10 x11 x12 x13 (ix2 r d) = (blockW x3 x4 x5 x6 x7 x8 x9 x10 x11 x12 x13).aMid (ogRow x0 r) (fun d => x1 (ix3 0 r d)) (fun k => x2 (ix3 0 r k)) d := by
  unfold k0_pay30 k0_pay27 k0_pay28 k0_pay29
  simp only [pay10_at, pay4_at, pay7_at, ld_0, ld_2, ld_3, ld_4, ld_5, ld_6, ld_7]
  simp only [Weights.aMid, Weights.sgate, qdot, dot, code, codeAt, blockW, half0]
  pointwise

theorem x2_at (r : Fin 256) (d : Fin 768) :
    k0_pay16 (k0_pay31 x0 x1 x2 x3 x4 x5 x6 x7 x8 x9 x10 x11 x12 x13) (k0_pay32 x0 x1 x2 x3 x4 x5 x6 x7 x8 x9 x10 x11 x12 x13) (k0_pay33 x0 x1 x2 x3 x4 x5 x6 x7 x8 x9 x10 x11 x12 x13) (ix2 r d) = (blockW x3 x4 x5 x6 x7 x8 x9 x10 x11 x12 x13).X (ogRow x0 r) (fun d => x1 (ix3 0 r d)) (fun k => x2 (ix3 0 r k)) d := by
  rw [pay16_at]
  unfold k0_pay31 k0_pay32 k0_pay33
  simp only [pay13_at, pay14_at, pay15_at, pay12_at, aMid_at, ld_3, ld_4, ld_5, ld_8]
  simp only [Weights.X, Weights.x2, Weights.sn, dot]
  simp only [blockW, half0, half1]

theorem x2_row (r : Fin 256) :
    (fun d => k0_pay16 (k0_pay31 x0 x1 x2 x3 x4 x5 x6 x7 x8 x9 x10 x11 x12 x13) (k0_pay32 x0 x1 x2 x3 x4 x5 x6 x7 x8 x9 x10 x11 x12 x13) (k0_pay33 x0 x1 x2 x3 x4 x5 x6 x7 x8 x9 x10 x11 x12 x13) (ix2 r d)) = (blockW x3 x4 x5 x6 x7 x8 x9 x10 x11 x12 x13).X (ogRow x0 r) (fun d => x1 (ix3 0 r d)) (fun k => x2 (ix3 0 r k)) := funext fun d => x2_at x0 x1 x2 x3 x4 x5 x6 x7 x8 x9 x10 x11 x12 x13 r d

theorem hid_at (r : Fin 256) (j : Fin 1536) :
    k0_pay22 (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (View.ld x11 r0_10) (View.ld x10 r0_11) (View.ld x11 r0_12) (ix2 r j) = (blockW x3 x4 x5 x6 x7 x8 x9 x10 x11 x12 x13).H (ogRow x0 r) (fun d => x1 (ix3 0 r d)) (fun k => x2 (ix3 0 r k)) j := by
  rw [pay22_at]
  unfold k0_pay34 k0_pay35 k0_pay36
  simp only [pay17_at, pay18_at, pay21_at, x2_row, ld_9, ld_10, ld_11, ld_12]
  simp only [Weights.H, Weights.hid, qdot, dot]
  pointwise [blockW]

theorem hid_row (r : Fin 256) :
    (fun j => k0_pay22 (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (View.ld x11 r0_10) (View.ld x10 r0_11) (View.ld x11 r0_12) (ix2 r j)) = (blockW x3 x4 x5 x6 x7 x8 x9 x10 x11 x12 x13).H (ogRow x0 r) (fun d => x1 (ix3 0 r d)) (fun k => x2 (ix3 0 r k)) :=
  funext fun j => hid_at x0 x1 x2 x3 x4 x5 x6 x7 x8 x9 x10 x11 x12 x13 r j

/-! ## The stores -/

theorem out14_at (r : Fin 256) (d : Fin 768) : out0_14 x0 x1 x2 x3 x4 x5 x6 x7 x8 x9 x10 x11 x12 x13 (ix3 0 r d) = (blockW x3 x4 x5 x6 x7 x8 x9 x10 x11 x12 x13).Y (ogRow x0 r) (fun d => x1 (ix3 0 r d)) (fun k => x2 (ix3 0 r k)) d := by
  unfold out0_14
  rw [View.canon_unit_zero (S := S1x256x768) z3]
  simp only [ld_3, ld_4, ld_5, ld_14]
  rw [pay2_at]
  simp only [pay9_at, aMid_at, pay23_at, pay24_at, hid_row, ld_3, ld_4, ld_5, ld_14, ld_15]
  simp only [Weights.Y, Weights.y, Weights.sgate, qdot, dot]
  simp only [blockW, half1]
  pointwise

theorem out15_at (r : Fin 256) (d : Fin 768) : out0_15 x0 x1 x2 x3 x4 x5 x6 x7 x8 x9 x10 x11 x12 x13 (ix3 0 r d) = (blockW x3 x4 x5 x6 x7 x8 x9 x10 x11 x12 x13).aMid (ogRow x0 r) (fun d => x1 (ix3 0 r d)) (fun k => x2 (ix3 0 r k)) d := by
  unfold out0_15
  rw [View.canon_unit_zero (S := S1x256x768) z3, pay11_at]
  exact aMid_at x0 x1 x2 x3 x4 x5 x6 x7 x8 x9 x10 x11 x12 x13 r d

theorem out16_at (r : Fin 256) (h : Fin 16) (e : Fin 48) : out0_16 x0 x1 x2 x3 x4 x5 x6 x7 x8 x9 x10 x11 x12 x13 (ix4 0 h e r) = codeAt (x0 (ix4 0 h e r)) (scale (ogRow x0 r)) := by
  unfold out0_16
  rw [View.canon_unit_zero (S := S1x16x48x256) z4, pay6_at, ld_0]

theorem out17_at (r : Fin 256) : out0_17 x0 x1 x2 x3 x4 x5 x6 x7 x8 x9 x10 x11 x12 x13 (ix3 0 0 r) = scale (ogRow x0 r) := by
  unfold out0_17
  rw [View.canon_unit_zero (S := S1x1x256) z3, pay5_at, ld_0]

theorem out18_at (r : Fin 256) (d : Fin 768) : out0_18 x0 x1 x2 x3 x4 x5 x6 x7 x8 x9 x10 x11 x12 x13 (ix3 0 r d) = code ((blockW x3 x4 x5 x6 x7 x8 x9 x10 x11 x12 x13).X (ogRow x0 r) (fun d => x1 (ix3 0 r d)) (fun k => x2 (ix3 0 r k))) d := by
  unfold out0_18
  rw [View.canon_unit_zero (S := S1x256x768) z3, pay19_at, x2_row]

theorem out19_at (r : Fin 256) : out0_19 x0 x1 x2 x3 x4 x5 x6 x7 x8 x9 x10 x11 x12 x13 (ix3 0 0 r) = scale ((blockW x3 x4 x5 x6 x7 x8 x9 x10 x11 x12 x13).X (ogRow x0 r) (fun d => x1 (ix3 0 r d)) (fun k => x2 (ix3 0 r k))) := by
  unfold out0_19
  rw [View.canon_unit_zero (S := S1x1x256) z3, pay20_at, x2_row]

theorem out20_at (r : Fin 256) (j : Fin 1536) : out0_20 x0 x1 x2 x3 x4 x5 x6 x7 x8 x9 x10 x11 x12 x13 (ix3 0 r j) = code ((blockW x3 x4 x5 x6 x7 x8 x9 x10 x11 x12 x13).H (ogRow x0 r) (fun d => x1 (ix3 0 r d)) (fun k => x2 (ix3 0 r k))) j := by
  unfold out0_20
  rw [View.canon_unit_zero (S := S1x256x1536) z3, pay25_at, hid_row]

theorem out21_at (r : Fin 256) : out0_21 x0 x1 x2 x3 x4 x5 x6 x7 x8 x9 x10 x11 x12 x13 (ix3 0 0 r) = scale ((blockW x3 x4 x5 x6 x7 x8 x9 x10 x11 x12 x13).H (ogRow x0 r) (fun d => x1 (ix3 0 r d)) (fun k => x2 (ix3 0 r k))) := by
  unfold out0_21
  rw [View.canon_unit_zero (S := S1x1x256) z3, pay26_at, hid_row]

end Cert.KernelIdeal.Hand

end
-- ==== Proof.Post.Arrays.lean ====
/-
  The arrays of the second half of the layer: its inputs read as rows per token, and each result array as a function of
  the batch, the token and the column. Both programs' result arrays are read against these.
-/
module

public import proofs.«01_k».proof.Proof.Post.Rows

@[expose] public section

noncomputable section

namespace Cert.Rows

open Idealize.ShloMosaic

/-- The inputs: the weights, and the attention, activation and conditioning rows of every token. -/
structure Inputs where
  W : Weights
  og : Fin 5 → Fin 1664 → Fin 768 → EReal
  a : Fin 5 → Fin 1664 → Fin 768 → EReal
  s : Fin 5 → Fin 1664 → Fin 384 → EReal

namespace Inputs

variable (I : Inputs)

/-- The layer's result. -/
def y (b : Fin 5) (n : Fin 1664) (d : Fin 768) : EReal := I.W.Y (I.og b n) (I.a b n) (I.s b n) d
/-- The activations after the attention branch. -/
def mid (b : Fin 5) (n : Fin 1664) (d : Fin 768) : EReal := I.W.aMid (I.og b n) (I.a b n) (I.s b n) d
/-- The attention rows' codes, by head and channel, and scales. -/
def ogc (b : Fin 5) (h : Fin 16) (e : Fin 48) (n : Fin 1664) : EReal :=
  codeAt (I.og b n ⟨h.val * 48 + e.val, by omega⟩) (scale (I.og b n))
def ogs (b : Fin 5) (n : Fin 1664) : EReal := scale (I.og b n)
/-- The normalised rows' codes and scales. -/
def xc (b : Fin 5) (n : Fin 1664) (d : Fin 768) : EReal := code (I.W.X (I.og b n) (I.a b n) (I.s b n)) d
def xs (b : Fin 5) (n : Fin 1664) : EReal := scale (I.W.X (I.og b n) (I.a b n) (I.s b n))
/-- The hidden rows' codes and scales. -/
def hc (b : Fin 5) (n : Fin 1664) (j : Fin 1536) : EReal := code (I.W.H (I.og b n) (I.a b n) (I.s b n)) j
def hs (b : Fin 5) (n : Fin 1664) : EReal := scale (I.W.H (I.og b n) (I.a b n) (I.s b n))

end Inputs

end Cert.Rows

end
-- ==== Proof.Post.KernelReads.lean ====
/-
  What the arrays the region reads hold, at an index, in terms of the program's arguments: the host lines before the region
  are reshapes and one transpose.
-/
module

public import proofs.«01_k».proof.Proof.Gen.KernelIdeal.Frame
public import proofs.«01_k».proof.Proof.Post.Arrays
public import Idealize.ShloMosaic.Lib.StableHlo.ReadAt

@[expose] public section

set_option maxRecDepth 16384

noncomputable section

namespace Cert.KernelIdeal.Hand

open Cert.KernelIdeal Cert.KernelIdeal.Gen Cert.Rows
open Idealize.ShloMosaic Idealize.ShloMosaic.TcCoe
open Idealize.SL.Sem

variable (m : (ℓ : Loc nD τ sig) → Buf (Elt Ideal) ℓ)

theorem V_gain (c : Dev nD) (k : Fin 384) :
    V m c main_v0 (ix2 0 k) = m ((c : Thread nD τ).loc main_arg3) (ix1 k) := by
  unfold V
  after_reads_at

theorem V_wo (c : Dev nD) (k d : Fin 768) :
    V m c main_v1 (ix2 k d) = m ((c : Thread nD τ).loc main_arg4) (ix3 ⟨k.val / 48, by omega⟩ ⟨k.val % 48, by omega⟩ d) := by
  unfold V
  after_reads_at

theorem V_wos (c : Dev nD) (d : Fin 768) :
    V m c main_v2 (ix2 0 d) = m ((c : Thread nD τ).loc main_arg5) (ix1 d) := by
  unfold V
  after_reads_at

theorem V_wsg0 (c : Dev nD) (k : Fin 384) (d : Fin 768) :
    V m c main_v3 (ix2 k ⟨0 * 768 + d.val, by omega⟩) = m ((c : Thread nD τ).loc main_arg6) (ix3 k 0 d) := by
  unfold V
  after_reads_at
  exact congrArg (m ((c : Thread nD τ).loc main_arg6)) (congr (congrArg (ix3 k) (Fin.ext (by show _ / 768 = 0; omega))) (Fin.ext (by show d.val % 768 = d.val; omega)))

theorem V_wsg1 (c : Dev nD) (k : Fin 384) (d : Fin 768) :
    V m c main_v3 (ix2 k ⟨1 * 768 + d.val, by omega⟩) = m ((c : Thread nD τ).loc main_arg6) (ix3 k 1 d) := by
  unfold V
  after_reads_at
  exact congrArg (m ((c : Thread nD τ).loc main_arg6)) (congr (congrArg (ix3 k) (Fin.ext (by show _ / 768 = 1; omega))) rfl)

theorem V_wada0 (c : Dev nD) (k : Fin 384) (d : Fin 768) :
    V m c main_v4 (ix2 k ⟨0 * 768 + d.val, by omega⟩) = m ((c : Thread nD τ).loc main_arg8) (ix3 k 0 d) := by
  unfold V
  after_reads_at
  exact congrArg (m ((c : Thread nD τ).loc main_arg8)) (congr (congrArg (ix3 k) (Fin.ext (by show _ / 768 = 0; omega))) (Fin.ext (by show d.val % 768 = d.val; omega)))

theorem V_wada1 (c : Dev nD) (k : Fin 384) (d : Fin 768) :
    V m c main_v4 (ix2 k ⟨1 * 768 + d.val, by omega⟩) = m ((c : Thread nD τ).loc main_arg8) (ix3 k 1 d) := by
  unfold V
  after_reads_at
  exact congrArg (m ((c : Thread nD τ).loc main_arg8)) (congr (congrArg (ix3 k) (Fin.ext (by show _ / 768 = 1; omega))) rfl)

theorem V_win (c : Dev nD) (i : Fin 2) (k : Fin 768) (j : Fin 1536) :
    V m c main_v6 (ix3 i k j) = m ((c : Thread nD τ).loc main_arg10) (ix3 k i j) := by
  unfold V
  after_reads_at

theorem V_bada (c : Dev nD) (d : Fin 768) :
    V m c main_v5 (ix2 0 d) = m ((c : Thread nD τ).loc main_arg9) (ix1 d) := by
  unfold V
  after_reads_at

theorem V_wouts (c : Dev nD) (d : Fin 768) :
    V m c main_v7 (ix2 0 d) = m ((c : Thread nD τ).loc main_arg13) (ix1 d) := by
  unfold V
  after_reads_at

/-- The program's inputs. -/
def inputs (c : Dev nD) : Inputs where
  W :=
    { gain := fun k => m ((c : Thread nD τ).loc main_arg3) (ix1 k)
      wo := fun k d => m ((c : Thread nD τ).loc main_arg4) (ix3 ⟨k.val / 48, by omega⟩ ⟨k.val % 48, by omega⟩ d)
      wos := fun d => m ((c : Thread nD τ).loc main_arg5) (ix1 d)
      wsg := fun i k d => m ((c : Thread nD τ).loc main_arg6) (ix3 k i d)
      bsg := fun i d => m ((c : Thread nD τ).loc main_arg7) (ix2 i d)
      wada := fun i k d => m ((c : Thread nD τ).loc main_arg8) (ix3 k i d)
      bada := fun d => m ((c : Thread nD τ).loc main_arg9) (ix1 d)
      win := fun i k j => m ((c : Thread nD τ).loc main_arg10) (ix3 k i j)
      wins := fun i j => m ((c : Thread nD τ).loc main_arg11) (ix2 i j)
      wout := fun j d => m ((c : Thread nD τ).loc main_arg12) (ix2 j d)
      wouts := fun d => m ((c : Thread nD τ).loc main_arg13) (ix1 d) }
  og b n k := m ((c : Thread nD τ).loc main_arg0) (ix4 b ⟨k.val / 48, by omega⟩ ⟨k.val % 48, by omega⟩ n)
  a b n d := m ((c : Thread nD τ).loc main_arg1) (ix3 b n d)
  s b n k := m ((c : Thread nD τ).loc main_arg2) (ix3 b n k)

end Cert.KernelIdeal.Hand

end
-- ==== Proof.Post.KernelBlocks.lean ====
/-
  The blocks of the arrays the kernel's region leaves: every point's blocks, read inside the array, are the rows of the
  result arrays.
-/
module

public import proofs.«01_k».proof.Proof.Post.KernelIdealRun
public import proofs.«01_k».proof.Proof.Post.KernelRows
public import proofs.«01_k».proof.Proof.Post.KernelReads
public import Idealize.ShloMosaic.Lib.Pipeline.ValueKit.Geometry

@[expose] public section

set_option maxRecDepth 16384

noncomputable section

namespace Cert.KernelIdeal.Hand

open Cert.KernelIdeal Cert.KernelIdeal.Gen Cert.Rows
open Idealize.ShloMosaic Idealize.ShloMosaic.TcCoe
open Idealize.SL.Sem

variable (m : (ℓ : Loc nD τ sig) → Buf (Elt Ideal) ℓ)

/-! ## The windows' geometry -/

theorem e_0 : ∀ t : Fin cfg0.N, win0_0.index t = ![(grid0.coords t 0).val, 0, 0, (grid0.coords t 1).val] := (by decide +kernel : ∀ t : Fin grid0.N, _)
theorem x_0 : ∀ t : Fin cfg0.N, win0_0.xsize (grid0.coords t) = ![1, 16, 48, min 256 (1664 - (grid0.coords t 1).val * 256)] := (by decide +kernel : ∀ t : Fin grid0.N, _)
theorem e_1 : ∀ t : Fin cfg0.N, win0_1.index t = ![(grid0.coords t 0).val, (grid0.coords t 1).val, 0] := (by decide +kernel : ∀ t : Fin grid0.N, _)
theorem x_1 : ∀ t : Fin cfg0.N, win0_1.xsize (grid0.coords t) = ![1, min 256 (1664 - (grid0.coords t 1).val * 256), 768] := (by decide +kernel : ∀ t : Fin grid0.N, _)
theorem e_2 : ∀ t : Fin cfg0.N, win0_2.index t = ![(grid0.coords t 0).val, (grid0.coords t 1).val, 0] := (by decide +kernel : ∀ t : Fin grid0.N, _)
theorem x_2 : ∀ t : Fin cfg0.N, win0_2.xsize (grid0.coords t) = ![1, min 256 (1664 - (grid0.coords t 1).val * 256), 384] := (by decide +kernel : ∀ t : Fin grid0.N, _)
theorem e_14 : ∀ t : Fin cfg0.N, win0_14.index t = ![(grid0.coords t 0).val, (grid0.coords t 1).val, 0] := (by decide +kernel : ∀ t : Fin grid0.N, _)
theorem x_14 : ∀ t : Fin cfg0.N, win0_14.xsize (grid0.coords t) = ![1, min 256 (1664 - (grid0.coords t 1).val * 256), 768] := (by decide +kernel : ∀ t : Fin grid0.N, _)
theorem e_15 : ∀ t : Fin cfg0.N, win0_15.index t = ![(grid0.coords t 0).val, (grid0.coords t 1).val, 0] := (by decide +kernel : ∀ t : Fin grid0.N, _)
theorem x_15 : ∀ t : Fin cfg0.N, win0_15.xsize (grid0.coords t) = ![1, min 256 (1664 - (grid0.coords t 1).val * 256), 768] := (by decide +kernel : ∀ t : Fin grid0.N, _)
theorem e_16 : ∀ t : Fin cfg0.N, win0_16.index t = ![(grid0.coords t 0).val, 0, 0, (grid0.coords t 1).val] := (by decide +kernel : ∀ t : Fin grid0.N, _)
theorem x_16 : ∀ t : Fin cfg0.N, win0_16.xsize (grid0.coords t) = ![1, 16, 48, min 256 (1664 - (grid0.coords t 1).val * 256)] := (by decide +kernel : ∀ t : Fin grid0.N, _)
theorem e_17 : ∀ t : Fin cfg0.N, win0_17.index t = ![(grid0.coords t 0).val, 0, (grid0.coords t 1).val] := (by decide +kernel : ∀ t : Fin grid0.N, _)
theorem x_17 : ∀ t : Fin cfg0.N, win0_17.xsize (grid0.coords t) = ![1, 1, min 256 (1664 - (grid0.coords t 1).val * 256)] := (by decide +kernel : ∀ t : Fin grid0.N, _)
theorem e_18 : ∀ t : Fin cfg0.N, win0_18.index t = ![(grid0.coords t 0).val, (grid0.coords t 1).val, 0] := (by decide +kernel : ∀ t : Fin grid0.N, _)
theorem x_18 : ∀ t : Fin cfg0.N, win0_18.xsize (grid0.coords t) = ![1, min 256 (1664 - (grid0.coords t 1).val * 256), 768] := (by decide +kernel : ∀ t : Fin grid0.N, _)
theorem e_19 : ∀ t : Fin cfg0.N, win0_19.index t = ![(grid0.coords t 0).val, 0, (grid0.coords t 1).val] := (by decide +kernel : ∀ t : Fin grid0.N, _)
theorem x_19 : ∀ t : Fin cfg0.N, win0_19.xsize (grid0.coords t) = ![1, 1, min 256 (1664 - (grid0.coords t 1).val * 256)] := (by decide +kernel : ∀ t : Fin grid0.N, _)
theorem e_20 : ∀ t : Fin cfg0.N, win0_20.index t = ![(grid0.coords t 0).val, (grid0.coords t 1).val, 0] := (by decide +kernel : ∀ t : Fin grid0.N, _)
theorem x_20 : ∀ t : Fin cfg0.N, win0_20.xsize (grid0.coords t) = ![1, min 256 (1664 - (grid0.coords t 1).val * 256), 1536] := (by decide +kernel : ∀ t : Fin grid0.N, _)
theorem e_21 : ∀ t : Fin cfg0.N, win0_21.index t = ![(grid0.coords t 0).val, 0, (grid0.coords t 1).val] := (by decide +kernel : ∀ t : Fin grid0.N, _)
theorem x_21 : ∀ t : Fin cfg0.N, win0_21.xsize (grid0.coords t) = ![1, 1, min 256 (1664 - (grid0.coords t 1).val * 256)] := (by decide +kernel : ∀ t : Fin grid0.N, _)
theorem e_3 : ∀ t : Fin cfg0.N, win0_3.index t = ![0, 0] := (by decide +kernel : ∀ t : Fin grid0.N, _)
theorem e_4 : ∀ t : Fin cfg0.N, win0_4.index t = ![0, 0] := (by decide +kernel : ∀ t : Fin grid0.N, _)
theorem e_5 : ∀ t : Fin cfg0.N, win0_5.index t = ![0, 0] := (by decide +kernel : ∀ t : Fin grid0.N, _)
theorem e_6 : ∀ t : Fin cfg0.N, win0_6.index t = ![0, 0] := (by decide +kernel : ∀ t : Fin grid0.N, _)
theorem e_7 : ∀ t : Fin cfg0.N, win0_7.index t = ![0, 0] := (by decide +kernel : ∀ t : Fin grid0.N, _)
theorem e_8 : ∀ t : Fin cfg0.N, win0_8.index t = ![0, 0] := (by decide +kernel : ∀ t : Fin grid0.N, _)
theorem e_9 : ∀ t : Fin cfg0.N, win0_9.index t = ![0, 0] := (by decide +kernel : ∀ t : Fin grid0.N, _)
theorem e_10 : ∀ t : Fin cfg0.N, win0_10.index t = ![0, 0, 0] := (by decide +kernel : ∀ t : Fin grid0.N, _)
theorem e_11 : ∀ t : Fin cfg0.N, win0_11.index t = ![0, 0] := (by decide +kernel : ∀ t : Fin grid0.N, _)
theorem e_12 : ∀ t : Fin cfg0.N, win0_12.index t = ![0, 0] := (by decide +kernel : ∀ t : Fin grid0.N, _)
theorem e_13 : ∀ t : Fin cfg0.N, win0_13.index t = ![0, 0] := (by decide +kernel : ∀ t : Fin grid0.N, _)

/-! ## The weights: each block is its whole array -/

theorem iblk_3 (c : Dev nD) (t : Fin cfg0.N) : (iblk m c 3 t : Vec Ideal S1x384 .f32) = V m c main_v0 := by
  funext y
  blk_ext [iblk, e_3]
theorem iblk_4 (c : Dev nD) (t : Fin cfg0.N) : (iblk m c 4 t : Vec Ideal S768x768 .fp8e4m3) = V m c main_v1 := by
  funext y
  blk_ext [iblk, e_4]
theorem iblk_5 (c : Dev nD) (t : Fin cfg0.N) : (iblk m c 5 t : Vec Ideal S1x768 .f32) = V m c main_v2 := by
  funext y
  blk_ext [iblk, e_5]
theorem iblk_6 (c : Dev nD) (t : Fin cfg0.N) : (iblk m c 6 t : Vec Ideal S384x1536 .bf16) = V m c main_v3 := by
  funext y
  blk_ext [iblk, e_6]
theorem iblk_7 (c : Dev nD) (t : Fin cfg0.N) : (iblk m c 7 t : Vec Ideal S2x768 .f32) = V m c main_arg7 := by
  funext y
  blk_ext [iblk, e_7]
theorem iblk_8 (c : Dev nD) (t : Fin cfg0.N) : (iblk m c 8 t : Vec Ideal S384x1536 .bf16) = V m c main_v4 := by
  funext y
  blk_ext [iblk, e_8]
theorem iblk_9 (c : Dev nD) (t : Fin cfg0.N) : (iblk m c 9 t : Vec Ideal S1x768 .f32) = V m c main_v5 := by
  funext y
  blk_ext [iblk, e_9]
theorem iblk_10 (c : Dev nD) (t : Fin cfg0.N) : (iblk m c 10 t : Vec Ideal S2x768x1536 .fp8e4m3) = V m c main_v6 := by
  funext y
  blk_ext [iblk, e_10]
theorem iblk_11 (c : Dev nD) (t : Fin cfg0.N) : (iblk m c 11 t : Vec Ideal S2x1536 .f32) = V m c main_arg11 := by
  funext y
  blk_ext [iblk, e_11]
theorem iblk_12 (c : Dev nD) (t : Fin cfg0.N) : (iblk m c 12 t : Vec Ideal S1536x768 .fp8e4m3) = V m c main_arg12 := by
  funext y
  blk_ext [iblk, e_12]
theorem iblk_13 (c : Dev nD) (t : Fin cfg0.N) : (iblk m c 13 t : Vec Ideal S1x768 .f32) = V m c main_v7 := by
  funext y
  blk_ext [iblk, e_13]

/-- The weights the body finds at a point are the program's. -/
theorem weights_eq (c : Dev nD) (t : Fin cfg0.N) : blockW (iblk m c 3 t) (iblk m c 4 t) (iblk m c 5 t) (iblk m c 6 t) (iblk m c 7 t) (iblk m c 8 t) (iblk m c 9 t) (iblk m c 10 t) (iblk m c 11 t) (iblk m c 12 t) (iblk m c 13 t) = (inputs m c).W := by
  have h2 : ∀ (P : Fin 2 → Prop), P 0 → P 1 → ∀ i, P i := fun P h0 h1 i => by fin_cases i <;> assumption
  rw [iblk_3, iblk_4, iblk_5, iblk_6, iblk_7, iblk_8, iblk_9, iblk_10, iblk_11, iblk_12, iblk_13]
  unfold blockW inputs
  rw [Weights.mk.injEq]
  refine ⟨funext fun k => V_gain m c k, funext fun k => funext fun d => V_wo m c k d, funext fun d => V_wos m c d, ?_,
    by rw [V_main_arg7], ?_, funext fun d => V_bada m c d, funext fun i => funext fun k => funext fun j => V_win m c i k j,
    by rw [V_main_arg11], by rw [V_main_arg12], funext fun d => V_wouts m c d⟩
  · funext i k d
    exact h2 (fun i => V m c main_v3 (ix2 k ⟨i.val * 768 + d.val, by omega⟩) = m ((c : Thread nD τ).loc main_arg6) (ix3 k i d)) (V_wsg0 m c k d) (V_wsg1 m c k d) i
  · funext i k d
    exact h2 (fun i => V m c main_v4 (ix2 k ⟨i.val * 768 + d.val, by omega⟩) = m ((c : Thread nD τ).loc main_arg8) (ix3 k i d)) (V_wada0 m c k d) (V_wada1 m c k d) i

/-! ## The rows: a block's rows inside the array are the array's -/

theorem fill_of_lt {sig : RefSig} {G : Pipeline.Grid} (w : Pipeline.Window sig G) {α : Type} (i : G.Coords) (d : w.block.Idx → α) (g : (w.xblock i).Idx → α)
    (j : w.block.Idx) (h : ∀ a, (j a).val < w.xsize i a) : w.fill i d g j = g fun a => ⟨(j a).val, h a⟩ :=
  dif_pos ((w.moved_iff i j).mpr h)

/-- The batch of a point. -/
def bt (t : Fin cfg0.N) : Fin 5 := grid0.coords t 0

/-- The token of a block's row (the last one for a row past the array's end). -/
def tok (t : Fin cfg0.N) (r : Fin 256) : Fin 1664 := ⟨min ((grid0.coords t 1).val * 256 + r.val) 1663, by omega⟩

theorem tok_val (t : Fin cfg0.N) (r : Fin 256) (h : r.val < min 256 (1664 - (grid0.coords t 1).val * 256)) :
    (tok t r).val = (grid0.coords t 1).val * 256 + r.val := by unfold tok; simp only; omega

theorem ogRow_at (v : Vec Ideal S1x16x48x256 .f32) (r : Fin 256) (h : Fin 16) (e : Fin 48) :
    ogRow v r ⟨h.val * 48 + e.val, by omega⟩ = v (ix4 0 h e r) := by
  unfold ogRow
  congr 2
  · exact Fin.ext (by show (h.val * 48 + e.val) / 48 = h.val; omega)
  · exact Fin.ext (by show (h.val * 48 + e.val) % 48 = e.val; omega)

theorem og_row (c : Dev nD) (t : Fin cfg0.N) (d0 : Vec Ideal S1x16x48x256 .f32) (r : Fin 256) (h : r.val < min 256 (1664 - (grid0.coords t 1).val * 256)) :
    ogRow (win0_0.fill (grid0.coords t) d0 (iblk m c 0 t)) r = (inputs m c).og (bt t) (tok t r) := by
  funext k
  have hv := tok_val t r h
  have hb : ∀ a, ((ix4 (0 : Fin 1) (⟨k.val / 48, by omega⟩ : Fin 16) (⟨k.val % 48, by omega⟩ : Fin 48) r : S1x16x48x256.Idx) a).val < win0_0.xsize (grid0.coords t) a := fun a => by
    rw [x_0]; fin_cases a
    · exact Nat.one_pos
    · exact (show k.val / 48 < 16 by omega)
    · exact (show k.val % 48 < 48 by omega)
    · exact h
  have hg := fill_of_lt win0_0 (grid0.coords t) d0 (iblk m c 0 t) (ix4 (0 : Fin 1) (⟨k.val / 48, by omega⟩ : Fin 16) (⟨k.val % 48, by omega⟩ : Fin 48) r) hb
  refine hg.trans ?_
  show _ = m ((c : Thread nD τ).loc main_arg0) _
  rw [← V_main_arg0 m c]
  blk_ext [iblk, e_0, bt, hv]

theorem a_row (c : Dev nD) (t : Fin cfg0.N) (d1 : Vec Ideal S1x256x768 .bf16) (r : Fin 256) (h : r.val < min 256 (1664 - (grid0.coords t 1).val * 256)) :
    (fun d => win0_1.fill (grid0.coords t) d1 (iblk m c 1 t) (ix3 0 r d)) = (inputs m c).a (bt t) (tok t r) := by
  funext k
  have hv := tok_val t r h
  show _ = m ((c : Thread nD τ).loc main_arg1) _
  have hb : ∀ a, ((ix3 (0 : Fin 1) r k : S1x256x768.Idx) a).val < win0_1.xsize (grid0.coords t) a := fun a => by
    rw [x_1]; fin_cases a
    · exact Nat.one_pos
    · exact h
    · exact k.isLt
  have hg := fill_of_lt win0_1 (grid0.coords t) d1 (iblk m c 1 t) (ix3 (0 : Fin 1) r k) hb
  refine hg.trans ?_
  rw [← V_main_arg1 m c]
  blk_ext [iblk, e_1, bt, hv]

theorem s_row (c : Dev nD) (t : Fin cfg0.N) (d2 : Vec Ideal S1x256x384 .bf16) (r : Fin 256) (h : r.val < min 256 (1664 - (grid0.coords t 1).val * 256)) :
    (fun d => win0_2.fill (grid0.coords t) d2 (iblk m c 2 t) (ix3 0 r d)) = (inputs m c).s (bt t) (tok t r) := by
  funext k
  have hv := tok_val t r h
  show _ = m ((c : Thread nD τ).loc main_arg2) _
  have hb : ∀ a, ((ix3 (0 : Fin 1) r k : S1x256x384.Idx) a).val < win0_2.xsize (grid0.coords t) a := fun a => by
    rw [x_2]; fin_cases a
    · exact Nat.one_pos
    · exact h
    · exact k.isLt
  have hg := fill_of_lt win0_2 (grid0.coords t) d2 (iblk m c 2 t) (ix3 (0 : Fin 1) r k) hb
  refine hg.trans ?_
  rw [← V_main_arg2 m c]
  blk_ext [iblk, e_2, bt, hv]

/-! ## The result arrays and their blocks -/

/-- Result array 0, -/
def G14 (c : Dev nD) : Vec Ideal S5x1664x768 .bf16 := fun i => (inputs m c).y (i 0) (i 1) (i 2)
/-- and its block at a point. -/
def o14 (c : Dev nD) (t : Fin cfg0.N) : Vec Ideal S1x256x768 .bf16 := fun i => G14 m c (ix3 (bt t) (tok t (i 1)) (i 2))
/-- Result array 1, -/
def G15 (c : Dev nD) : Vec Ideal S5x1664x768 .f32 := fun i => (inputs m c).mid (i 0) (i 1) (i 2)
/-- and its block at a point. -/
def o15 (c : Dev nD) (t : Fin cfg0.N) : Vec Ideal S1x256x768 .f32 := fun i => G15 m c (ix3 (bt t) (tok t (i 1)) (i 2))
/-- Result array 2, -/
def G16 (c : Dev nD) : Vec Ideal S5x16x48x1664 .fp8e4m3 := fun i => (inputs m c).ogc (i 0) (i 1) (i 2) (i 3)
/-- and its block at a point. -/
def o16 (c : Dev nD) (t : Fin cfg0.N) : Vec Ideal S1x16x48x256 .fp8e4m3 := fun i => G16 m c (ix4 (bt t) (i 1) (i 2) (tok t (i 3)))
/-- Result array 3, -/
def G17 (c : Dev nD) : Vec Ideal S5x1x1664 .f32 := fun i => (inputs m c).ogs (i 0) (i 2)
/-- and its block at a point. -/
def o17 (c : Dev nD) (t : Fin cfg0.N) : Vec Ideal S1x1x256 .f32 := fun i => G17 m c (ix3 (bt t) 0 (tok t (i 2)))
/-- Result array 4, -/
def G18 (c : Dev nD) : Vec Ideal S5x1664x768 .fp8e4m3 := fun i => (inputs m c).xc (i 0) (i 1) (i 2)
/-- and its block at a point. -/
def o18 (c : Dev nD) (t : Fin cfg0.N) : Vec Ideal S1x256x768 .fp8e4m3 := fun i => G18 m c (ix3 (bt t) (tok t (i 1)) (i 2))
/-- Result array 5, -/
def G19 (c : Dev nD) : Vec Ideal S5x1x1664 .f32 := fun i => (inputs m c).xs (i 0) (i 2)
/-- and its block at a point. -/
def o19 (c : Dev nD) (t : Fin cfg0.N) : Vec Ideal S1x1x256 .f32 := fun i => G19 m c (ix3 (bt t) 0 (tok t (i 2)))
/-- Result array 6, -/
def G20 (c : Dev nD) : Vec Ideal S5x1664x1536 .fp8e4m3 := fun i => (inputs m c).hc (i 0) (i 1) (i 2)
/-- and its block at a point. -/
def o20 (c : Dev nD) (t : Fin cfg0.N) : Vec Ideal S1x256x1536 .fp8e4m3 := fun i => G20 m c (ix3 (bt t) (tok t (i 1)) (i 2))
/-- Result array 7, -/
def G21 (c : Dev nD) : Vec Ideal S5x1x1664 .f32 := fun i => (inputs m c).hs (i 0) (i 2)
/-- and its block at a point. -/
def o21 (c : Dev nD) (t : Fin cfg0.N) : Vec Ideal S1x1x256 .f32 := fun i => G21 m c (ix3 (bt t) 0 (tok t (i 2)))

/-- Inside the array the body stores the result's block. -/
theorem agree_14 (c : Dev nD) (t : Fin cfg0.N) (d0 : Vec Ideal S1x16x48x256 .f32) (d1 : Vec Ideal S1x256x768 .bf16) (d2 : Vec Ideal S1x256x384 .bf16) :
    win0_14.cut (grid0.coords t) (o14 m c t) = win0_14.cut (grid0.coords t) (out0_14 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  funext y
  have hr : (y 1).val < min 256 (1664 - (grid0.coords t 1).val * 256) := (y 1).isLt.trans_eq (congrFun (x_14 t) 1)
  let r : Fin 256 := ⟨(y 1).val, hr.trans_le (min_le_left _ _)⟩
  let c2 : Fin 768 := ⟨(y 2).val, ((y 2).isLt.trans_eq (congrFun (x_14 t) 2))⟩
  have hi : win0_14.xinj (grid0.coords t) y = ix3 (0 : Fin 1) r c2 := by
    funext a
    fin_cases a <;> first | rfl | exact Subsingleton.elim (α := Fin 1) _ _
  rw [Pipeline.Window.cut_apply, Pipeline.Window.cut_apply, hi]
  refine Eq.trans ?_ (out14_at (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t) r c2).symm
  try rw [weights_eq]
  simp only [og_row m c t d0 r hr, a_row m c t d1 r hr, s_row m c t d2 r hr]
  rfl

/-- Inside the array the body stores the result's block. -/
theorem agree_15 (c : Dev nD) (t : Fin cfg0.N) (d0 : Vec Ideal S1x16x48x256 .f32) (d1 : Vec Ideal S1x256x768 .bf16) (d2 : Vec Ideal S1x256x384 .bf16) :
    win0_15.cut (grid0.coords t) (o15 m c t) = win0_15.cut (grid0.coords t) (out0_15 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  funext y
  have hr : (y 1).val < min 256 (1664 - (grid0.coords t 1).val * 256) := (y 1).isLt.trans_eq (congrFun (x_15 t) 1)
  let r : Fin 256 := ⟨(y 1).val, hr.trans_le (min_le_left _ _)⟩
  let c2 : Fin 768 := ⟨(y 2).val, ((y 2).isLt.trans_eq (congrFun (x_15 t) 2))⟩
  have hi : win0_15.xinj (grid0.coords t) y = ix3 (0 : Fin 1) r c2 := by
    funext a
    fin_cases a <;> first | rfl | exact Subsingleton.elim (α := Fin 1) _ _
  rw [Pipeline.Window.cut_apply, Pipeline.Window.cut_apply, hi]
  refine Eq.trans ?_ (out15_at (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t) r c2).symm
  try rw [weights_eq]
  simp only [og_row m c t d0 r hr, a_row m c t d1 r hr, s_row m c t d2 r hr]
  rfl

/-- Inside the array the body stores the result's block. -/
theorem agree_16 (c : Dev nD) (t : Fin cfg0.N) (d0 : Vec Ideal S1x16x48x256 .f32) (d1 : Vec Ideal S1x256x768 .bf16) (d2 : Vec Ideal S1x256x384 .bf16) :
    win0_16.cut (grid0.coords t) (o16 m c t) = win0_16.cut (grid0.coords t) (out0_16 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  funext y
  have hr : (y 3).val < min 256 (1664 - (grid0.coords t 1).val * 256) := (y 3).isLt.trans_eq (congrFun (x_16 t) 3)
  let r : Fin 256 := ⟨(y 3).val, hr.trans_le (min_le_left _ _)⟩
  let h : Fin 16 := ⟨(y 1).val, ((y 1).isLt.trans_eq (congrFun (x_16 t) 1))⟩
  let e : Fin 48 := ⟨(y 2).val, ((y 2).isLt.trans_eq (congrFun (x_16 t) 2))⟩
  have hi : win0_16.xinj (grid0.coords t) y = ix4 (0 : Fin 1) h e r := by
    funext a
    fin_cases a <;> first | rfl | exact Subsingleton.elim (α := Fin 1) _ _
  rw [Pipeline.Window.cut_apply, Pipeline.Window.cut_apply, hi]
  refine Eq.trans ?_ (out16_at (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t) r h e).symm
  try rw [weights_eq]
  simp only [og_row m c t d0 r hr, a_row m c t d1 r hr, s_row m c t d2 r hr]
  have ho := congrFun (og_row m c t d0 r hr) ⟨h.val * 48 + e.val, by omega⟩
  rw [← ogRow_at (win0_0.fill (grid0.coords t) d0 (iblk m c 0 t)) r h e, ho]
  rfl

/-- Inside the array the body stores the result's block. -/
theorem agree_17 (c : Dev nD) (t : Fin cfg0.N) (d0 : Vec Ideal S1x16x48x256 .f32) (d1 : Vec Ideal S1x256x768 .bf16) (d2 : Vec Ideal S1x256x384 .bf16) :
    win0_17.cut (grid0.coords t) (o17 m c t) = win0_17.cut (grid0.coords t) (out0_17 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  funext y
  have hr : (y 2).val < min 256 (1664 - (grid0.coords t 1).val * 256) := (y 2).isLt.trans_eq (congrFun (x_17 t) 2)
  let r : Fin 256 := ⟨(y 2).val, hr.trans_le (min_le_left _ _)⟩
  have hi : win0_17.xinj (grid0.coords t) y = ix3 (0 : Fin 1) (0 : Fin 1) r := by
    funext a
    fin_cases a <;> first | rfl | exact Subsingleton.elim (α := Fin 1) _ _
  rw [Pipeline.Window.cut_apply, Pipeline.Window.cut_apply, hi]
  refine Eq.trans ?_ (out17_at (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t) r).symm
  try rw [weights_eq]
  simp only [og_row m c t d0 r hr, a_row m c t d1 r hr, s_row m c t d2 r hr]
  rfl

/-- Inside the array the body stores the result's block. -/
theorem agree_18 (c : Dev nD) (t : Fin cfg0.N) (d0 : Vec Ideal S1x16x48x256 .f32) (d1 : Vec Ideal S1x256x768 .bf16) (d2 : Vec Ideal S1x256x384 .bf16) :
    win0_18.cut (grid0.coords t) (o18 m c t) = win0_18.cut (grid0.coords t) (out0_18 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  funext y
  have hr : (y 1).val < min 256 (1664 - (grid0.coords t 1).val * 256) := (y 1).isLt.trans_eq (congrFun (x_18 t) 1)
  let r : Fin 256 := ⟨(y 1).val, hr.trans_le (min_le_left _ _)⟩
  let c2 : Fin 768 := ⟨(y 2).val, ((y 2).isLt.trans_eq (congrFun (x_18 t) 2))⟩
  have hi : win0_18.xinj (grid0.coords t) y = ix3 (0 : Fin 1) r c2 := by
    funext a
    fin_cases a <;> first | rfl | exact Subsingleton.elim (α := Fin 1) _ _
  rw [Pipeline.Window.cut_apply, Pipeline.Window.cut_apply, hi]
  refine Eq.trans ?_ (out18_at (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t) r c2).symm
  try rw [weights_eq]
  simp only [og_row m c t d0 r hr, a_row m c t d1 r hr, s_row m c t d2 r hr]
  rfl

/-- Inside the array the body stores the result's block. -/
theorem agree_19 (c : Dev nD) (t : Fin cfg0.N) (d0 : Vec Ideal S1x16x48x256 .f32) (d1 : Vec Ideal S1x256x768 .bf16) (d2 : Vec Ideal S1x256x384 .bf16) :
    win0_19.cut (grid0.coords t) (o19 m c t) = win0_19.cut (grid0.coords t) (out0_19 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  funext y
  have hr : (y 2).val < min 256 (1664 - (grid0.coords t 1).val * 256) := (y 2).isLt.trans_eq (congrFun (x_19 t) 2)
  let r : Fin 256 := ⟨(y 2).val, hr.trans_le (min_le_left _ _)⟩
  have hi : win0_19.xinj (grid0.coords t) y = ix3 (0 : Fin 1) (0 : Fin 1) r := by
    funext a
    fin_cases a <;> first | rfl | exact Subsingleton.elim (α := Fin 1) _ _
  rw [Pipeline.Window.cut_apply, Pipeline.Window.cut_apply, hi]
  refine Eq.trans ?_ (out19_at (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t) r).symm
  try rw [weights_eq]
  simp only [og_row m c t d0 r hr, a_row m c t d1 r hr, s_row m c t d2 r hr]
  rfl

/-- Inside the array the body stores the result's block. -/
theorem agree_20 (c : Dev nD) (t : Fin cfg0.N) (d0 : Vec Ideal S1x16x48x256 .f32) (d1 : Vec Ideal S1x256x768 .bf16) (d2 : Vec Ideal S1x256x384 .bf16) :
    win0_20.cut (grid0.coords t) (o20 m c t) = win0_20.cut (grid0.coords t) (out0_20 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  funext y
  have hr : (y 1).val < min 256 (1664 - (grid0.coords t 1).val * 256) := (y 1).isLt.trans_eq (congrFun (x_20 t) 1)
  let r : Fin 256 := ⟨(y 1).val, hr.trans_le (min_le_left _ _)⟩
  let c2 : Fin 1536 := ⟨(y 2).val, ((y 2).isLt.trans_eq (congrFun (x_20 t) 2))⟩
  have hi : win0_20.xinj (grid0.coords t) y = ix3 (0 : Fin 1) r c2 := by
    funext a
    fin_cases a <;> first | rfl | exact Subsingleton.elim (α := Fin 1) _ _
  rw [Pipeline.Window.cut_apply, Pipeline.Window.cut_apply, hi]
  refine Eq.trans ?_ (out20_at (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t) r c2).symm
  try rw [weights_eq]
  simp only [og_row m c t d0 r hr, a_row m c t d1 r hr, s_row m c t d2 r hr]
  rfl

/-- Inside the array the body stores the result's block. -/
theorem agree_21 (c : Dev nD) (t : Fin cfg0.N) (d0 : Vec Ideal S1x16x48x256 .f32) (d1 : Vec Ideal S1x256x768 .bf16) (d2 : Vec Ideal S1x256x384 .bf16) :
    win0_21.cut (grid0.coords t) (o21 m c t) = win0_21.cut (grid0.coords t) (out0_21 (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  funext y
  have hr : (y 2).val < min 256 (1664 - (grid0.coords t 1).val * 256) := (y 2).isLt.trans_eq (congrFun (x_21 t) 2)
  let r : Fin 256 := ⟨(y 2).val, hr.trans_le (min_le_left _ _)⟩
  have hi : win0_21.xinj (grid0.coords t) y = ix3 (0 : Fin 1) (0 : Fin 1) r := by
    funext a
    fin_cases a <;> first | rfl | exact Subsingleton.elim (α := Fin 1) _ _
  rw [Pipeline.Window.cut_apply, Pipeline.Window.cut_apply, hi]
  refine Eq.trans ?_ (out21_at (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) (iblk m c 11 t) (iblk m c 12 t) (iblk m c 13 t) r).symm
  try rw [weights_eq]
  simp only [og_row m c t d0 r hr, a_row m c t d1 r hr, s_row m c t d2 r hr]
  rfl

theorem agree (c : Dev nD) (t : Fin cfg0.N) : Agree m (o14 m) (o15 m) (o16 m) (o17 m) (o18 m) (o19 m) (o20 m) (o21 m) c t := fun d0 d1 d2 =>
  ⟨agree_14 m c t d0 d1 d2, agree_15 m c t d0 d1 d2, agree_16 m c t d0 d1 d2, agree_17 m c t d0 d1 d2, agree_18 m c t d0 d1 d2, agree_19 m c t d0 d1 d2, agree_20 m c t d0 d1 d2, agree_21 m c t d0 d1 d2⟩

end Cert.KernelIdeal.Hand

end
-- ==== Proof.Post.KernelArrays.lean ====
/-
  The arrays the kernel's region leaves: the blocks cover the arrays.
-/
module

public import proofs.«01_k».proof.Proof.Post.KernelBlocks
public import Idealize.ShloMosaic.Lib.Pipeline.ValueKit.Geometry

@[expose] public section

set_option maxRecDepth 16384

noncomputable section

namespace Cert.KernelIdeal.Hand

open Cert.KernelIdeal Cert.KernelIdeal.Gen Cert.Rows
open Idealize.ShloMosaic Idealize.ShloMosaic.TcCoe
open Idealize.SL.Sem

variable (m : (ℓ : Loc nD τ sig) → Buf (Elt Ideal) ℓ)

/-! ## The arrays after the run -/

theorem arr_14 (c : Dev nD) : (dats m (o14 m) (o15 m) (o16 m) (o17 m) (o18 m) (o19 m) (o20 m) (o21 m) 0 c).arrAt 14 cfg0.N = G14 m c := by
  refine (dats m (o14 m) (o15 m) (o16 m) (o17 m) (o18 m) (o19 m) (o20 m) (o21 m) 0 c).arrAt_eq_of_covers 14 _ (by decide +kernel) fun t hf y => ?_
  rw [after0_14]
  have hr : (y 1).val < min 256 (1664 - (grid0.coords t 1).val * 256) := (y 1).isLt.trans_eq (congrFun (x_14 t) 1)
  have hv := tok_val t ⟨(y 1).val, hr.trans_le (min_le_left _ _)⟩ hr
  refine congrArg (G14 m c) ?_
  have he := fun a => win0_14.rect_emb_val t y a rfl
  simp only [e_14 t] at he
  have h0 : (y 0).val < 1 := (y 0).isLt.trans_eq (congrFun (x_14 t) 0)
  have hb : (bt t).val = (grid0.coords t 0).val * 1 + (y 0).val := by show (grid0.coords t 0).val = _; omega
  funext a
  fin_cases a
  · exact Fin.ext (hb.trans (he 0).symm)
  · exact Fin.ext (hv.trans (he 1).symm)
  · exact Fin.ext ((show (y 2).val = 0 * _ + (y 2).val by omega).trans (he 2).symm)

theorem arr_15 (c : Dev nD) : (dats m (o14 m) (o15 m) (o16 m) (o17 m) (o18 m) (o19 m) (o20 m) (o21 m) 0 c).arrAt 15 cfg0.N = G15 m c := by
  refine (dats m (o14 m) (o15 m) (o16 m) (o17 m) (o18 m) (o19 m) (o20 m) (o21 m) 0 c).arrAt_eq_of_covers 15 _ (by decide +kernel) fun t hf y => ?_
  rw [after0_15]
  have hr : (y 1).val < min 256 (1664 - (grid0.coords t 1).val * 256) := (y 1).isLt.trans_eq (congrFun (x_15 t) 1)
  have hv := tok_val t ⟨(y 1).val, hr.trans_le (min_le_left _ _)⟩ hr
  refine congrArg (G15 m c) ?_
  have he := fun a => win0_15.rect_emb_val t y a rfl
  simp only [e_15 t] at he
  have h0 : (y 0).val < 1 := (y 0).isLt.trans_eq (congrFun (x_15 t) 0)
  have hb : (bt t).val = (grid0.coords t 0).val * 1 + (y 0).val := by show (grid0.coords t 0).val = _; omega
  funext a
  fin_cases a
  · exact Fin.ext (hb.trans (he 0).symm)
  · exact Fin.ext (hv.trans (he 1).symm)
  · exact Fin.ext ((show (y 2).val = 0 * _ + (y 2).val by omega).trans (he 2).symm)

theorem arr_16 (c : Dev nD) : (dats m (o14 m) (o15 m) (o16 m) (o17 m) (o18 m) (o19 m) (o20 m) (o21 m) 0 c).arrAt 16 cfg0.N = G16 m c := by
  refine (dats m (o14 m) (o15 m) (o16 m) (o17 m) (o18 m) (o19 m) (o20 m) (o21 m) 0 c).arrAt_eq_of_covers 16 _ (by decide +kernel) fun t hf y => ?_
  rw [after0_16]
  have hr : (y 3).val < min 256 (1664 - (grid0.coords t 1).val * 256) := (y 3).isLt.trans_eq (congrFun (x_16 t) 3)
  have hv := tok_val t ⟨(y 3).val, hr.trans_le (min_le_left _ _)⟩ hr
  refine congrArg (G16 m c) ?_
  have he := fun a => win0_16.rect_emb_val t y a rfl
  simp only [e_16 t] at he
  have h0 : (y 0).val < 1 := (y 0).isLt.trans_eq (congrFun (x_16 t) 0)
  have hb : (bt t).val = (grid0.coords t 0).val * 1 + (y 0).val := by show (grid0.coords t 0).val = _; omega
  funext a
  fin_cases a
  · exact Fin.ext (hb.trans (he 0).symm)
  · exact Fin.ext ((show (y 1).val = 0 * _ + (y 1).val by omega).trans (he 1).symm)
  · exact Fin.ext ((show (y 2).val = 0 * _ + (y 2).val by omega).trans (he 2).symm)
  · exact Fin.ext (hv.trans (he 3).symm)

theorem arr_17 (c : Dev nD) : (dats m (o14 m) (o15 m) (o16 m) (o17 m) (o18 m) (o19 m) (o20 m) (o21 m) 0 c).arrAt 17 cfg0.N = G17 m c := by
  refine (dats m (o14 m) (o15 m) (o16 m) (o17 m) (o18 m) (o19 m) (o20 m) (o21 m) 0 c).arrAt_eq_of_covers 17 _ (by decide +kernel) fun t hf y => ?_
  rw [after0_17]
  have hr : (y 2).val < min 256 (1664 - (grid0.coords t 1).val * 256) := (y 2).isLt.trans_eq (congrFun (x_17 t) 2)
  have hv := tok_val t ⟨(y 2).val, hr.trans_le (min_le_left _ _)⟩ hr
  refine congrArg (G17 m c) ?_
  have he := fun a => win0_17.rect_emb_val t y a rfl
  simp only [e_17 t] at he
  have h0 : (y 0).val < 1 := (y 0).isLt.trans_eq (congrFun (x_17 t) 0)
  have hb : (bt t).val = (grid0.coords t 0).val * 1 + (y 0).val := by show (grid0.coords t 0).val = _; omega
  funext a
  fin_cases a
  · exact Fin.ext (hb.trans (he 0).symm)
  · exact Fin.ext ((show 0 = 0 * 1 + (y 1).val by have : (y 1).val < 1 := (y 1).isLt.trans_eq (congrFun (x_17 t) 1); omega).trans (he 1).symm)
  · exact Fin.ext (hv.trans (he 2).symm)

theorem arr_18 (c : Dev nD) : (dats m (o14 m) (o15 m) (o16 m) (o17 m) (o18 m) (o19 m) (o20 m) (o21 m) 0 c).arrAt 18 cfg0.N = G18 m c := by
  refine (dats m (o14 m) (o15 m) (o16 m) (o17 m) (o18 m) (o19 m) (o20 m) (o21 m) 0 c).arrAt_eq_of_covers 18 _ (by decide +kernel) fun t hf y => ?_
  rw [after0_18]
  have hr : (y 1).val < min 256 (1664 - (grid0.coords t 1).val * 256) := (y 1).isLt.trans_eq (congrFun (x_18 t) 1)
  have hv := tok_val t ⟨(y 1).val, hr.trans_le (min_le_left _ _)⟩ hr
  refine congrArg (G18 m c) ?_
  have he := fun a => win0_18.rect_emb_val t y a rfl
  simp only [e_18 t] at he
  have h0 : (y 0).val < 1 := (y 0).isLt.trans_eq (congrFun (x_18 t) 0)
  have hb : (bt t).val = (grid0.coords t 0).val * 1 + (y 0).val := by show (grid0.coords t 0).val = _; omega
  funext a
  fin_cases a
  · exact Fin.ext (hb.trans (he 0).symm)
  · exact Fin.ext (hv.trans (he 1).symm)
  · exact Fin.ext ((show (y 2).val = 0 * _ + (y 2).val by omega).trans (he 2).symm)

theorem arr_19 (c : Dev nD) : (dats m (o14 m) (o15 m) (o16 m) (o17 m) (o18 m) (o19 m) (o20 m) (o21 m) 0 c).arrAt 19 cfg0.N = G19 m c := by
  refine (dats m (o14 m) (o15 m) (o16 m) (o17 m) (o18 m) (o19 m) (o20 m) (o21 m) 0 c).arrAt_eq_of_covers 19 _ (by decide +kernel) fun t hf y => ?_
  rw [after0_19]
  have hr : (y 2).val < min 256 (1664 - (grid0.coords t 1).val * 256) := (y 2).isLt.trans_eq (congrFun (x_19 t) 2)
  have hv := tok_val t ⟨(y 2).val, hr.trans_le (min_le_left _ _)⟩ hr
  refine congrArg (G19 m c) ?_
  have he := fun a => win0_19.rect_emb_val t y a rfl
  simp only [e_19 t] at he
  have h0 : (y 0).val < 1 := (y 0).isLt.trans_eq (congrFun (x_19 t) 0)
  have hb : (bt t).val = (grid0.coords t 0).val * 1 + (y 0).val := by show (grid0.coords t 0).val = _; omega
  funext a
  fin_cases a
  · exact Fin.ext (hb.trans (he 0).symm)
  · exact Fin.ext ((show 0 = 0 * 1 + (y 1).val by have : (y 1).val < 1 := (y 1).isLt.trans_eq (congrFun (x_19 t) 1); omega).trans (he 1).symm)
  · exact Fin.ext (hv.trans (he 2).symm)

theorem arr_20 (c : Dev nD) : (dats m (o14 m) (o15 m) (o16 m) (o17 m) (o18 m) (o19 m) (o20 m) (o21 m) 0 c).arrAt 20 cfg0.N = G20 m c := by
  refine (dats m (o14 m) (o15 m) (o16 m) (o17 m) (o18 m) (o19 m) (o20 m) (o21 m) 0 c).arrAt_eq_of_covers 20 _ (by decide +kernel) fun t hf y => ?_
  rw [after0_20]
  have hr : (y 1).val < min 256 (1664 - (grid0.coords t 1).val * 256) := (y 1).isLt.trans_eq (congrFun (x_20 t) 1)
  have hv := tok_val t ⟨(y 1).val, hr.trans_le (min_le_left _ _)⟩ hr
  refine congrArg (G20 m c) ?_
  have he := fun a => win0_20.rect_emb_val t y a rfl
  simp only [e_20 t] at he
  have h0 : (y 0).val < 1 := (y 0).isLt.trans_eq (congrFun (x_20 t) 0)
  have hb : (bt t).val = (grid0.coords t 0).val * 1 + (y 0).val := by show (grid0.coords t 0).val = _; omega
  funext a
  fin_cases a
  · exact Fin.ext (hb.trans (he 0).symm)
  · exact Fin.ext (hv.trans (he 1).symm)
  · exact Fin.ext ((show (y 2).val = 0 * _ + (y 2).val by omega).trans (he 2).symm)

theorem arr_21 (c : Dev nD) : (dats m (o14 m) (o15 m) (o16 m) (o17 m) (o18 m) (o19 m) (o20 m) (o21 m) 0 c).arrAt 21 cfg0.N = G21 m c := by
  refine (dats m (o14 m) (o15 m) (o16 m) (o17 m) (o18 m) (o19 m) (o20 m) (o21 m) 0 c).arrAt_eq_of_covers 21 _ (by decide +kernel) fun t hf y => ?_
  rw [after0_21]
  have hr : (y 2).val < min 256 (1664 - (grid0.coords t 1).val * 256) := (y 2).isLt.trans_eq (congrFun (x_21 t) 2)
  have hv := tok_val t ⟨(y 2).val, hr.trans_le (min_le_left _ _)⟩ hr
  refine congrArg (G21 m c) ?_
  have he := fun a => win0_21.rect_emb_val t y a rfl
  simp only [e_21 t] at he
  have h0 : (y 0).val < 1 := (y 0).isLt.trans_eq (congrFun (x_21 t) 0)
  have hb : (bt t).val = (grid0.coords t 0).val * 1 + (y 0).val := by show (grid0.coords t 0).val = _; omega
  funext a
  fin_cases a
  · exact Fin.ext (hb.trans (he 0).symm)
  · exact Fin.ext ((show 0 = 0 * 1 + (y 1).val by have : (y 1).val < 1 := (y 1).isLt.trans_eq (congrFun (x_21 t) 1); omega).trans (he 1).symm)
  · exact Fin.ext (hv.trans (he 2).symm)

end Cert.KernelIdeal.Hand

end
-- ==== Proof.Post.RefBlock.lean ====
/-
  What the reference computes, read at a token: each of its intermediate vectors, at row `R = 1664 b + n`, is the
  matching function of one token (Rows.lean) of the rows of token `(b, n)` of the whole arrays.
-/
module

public import proofs.«01_k».proof.Proof.Post.Rows
public import proofs.«01_k».proof.Proof.Gen.ReferenceIdeal.Skeleton
public import proofs.«01_k».proof.Proof.Gen.ReferenceIdeal

@[expose] public section

set_option maxRecDepth 16384

noncomputable section

namespace Cert.ReferenceIdeal.Hand

open Cert.ReferenceIdeal Cert.ReferenceIdeal.Gen Cert.Rows
open Idealize.ShloMosaic
open scoped BigOperators

/-- The batch of row `R` of the flattened tokens. -/
abbrev bOf (R : Fin 8320) : Fin 5 := ⟨R.val / 1664, by omega⟩
/-- Its position within the batch. -/
abbrev nOf (R : Fin 8320) : Fin 1664 := ⟨R.val % 1664, by omega⟩
/-- The row of token `n` of batch `b`. -/
abbrev rowOf (b : Fin 5) (n : Fin 1664) : Fin 8320 := ⟨b.val * 1664 + n.val, by omega⟩

theorem bOf_rowOf (b : Fin 5) (n : Fin 1664) : bOf (rowOf b n) = b := Fin.ext (by show (b.val * 1664 + n.val) / 1664 = b.val; omega)
theorem nOf_rowOf (b : Fin 5) (n : Fin 1664) : nOf (rowOf b n) = n := Fin.ext (by show (b.val * 1664 + n.val) % 1664 = n.val; omega)

/-- The attention row of a token, heads and head columns as one axis. -/
def ogRow (v : Vec Ideal S5x16x48x1664 .f32) (b : Fin 5) (n : Fin 1664) (k : Fin 768) : EReal :=
  v (ix4 b ⟨k.val / 48, by omega⟩ ⟨k.val % 48, by omega⟩ n)

theorem absMax_one {K : ℕ} (f : Fin K → EReal) :
    Finset.fold max (Ideal.ofBits .f32 0xFF800000#32) (fun k => FloatOps.absf (F := Ideal) (φ := .f32) (f k)) Finset.univ = absMax f := by
  have hb : Ideal.ofBits .f32 0xFF800000#32 = ⊥ := by simp [Ideal.ofBits, Ideal.ieee]
  rw [hb]; rfl

/-! ## Quantisation of the rows of an array -/

theorem pay15_at (v110 : FVec Ideal S8320 .f32) (R : Fin 8320) : k0_pay15 v110 (ix2 R 0) = scaleOf (v110 (ix1 R)) := by
  unfold k0_pay15
  pointwise
  rfl

/-- The largest magnitude of each row. -/
def rowMax (X : FVec Ideal S8320x768 .f32) : FVec Ideal S8320 .f32 :=
  multiReduction .maximumf [1] S8320 (absf X) 0xFF800000#32 reduces_S8320x768_S8320 (.inl rfl) rfl

theorem rowMax_at (X : FVec Ideal S8320x768 .f32) (R : Fin 8320) : rowMax X (ix1 R) = absMax (fun d => X (ix2 R d)) := by
  unfold rowMax
  pointwise [absMax_one]

/-- The same of a hidden row. -/
def rowMaxH (X : FVec Ideal S8320x1536 .f32) : FVec Ideal S8320 .f32 :=
  multiReduction .maximumf [1] S8320 (absf X) 0xFF800000#32 reduces_S8320x1536_S8320 (.inl rfl) rfl

theorem rowMaxH_at (X : FVec Ideal S8320x1536 .f32) (R : Fin 8320) : rowMaxH X (ix1 R) = absMax (fun d => X (ix2 R d)) := by
  unfold rowMaxH
  pointwise [absMax_one]

/-- The codes of an array at given row scales. -/
def codes (X : FVec Ideal S8320x768 .f32) (Y : FVec Ideal S8320x1 .f32) : FVec Ideal S8320x768 .fp8e4m3 :=
  have v13 : FVec Ideal S8320x768 .f32 := broadcastTo S8320x768 Y broadcasts_S8320x1_S8320x768
  have v14 : FVec Ideal S8320x768 .f32 := divf X v13
  have cst_6 : Ideal .f32 := Scalar.ofBits .f32 0xC3E00000#32
  have cst_7 : Ideal .f32 := Scalar.ofBits .f32 0x43E00000#32
  have v15 : FVec Ideal S8320x768 .f32 := broadcast S8320x768 cst_6
  have v16 : FVec Ideal S8320x768 .f32 := maximumf v15 v14
  have v17 : FVec Ideal S8320x768 .f32 := broadcast S8320x768 cst_7
  have v18 : FVec Ideal S8320x768 .f32 := minimumf v17 v16
  have v19 : FVec Ideal S8320x768 .fp8e4m3 := truncf .fp8e4m3 v18 bitsLt_fp8e4m3_f32
  v19

theorem codes_at (X : FVec Ideal S8320x768 .f32) (Y : FVec Ideal S8320x1 .f32) (R : Fin 8320) (d : Fin 768) :
    codes X Y (ix2 R d) = codeAt (X (ix2 R d)) (Y (ix2 R 0)) := by
  unfold codes
  pointwise
  rfl

/-- The same of a hidden array. -/
def codesH (X : FVec Ideal S8320x1536 .f32) (Y : FVec Ideal S8320x1 .f32) : FVec Ideal S8320x1536 .fp8e4m3 :=
  have v13 : FVec Ideal S8320x1536 .f32 := broadcastTo S8320x1536 Y broadcasts_S8320x1_S8320x1536
  have v14 : FVec Ideal S8320x1536 .f32 := divf X v13
  have cst_6 : Ideal .f32 := Scalar.ofBits .f32 0xC3E00000#32
  have cst_7 : Ideal .f32 := Scalar.ofBits .f32 0x43E00000#32
  have v15 : FVec Ideal S8320x1536 .f32 := broadcast S8320x1536 cst_6
  have v16 : FVec Ideal S8320x1536 .f32 := maximumf v15 v14
  have v17 : FVec Ideal S8320x1536 .f32 := broadcast S8320x1536 cst_7
  have v18 : FVec Ideal S8320x1536 .f32 := minimumf v17 v16
  have v19 : FVec Ideal S8320x1536 .fp8e4m3 := truncf .fp8e4m3 v18 bitsLt_fp8e4m3_f32
  v19

theorem codesH_at (X : FVec Ideal S8320x1536 .f32) (Y : FVec Ideal S8320x1 .f32) (R : Fin 8320) (d : Fin 1536) :
    codesH X Y (ix2 R d) = codeAt (X (ix2 R d)) (Y (ix2 R 0)) := by
  unfold codesH
  pointwise
  rfl

/-- Codes times codes, scaled by row and by column: the output projection. -/
def proj (C : FVec Ideal S8320x768 .fp8e4m3) (Y : FVec Ideal S8320x1 .f32) (v26 : Vec Ideal S768x768 .fp8e4m3) (v31 : Vec Ideal S1x768 .f32) : FVec Ideal S8320x768 .f32 :=
  mulf (mulf (matmul dot_S8320x768_S768x768_S8320x768_1_0_0_1_n_n none C
    (shapeCast S768x768 v26 shapeCasts_S768x768_S768x768 : FVec Ideal S768x768 .fp8e4m3) (constant S8320x768 .f32 0x00000000#32 : FVec Ideal S8320x768 .f32) : FVec Ideal S8320x768 .f32)
    (broadcastTo S8320x768 Y broadcasts_S8320x1_S8320x768))
    (broadcastTo S8320x768 (shapeCast S1x768 v31 shapeCasts_S1x768_S1x768 : FVec Ideal S1x768 .f32) broadcasts_S1x768_S8320x768)

theorem proj_at (C : FVec Ideal S8320x768 .fp8e4m3) (Y : FVec Ideal S8320x1 .f32) (v26 : Vec Ideal S768x768 .fp8e4m3) (v31 : Vec Ideal S1x768 .f32)
    (R : Fin 8320) (d : Fin 768) :
    proj C Y v26 v31 (ix2 R d) = dot (fun k => C (ix2 R k)) (fun k d => v26 (ix2 k d)) d * Y (ix2 R 0) * v31 (ix2 0 d) := by
  unfold proj
  pointwise [dot_S8320x768_S768x768_S8320x768_1_0_0_1_n_n]
  rfl

/-- The feed-forward result: codes times codes, scaled, gated, added. -/
def ffn (v53 v55 : FVec Ideal S8320x768 .f32) (C : FVec Ideal S8320x1536 .fp8e4m3) (Y : FVec Ideal S8320x1 .f32)
    (v168 : Vec Ideal S1536x768 .fp8e4m3) (v172 : Vec Ideal S1x768 .f32) : FVec Ideal S5x1664x768 .bf16 :=
  shapeCast S5x1664x768 (truncf .bf16 (addf v55 (mulf v53 (mulf (mulf
    (matmul (φ₂ := .fp8e4m3) dot_S8320x1536_S1536x768_S8320x768_1_0_0_1_n_n none C (v168 : FVec Ideal S1536x768 .fp8e4m3) (constant S8320x768 .f32 0x00000000#32 : FVec Ideal S8320x768 .f32) : FVec Ideal S8320x768 .f32)
    (broadcastTo S8320x768 Y broadcasts_S8320x1_S8320x768))
    (broadcastTo S8320x768 (shapeCast S1x768 v172 shapeCasts_S1x768_S1x768 : FVec Ideal S1x768 .f32) broadcasts_S1x768_S8320x768)))) bitsLt_bf16_f32 : FVec Ideal S8320x768 .bf16)
    shapeCasts_S8320x768_S5x1664x768

theorem ffn_at (v53 v55 : FVec Ideal S8320x768 .f32) (C : FVec Ideal S8320x1536 .fp8e4m3) (Y : FVec Ideal S8320x1 .f32)
    (v168 : Vec Ideal S1536x768 .fp8e4m3) (v172 : Vec Ideal S1x768 .f32) (b : Fin 5) (n : Fin 1664) (d : Fin 768) :
    ffn v53 v55 C Y v168 v172 (ix3 b n d)
      = v55 (ix2 (rowOf b n) d) + v53 (ix2 (rowOf b n) d)
        * (dot (fun j => C (ix2 (rowOf b n) j)) (fun j d => v168 (ix2 j d)) d * Y (ix2 (rowOf b n) 0) * v172 (ix2 0 d)) := by
  unfold ffn
  pointwise [dot_S8320x1536_S1536x768_S8320x768_1_0_0_1_n_n]
  rfl

/-! ## The intermediate vectors -/

theorem pay1_at (v : Vec Ideal S5x16x48x1664 .f32) (R : Fin 8320) (k : Fin 768) :
    k0_pay1 v (ix2 R k) = ogRow v (bOf R) (nOf R) k := by
  unfold k0_pay1
  pointwise
  rfl

theorem pay2_at (v : Vec Ideal S5x16x48x1664 .f32) (R : Fin 8320) :
    k0_pay2 v (ix2 R 0) = scale (ogRow v (bOf R) (nOf R)) := by
  rw [show k0_pay2 v = k0_pay15 (rowMax (k0_pay1 v)) from rfl, pay15_at, rowMax_at]
  simp only [pay1_at]
  rfl

theorem pay3_at (v : Vec Ideal S5x16x48x1664 .f32) (R : Fin 8320) (k : Fin 768) :
    k0_pay3 v (ix2 R k) = code (ogRow v (bOf R) (nOf R)) k := by
  rw [show k0_pay3 v = codes (k0_pay1 v) (k0_pay2 v) from rfl, codes_at, pay1_at, pay2_at]
  rfl

theorem pay4_at (v : Vec Ideal S5x16x48x1664 .f32) (b : Fin 5) (h : Fin 16) (e : Fin 48) (n : Fin 1664) :
    k0_pay4 v (ix4 b h e n) = codeAt (v (ix4 b h e n)) (scale (ogRow v b n)) := by
  unfold k0_pay4
  pointwise [pay3_at]
  rw [bOf_rowOf, nOf_rowOf]
  show codeAt (v _) _ = _
  congr 2
  refine congr (congr (congrArg _ (Fin.ext ?_)) (Fin.ext ?_)) rfl
  · show (h.val * 48 + e.val) / 48 = h.val
    omega
  · show (h.val * 48 + e.val) % 48 = e.val
    omega

theorem pay5_at (v : Vec Ideal S5x16x48x1664 .f32) (b : Fin 5) (n : Fin 1664) :
    k0_pay5 v (ix3 b 0 n) = scale (ogRow v b n) := by
  unfold k0_pay5
  pointwise [pay2_at]
  rw [bOf_rowOf, nOf_rowOf]

theorem pay6_at (v0 : Vec Ideal S5x16x48x1664 .f32) (v26 : Vec Ideal S768x768 .fp8e4m3) (v31 : Vec Ideal S1x768 .f32) (R : Fin 8320) (d : Fin 768) :
    k0_pay6 v0 v26 v31 (ix2 R d)
      = qdot (ogRow v0 (bOf R) (nOf R)) (fun k d => v26 (ix2 k d)) (fun d => v31 (ix2 0 d)) d := by
  rw [show k0_pay6 v0 v26 v31 = proj (k0_pay3 v0) (k0_pay2 v0) v26 v31 from rfl, proj_at, pay2_at]
  simp only [pay3_at]
  rfl

theorem pay7_at (v : Vec Ideal S5x1664x384 .bf16) (R : Fin 8320) (k : Fin 384) :
    k0_pay7 v (ix2 R k) = v (ix3 (bOf R) (nOf R) k) := by
  unfold k0_pay7
  pointwise

theorem pay8_at (v38 : Vec Ideal S5x1664x384 .bf16) (v47 : Vec Ideal S384x1x768 .bf16) (v50 : Vec Ideal S1x768 .f32) (R : Fin 8320) (d : Fin 768) :
    k0_pay8 v38 v47 v50 (ix2 R d)
      = Ideal.logistic (dot (fun k => v38 (ix3 (bOf R) (nOf R) k)) (fun k d => v47 (ix3 k 0 d)) d + v50 (ix2 0 d)) := by
  unfold k0_pay8
  pointwise [dot_S8320x384_S384x768_S8320x768_1_0_0_1_n_n, pay7_at]
  rfl

theorem pay9_at (v34 : FVec Ideal S8320x768 .f32) (v35 : Vec Ideal S5x1664x768 .bf16) (v38 : Vec Ideal S5x1664x384 .bf16)
    (v40 : Vec Ideal S384x1x768 .bf16) (v43 : Vec Ideal S1x768 .f32) (R : Fin 8320) (d : Fin 768) :
    k0_pay9 v34 v35 v38 v40 v43 (ix2 R d)
      = v35 (ix3 (bOf R) (nOf R) d)
        + Ideal.logistic (dot (fun k => v38 (ix3 (bOf R) (nOf R) k)) (fun k d => v40 (ix3 k 0 d)) d + v43 (ix2 0 d)) * v34 (ix2 R d) := by
  unfold k0_pay9
  pointwise [dot_S8320x384_S384x768_S8320x768_1_0_0_1_n_n, pay7_at]
  rfl

theorem pay11_at (v : Vec Ideal S5x1664x384 .bf16) (R : Fin 8320) (k : Fin 384) :
    k0_pay11 v (ix2 R k) = centred len384 (fun k => v (ix3 (bOf R) (nOf R) k)) k := by
  unfold k0_pay11
  pointwise [pay7_at]
  rfl

theorem pay12_at (v : Vec Ideal S5x1664x384 .bf16) (R : Fin 8320) :
    k0_pay12 v (ix2 R 0) = var len384 (fun k => v (ix3 (bOf R) (nOf R) k)) := by
  unfold k0_pay12
  pointwise [pay11_at]
  rfl

theorem pay13_at (v55 : FVec Ideal S8320x768 .f32) (v64 : FVec Ideal S8320x384 .f32) (v69 : FVec Ideal S8320x1 .f32)
    (v75 : Vec Ideal S1x384 .f32) (v96 : Vec Ideal S384x1x768 .bf16) (v99 : Vec Ideal S1x768 .f32) (v105 : Vec Ideal S384x1x768 .bf16)
    (R : Fin 8320) (d : Fin 768) :
    k0_pay13 v55 v64 v69 v75 v96 v99 v105 (ix2 R d)
      = normed len768 (fun d => v55 (ix2 R d)) d
          * Ideal.logistic (dot (fun k => Ideal.div (v64 (ix2 R k)) (Ideal.sqrt (v69 (ix2 R 0) + eps)) * v75 (ix2 0 k)) (fun k d => v96 (ix3 k 0 d)) d + v99 (ix2 0 d))
        + dot (fun k => Ideal.div (v64 (ix2 R k)) (Ideal.sqrt (v69 (ix2 R 0) + eps)) * v75 (ix2 0 k)) (fun k d => v105 (ix3 k 0 d)) d := by
  unfold k0_pay13
  pointwise [dot_S8320x384_S384x768_S8320x768_1_0_0_1_n_n]
  rfl

theorem pay14_at (v55 : FVec Ideal S8320x768 .f32) (v64 : FVec Ideal S8320x384 .f32) (v69 : FVec Ideal S8320x1 .f32)
    (v75 : Vec Ideal S1x384 .f32) (v96 : Vec Ideal S384x1x768 .bf16) (v99 : Vec Ideal S1x768 .f32) (v105 : Vec Ideal S384x1x768 .bf16)
    (R : Fin 8320) :
    k0_pay14 v55 v64 v69 v75 v96 v99 v105 (ix1 R) = absMax (fun d => k0_pay13 v55 v64 v69 v75 v96 v99 v105 (ix2 R d)) := by
  unfold k0_pay14
  pointwise [absMax_one]

theorem pay16_at (v108 : FVec Ideal S8320x768 .f32) (v110 : FVec Ideal S8320 .f32) (R : Fin 8320) (d : Fin 768) :
    k0_pay16 v108 v110 (ix2 R d) = codeAt (v108 (ix2 R d)) (scaleOf (v110 (ix1 R))) := by
  unfold k0_pay16
  pointwise [pay15_at]
  rfl

theorem pay19_at (v108 : FVec Ideal S8320x768 .f32) (v110 : FVec Ideal S8320 .f32) (v129 : Vec Ideal S768x1x1536 .fp8e4m3) (v134 : Vec Ideal S1x1536 .f32)
    (R : Fin 8320) (j : Fin 1536) :
    k0_pay19 v108 v110 v129 v134 (ix2 R j)
      = dot (fun k => codeAt (v108 (ix2 R k)) (scaleOf (v110 (ix1 R)))) (fun k j => v129 (ix3 k 0 j)) j * scaleOf (v110 (ix1 R)) * v134 (ix2 0 j) := by
  unfold k0_pay19
  pointwise [dot_S8320x768_S768x1536_S8320x1536_1_0_0_1_n_n, pay15_at, pay16_at]
  rfl

theorem pay20_at (v108 : FVec Ideal S8320x768 .f32) (v110 : FVec Ideal S8320 .f32) (v129 : Vec Ideal S768x1x1536 .fp8e4m3) (v134 : Vec Ideal S1x1536 .f32)
    (R : Fin 8320) (j : Fin 1536) :
    k0_pay20 v108 v110 v129 v134 (ix2 R j)
      = dot (fun k => codeAt (v108 (ix2 R k)) (scaleOf (v110 (ix1 R)))) (fun k j => v129 (ix3 k 0 j)) j * scaleOf (v110 (ix1 R)) * v134 (ix2 0 j) := by
  unfold k0_pay20
  pointwise [dot_S8320x768_S768x1536_S8320x1536_1_0_0_1_n_n, pay15_at, pay16_at]
  rfl

theorem pay22_at (v136 v144 v145 : FVec Ideal S8320x1536 .f32) (R : Fin 8320) (j : Fin 1536) :
    k0_pay22 v136 v144 v145 (ix2 R j) = v136 (ix2 R j) * v145 (ix2 R j) * v144 (ix2 R j) := rfl

theorem pay23_at (v136 v144 v145 : FVec Ideal S8320x1536 .f32) (R : Fin 8320) :
    k0_pay23 v136 v144 v145 (ix2 R 0) = scale (fun j => k0_pay22 v136 v144 v145 (ix2 R j)) := by
  rw [show k0_pay23 v136 v144 v145 = k0_pay15 (rowMaxH (k0_pay22 v136 v144 v145)) from rfl, pay15_at, rowMaxH_at]
  rfl

theorem pay24_at (v136 v144 v145 : FVec Ideal S8320x1536 .f32) (R : Fin 8320) (j : Fin 1536) :
    k0_pay24 v136 v144 v145 (ix2 R j) = code (fun j => k0_pay22 v136 v144 v145 (ix2 R j)) j := by
  rw [show k0_pay24 v136 v144 v145 = codesH (k0_pay22 v136 v144 v145) (k0_pay23 v136 v144 v145) from rfl, codesH_at, pay23_at]
  rfl

/-! ## The stores: the row of token `(b, n)` -/

theorem pay10_at (v34 : FVec Ideal S8320x768 .f32) (v35 : Vec Ideal S5x1664x768 .bf16) (v38 : Vec Ideal S5x1664x384 .bf16)
    (v40 : Vec Ideal S384x1x768 .bf16) (v43 : Vec Ideal S1x768 .f32) (b : Fin 5) (n : Fin 1664) (d : Fin 768) :
    k0_pay10 v34 v35 v38 v40 v43 (ix3 b n d) = k0_pay9 v34 v35 v38 v40 v43 (ix2 (rowOf b n) d) := by
  unfold k0_pay10
  pointwise

theorem pay17_at (v108 : FVec Ideal S8320x768 .f32) (v110 : FVec Ideal S8320 .f32) (b : Fin 5) (n : Fin 1664) (d : Fin 768) :
    k0_pay17 v108 v110 (ix3 b n d) = codeAt (v108 (ix2 (rowOf b n) d)) (scaleOf (v110 (ix1 (rowOf b n)))) := by
  rw [← pay16_at]
  unfold k0_pay17
  pointwise

theorem pay18_at (v110 : FVec Ideal S8320 .f32) (b : Fin 5) (n : Fin 1664) :
    k0_pay18 v110 (ix3 b 0 n) = scaleOf (v110 (ix1 (rowOf b n))) := by
  rw [← pay15_at]
  unfold k0_pay18
  pointwise

theorem pay25_at (v136 v144 v145 : FVec Ideal S8320x1536 .f32) (b : Fin 5) (n : Fin 1664) (j : Fin 1536) :
    k0_pay25 v136 v144 v145 (ix3 b n j) = code (fun j => k0_pay22 v136 v144 v145 (ix2 (rowOf b n) j)) j := by
  rw [← pay24_at]
  unfold k0_pay25
  pointwise

theorem pay26_at (v136 v144 v145 : FVec Ideal S8320x1536 .f32) (b : Fin 5) (n : Fin 1664) :
    k0_pay26 v136 v144 v145 (ix3 b 0 n) = scale (fun j => k0_pay22 v136 v144 v145 (ix2 (rowOf b n) j)) := by
  rw [← pay23_at]
  unfold k0_pay26
  pointwise

theorem pay27_at (v53 v55 : FVec Ideal S8320x768 .f32) (v136 v144 v145 : FVec Ideal S8320x1536 .f32)
    (v168 : Vec Ideal S1536x768 .fp8e4m3) (v172 : Vec Ideal S1x768 .f32) (b : Fin 5) (n : Fin 1664) (d : Fin 768) :
    k0_pay27 v53 v55 v136 v144 v145 v168 v172 (ix3 b n d)
      = v55 (ix2 (rowOf b n) d) + v53 (ix2 (rowOf b n) d)
        * qdot (fun j => k0_pay22 v136 v144 v145 (ix2 (rowOf b n) j)) (fun j d => v168 (ix2 j d)) (fun d => v172 (ix2 0 d)) d := by
  rw [show k0_pay27 v53 v55 v136 v144 v145 v168 v172 = ffn v53 v55 (k0_pay24 v136 v144 v145) (k0_pay23 v136 v144 v145) v168 v172 from rfl,
    ffn_at, pay23_at]
  simp only [pay24_at]
  rfl

end Cert.ReferenceIdeal.Hand

end
-- ==== Proof.Post.RefRows.lean ====
/-
  The reference's stores, read at a token: each is the token function of Rows.lean at that token's rows of the whole arrays
  and the weights the weight arrays hold.
-/
module

public import proofs.«01_k».proof.Proof.Post.RefBlock
public import proofs.«01_k».proof.Proof.Gen.ReferenceIdeal.Frame

@[expose] public section

set_option maxRecDepth 16384

noncomputable section

namespace Cert.ReferenceIdeal.Hand

open Cert.ReferenceIdeal Cert.ReferenceIdeal.Gen Cert.Rows
open Idealize.ShloMosaic
open scoped BigOperators

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-! ## Whole loads -/

theorem ld_0 (x : Vec Ideal S5x16x48x1664 .f32) : View.ld x r0_0 = x := View.ld_unit_zero (S := S5x16x48x1664) z4 _ x
theorem ld_2 (x : Vec Ideal S768x768 .fp8e4m3) : View.ld x r0_2 = x := View.ld_unit_zero (S := S768x768) z2 _ x
theorem ld_3 (x : Vec Ideal S1x768 .f32) : View.ld x r0_3 = x := View.ld_unit_zero (S := S1x768) z2 _ x
theorem ld_4 (x : Vec Ideal S5x1664x768 .bf16) : View.ld x r0_4 = x := View.ld_unit_zero (S := S5x1664x768) z3 _ x
theorem ld_5 (x : Vec Ideal S5x1664x384 .bf16) : View.ld x r0_5 = x := View.ld_unit_zero (S := S5x1664x384) z3 _ x
theorem ld_10 (x : Vec Ideal S1x384 .f32) : View.ld x r0_10 = x := View.ld_unit_zero (S := S1x384) z2 _ x
theorem ld_16 (x : Vec Ideal S1536x768 .fp8e4m3) : View.ld x r0_16 = x := View.ld_unit_zero (S := S1536x768) z2 _ x

theorem pay21_at (v108 : FVec Ideal S8320x768 .f32) (v110 : FVec Ideal S8320 .f32) (v129 : Vec Ideal S768x1x1536 .fp8e4m3) (v134 : Vec Ideal S1x1536 .f32)
    (R : Fin 8320) (j : Fin 1536) :
    k0_pay21 v108 v110 v129 v134 (ix2 R j) = Ideal.logistic (k0_pay19 v108 v110 v129 v134 (ix2 R j)) := by
  unfold k0_pay21
  pointwise

/-! ## The token functions -/

/-- The weights the weight arrays hold. -/
def refW (x3 : Vec Ideal S1x384 .f32) (x4 : Vec Ideal S768x768 .fp8e4m3) (x5 : Vec Ideal S1x768 .f32) (x6 : Vec Ideal S384x2x768 .bf16) (x7 : Vec Ideal S2x768 .f32) (x8 : Vec Ideal S384x2x768 .bf16) (x9 : Vec Ideal S1x768 .f32) (x10 : Vec Ideal S768x2x1536 .fp8e4m3) (x11 : Vec Ideal S2x1536 .f32) (x12 : Vec Ideal S1536x768 .fp8e4m3) (x13 : Vec Ideal S1x768 .f32) : Weights where
  gain k := x3 (ix2 0 k)
  wo k d := x4 (ix2 k d)
  wos d := x5 (ix2 0 d)
  wsg i k d := x6 (ix3 k i d)
  bsg i d := x7 (ix2 i d)
  wada i k d := x8 (ix3 k i d)
  bada d := x9 (ix2 0 d)
  win i k j := x10 (ix3 k i j)
  wins i j := x11 (ix2 i j)
  wout j d := x12 (ix2 j d)
  wouts d := x13 (ix2 0 d)

variable (x0 : Vec Ideal S5x16x48x1664 .f32) (x1 : Vec Ideal S5x1664x768 .bf16) (x2 : Vec Ideal S5x1664x384 .bf16) (x3 : Vec Ideal S1x384 .f32) (x4 : Vec Ideal S768x768 .fp8e4m3) (x5 : Vec Ideal S1x768 .f32) (x6 : Vec Ideal S384x2x768 .bf16) (x7 : Vec Ideal S2x768 .f32) (x8 : Vec Ideal S384x2x768 .bf16) (x9 : Vec Ideal S1x768 .f32) (x10 : Vec Ideal S768x2x1536 .fp8e4m3) (x11 : Vec Ideal S2x1536 .f32) (x12 : Vec Ideal S1536x768 .fp8e4m3) (x13 : Vec Ideal S1x768 .f32)

theorem aMid_at (R : Fin 8320) (d : Fin 768) : k0_pay29 x0 x1 x2 x3 x4 x5 x6 x7 x8 x9 x10 x11 x12 x13 (ix2 R d) = (refW x3 x4 x5 x6 x7 x8 x9 x10 x11 x12 x13).aMid (ogRow x0 (bOf R) (nOf R)) (fun d => x1 (ix3 (bOf R) (nOf R) d)) (fun k => x2 (ix3 (bOf R) (nOf R) k)) d := by
  unfold k0_pay29 k0_pay28
  simp only [pay9_at, pay6_at, ld_0, ld_2, ld_3, ld_4, ld_5]
  simp only [Weights.aMid, Weights.sgate, dot]
  pointwise [refW]

theorem x2_at (R : Fin 8320) (d : Fin 768) : k0_pay32 x0 x1 x2 x3 x4 x5 x6 x7 x8 x9 x10 x11 x12 x13 (ix2 R d) = (refW x3 x4 x5 x6 x7 x8 x9 x10 x11 x12 x13).X (ogRow x0 (bOf R) (nOf R)) (fun d => x1 (ix3 (bOf R) (nOf R) d)) (fun k => x2 (ix3 (bOf R) (nOf R) k)) d := by
  unfold k0_pay32 k0_pay30 k0_pay31
  simp only [ld_3, ld_5, ld_10]
  rw [pay13_at]
  simp only [aMid_at, pay11_at, pay12_at]
  simp only [Weights.X, Weights.x2, Weights.sn, normed, dot]
  pointwise [refW]

theorem x2_row (R : Fin 8320) : (fun d => k0_pay32 x0 x1 x2 x3 x4 x5 x6 x7 x8 x9 x10 x11 x12 x13 (ix2 R d)) = (refW x3 x4 x5 x6 x7 x8 x9 x10 x11 x12 x13).X (ogRow x0 (bOf R) (nOf R)) (fun d => x1 (ix3 (bOf R) (nOf R) d)) (fun k => x2 (ix3 (bOf R) (nOf R) k)) := funext fun d => x2_at x0 x1 x2 x3 x4 x5 x6 x7 x8 x9 x10 x11 x12 x13 R d

theorem max_at (R : Fin 8320) : k0_pay33 x0 x1 x2 x3 x4 x5 x6 x7 x8 x9 x10 x11 x12 x13 (ix1 R) = absMax ((refW x3 x4 x5 x6 x7 x8 x9 x10 x11 x12 x13).X (ogRow x0 (bOf R) (nOf R)) (fun d => x1 (ix3 (bOf R) (nOf R) d)) (fun k => x2 (ix3 (bOf R) (nOf R) k))) := by
  have h := x2_row x0 x1 x2 x3 x4 x5 x6 x7 x8 x9 x10 x11 x12 x13 R
  unfold k0_pay32 at h
  unfold k0_pay33
  rw [pay14_at, h]

theorem up_at (R : Fin 8320) (j : Fin 1536) :
    k0_pay34 x0 x1 x2 x3 x4 x5 x6 x7 x8 x9 x10 x11 x12 x13 (ix2 R j) = qdot ((refW x3 x4 x5 x6 x7 x8 x9 x10 x11 x12 x13).X (ogRow x0 (bOf R) (nOf R)) (fun d => x1 (ix3 (bOf R) (nOf R) d)) (fun k => x2 (ix3 (bOf R) (nOf R) k))) ((refW x3 x4 x5 x6 x7 x8 x9 x10 x11 x12 x13).win 0) ((refW x3 x4 x5 x6 x7 x8 x9 x10 x11 x12 x13).wins 0) j := by
  unfold k0_pay34
  rw [pay19_at]
  simp only [x2_at, max_at]
  simp only [qdot, dot, code, scale]
  pointwise [refW]

theorem gate_at (R : Fin 8320) (j : Fin 1536) :
    k0_pay35 x0 x1 x2 x3 x4 x5 x6 x7 x8 x9 x10 x11 x12 x13 (ix2 R j) = qdot ((refW x3 x4 x5 x6 x7 x8 x9 x10 x11 x12 x13).X (ogRow x0 (bOf R) (nOf R)) (fun d => x1 (ix3 (bOf R) (nOf R) d)) (fun k => x2 (ix3 (bOf R) (nOf R) k))) ((refW x3 x4 x5 x6 x7 x8 x9 x10 x11 x12 x13).win 1) ((refW x3 x4 x5 x6 x7 x8 x9 x10 x11 x12 x13).wins 1) j := by
  unfold k0_pay35
  rw [pay20_at]
  simp only [x2_at, max_at]
  simp only [qdot, dot, code, scale]
  pointwise [refW]

theorem hid_at (R : Fin 8320) (j : Fin 1536) :
    k0_pay22 (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (ix2 R j) = (refW x3 x4 x5 x6 x7 x8 x9 x10 x11 x12 x13).H (ogRow x0 (bOf R) (nOf R)) (fun d => x1 (ix3 (bOf R) (nOf R) d)) (fun k => x2 (ix3 (bOf R) (nOf R) k)) j := by
  have h : k0_pay36 x0 x1 x2 x3 x4 x5 x6 x7 x8 x9 x10 x11 x12 x13 (ix2 R j) = Ideal.logistic (k0_pay34 x0 x1 x2 x3 x4 x5 x6 x7 x8 x9 x10 x11 x12 x13 (ix2 R j)) := by
    unfold k0_pay36 k0_pay34
    exact pay21_at _ _ _ _ R j
  rw [pay22_at, h, up_at, gate_at]
  rfl

theorem hid_row (R : Fin 8320) :
    (fun j => k0_pay22 (k0_pay34 x0 x1 x2 x3 x4 x5 x6 x7 x8 x9 x10 x11 x12 x13) (k0_pay35 x0 x1 x2 x3 x4 x5 x6 x7 x8 x9 x10 x11 x12 x13) (k0_pay36 x0 x1 x2 x3 x4 x5 x6 x7 x8 x9 x10 x11 x12 x13) (ix2 R j)) = (refW x3 x4 x5 x6 x7 x8 x9 x10 x11 x12 x13).H (ogRow x0 (bOf R) (nOf R)) (fun d => x1 (ix3 (bOf R) (nOf R) d)) (fun k => x2 (ix3 (bOf R) (nOf R) k)) := funext fun j => hid_at x0 x1 x2 x3 x4 x5 x6 x7 x8 x9 x10 x11 x12 x13 R j

/-! ## The stores -/

theorem out14_at (b : Fin 5) (n : Fin 1664) (d : Fin 768) : out0_14 x0 x1 x2 x3 x4 x5 x6 x7 x8 x9 x10 x11 x12 x13 (ix3 b n d) = (refW x3 x4 x5 x6 x7 x8 x9 x10 x11 x12 x13).Y (ogRow x0 b n) (fun d => x1 (ix3 b n d)) (fun k => x2 (ix3 b n k)) d := by
  unfold out0_14
  rw [View.canon_unit_zero (S := S5x1664x768) z3]
  simp only [ld_3, ld_5, ld_16]
  rw [pay27_at]
  simp only [pay8_at, aMid_at, hid_row, bOf_rowOf, nOf_rowOf]
  simp only [Weights.Y, Weights.y, Weights.sgate, dot]
  pointwise [refW]

theorem out15_at (b : Fin 5) (n : Fin 1664) (d : Fin 768) : out0_15 x0 x1 x2 x3 x4 x5 x6 x7 x8 x9 x10 x11 x12 x13 (ix3 b n d) = (refW x3 x4 x5 x6 x7 x8 x9 x10 x11 x12 x13).aMid (ogRow x0 b n) (fun d => x1 (ix3 b n d)) (fun k => x2 (ix3 b n k)) d := by
  have h := aMid_at x0 x1 x2 x3 x4 x5 x6 x7 x8 x9 x10 x11 x12 x13 (rowOf b n) d
  unfold k0_pay29 at h
  unfold out0_15
  rw [View.canon_unit_zero (S := S5x1664x768) z3, pay10_at, h, bOf_rowOf, nOf_rowOf]

theorem out16_at (b : Fin 5) (h : Fin 16) (e : Fin 48) (n : Fin 1664) :
    out0_16 x0 x1 x2 x3 x4 x5 x6 x7 x8 x9 x10 x11 x12 x13 (ix4 b h e n) = codeAt (x0 (ix4 b h e n)) (scale (ogRow x0 b n)) := by
  unfold out0_16
  rw [View.canon_unit_zero (S := S5x16x48x1664) z4, pay4_at, ld_0]

theorem out17_at (b : Fin 5) (n : Fin 1664) : out0_17 x0 x1 x2 x3 x4 x5 x6 x7 x8 x9 x10 x11 x12 x13 (ix3 b 0 n) = scale (ogRow x0 b n) := by
  unfold out0_17
  rw [View.canon_unit_zero (S := S5x1x1664) z3, pay5_at, ld_0]

theorem out18_at (b : Fin 5) (n : Fin 1664) (d : Fin 768) : out0_18 x0 x1 x2 x3 x4 x5 x6 x7 x8 x9 x10 x11 x12 x13 (ix3 b n d) = code ((refW x3 x4 x5 x6 x7 x8 x9 x10 x11 x12 x13).X (ogRow x0 b n) (fun d => x1 (ix3 b n d)) (fun k => x2 (ix3 b n k))) d := by
  unfold out0_18
  rw [View.canon_unit_zero (S := S5x1664x768) z3, pay17_at, x2_at, max_at, bOf_rowOf, nOf_rowOf]
  rfl

theorem out19_at (b : Fin 5) (n : Fin 1664) : out0_19 x0 x1 x2 x3 x4 x5 x6 x7 x8 x9 x10 x11 x12 x13 (ix3 b 0 n) = scale ((refW x3 x4 x5 x6 x7 x8 x9 x10 x11 x12 x13).X (ogRow x0 b n) (fun d => x1 (ix3 b n d)) (fun k => x2 (ix3 b n k))) := by
  unfold out0_19
  rw [View.canon_unit_zero (S := S5x1x1664) z3, pay18_at, max_at, bOf_rowOf, nOf_rowOf]
  rfl

theorem out20_at (b : Fin 5) (n : Fin 1664) (j : Fin 1536) : out0_20 x0 x1 x2 x3 x4 x5 x6 x7 x8 x9 x10 x11 x12 x13 (ix3 b n j) = code ((refW x3 x4 x5 x6 x7 x8 x9 x10 x11 x12 x13).H (ogRow x0 b n) (fun d => x1 (ix3 b n d)) (fun k => x2 (ix3 b n k))) j := by
  unfold out0_20
  rw [View.canon_unit_zero (S := S5x1664x1536) z3, pay25_at, hid_row, bOf_rowOf, nOf_rowOf]

theorem out21_at (b : Fin 5) (n : Fin 1664) : out0_21 x0 x1 x2 x3 x4 x5 x6 x7 x8 x9 x10 x11 x12 x13 (ix3 b 0 n) = scale ((refW x3 x4 x5 x6 x7 x8 x9 x10 x11 x12 x13).H (ogRow x0 b n) (fun d => x1 (ix3 b n d)) (fun k => x2 (ix3 b n k))) := by
  unfold out0_21
  rw [View.canon_unit_zero (S := S5x1x1664) z3, pay26_at, hid_row, bOf_rowOf, nOf_rowOf]

end Cert.ReferenceIdeal.Hand

end
-- ==== Proof.Post.RefReads.lean ====
/-
  What the arrays the region reads hold, at an index, in terms of the program's arguments: the host lines before the region
  are reshapes and one transpose.
-/
module

public import proofs.«01_k».proof.Proof.Gen.ReferenceIdeal.Frame
public import proofs.«01_k».proof.Proof.Post.Arrays
public import Idealize.ShloMosaic.Lib.StableHlo.ReadAt

@[expose] public section

set_option maxRecDepth 16384

noncomputable section

namespace Cert.ReferenceIdeal.Hand

open Cert.ReferenceIdeal Cert.ReferenceIdeal.Gen Cert.Rows
open Idealize.ShloMosaic Idealize.ShloMosaic.TcCoe
open Idealize.SL.Sem

variable (m : (ℓ : Loc nD τ sig) → Buf (Elt Ideal) ℓ)

theorem V_gain (c : Dev nD) (k : Fin 384) :
    V m c main_v0 (ix2 0 k) = m ((c : Thread nD τ).loc main_arg3) (ix1 k) := by
  unfold V
  after_reads_at

theorem V_wo (c : Dev nD) (k d : Fin 768) :
    V m c main_v1 (ix2 k d) = m ((c : Thread nD τ).loc main_arg4) (ix3 ⟨k.val / 48, by omega⟩ ⟨k.val % 48, by omega⟩ d) := by
  unfold V
  after_reads_at

theorem V_wos (c : Dev nD) (d : Fin 768) :
    V m c main_v2 (ix2 0 d) = m ((c : Thread nD τ).loc main_arg5) (ix1 d) := by
  unfold V
  after_reads_at

theorem V_bada (c : Dev nD) (d : Fin 768) :
    V m c main_v3 (ix2 0 d) = m ((c : Thread nD τ).loc main_arg9) (ix1 d) := by
  unfold V
  after_reads_at

theorem V_wouts (c : Dev nD) (d : Fin 768) :
    V m c main_v4 (ix2 0 d) = m ((c : Thread nD τ).loc main_arg13) (ix1 d) := by
  unfold V
  after_reads_at

/-- The program's inputs. -/
def inputs (c : Dev nD) : Inputs where
  W :=
    { gain := fun k => m ((c : Thread nD τ).loc main_arg3) (ix1 k)
      wo := fun k d => m ((c : Thread nD τ).loc main_arg4) (ix3 ⟨k.val / 48, by omega⟩ ⟨k.val % 48, by omega⟩ d)
      wos := fun d => m ((c : Thread nD τ).loc main_arg5) (ix1 d)
      wsg := fun i k d => m ((c : Thread nD τ).loc main_arg6) (ix3 k i d)
      bsg := fun i d => m ((c : Thread nD τ).loc main_arg7) (ix2 i d)
      wada := fun i k d => m ((c : Thread nD τ).loc main_arg8) (ix3 k i d)
      bada := fun d => m ((c : Thread nD τ).loc main_arg9) (ix1 d)
      win := fun i k j => m ((c : Thread nD τ).loc main_arg10) (ix3 k i j)
      wins := fun i j => m ((c : Thread nD τ).loc main_arg11) (ix2 i j)
      wout := fun j d => m ((c : Thread nD τ).loc main_arg12) (ix2 j d)
      wouts := fun d => m ((c : Thread nD τ).loc main_arg13) (ix1 d) }
  og b n k := m ((c : Thread nD τ).loc main_arg0) (ix4 b ⟨k.val / 48, by omega⟩ ⟨k.val % 48, by omega⟩ n)
  a b n d := m ((c : Thread nD τ).loc main_arg1) (ix3 b n d)
  s b n k := m ((c : Thread nD τ).loc main_arg2) (ix3 b n k)

end Cert.ReferenceIdeal.Hand

end
-- ==== Proof.Post.RefArrays.lean ====
/-
  The arrays the reference's region leaves: one point, every window its whole array.
-/
module

public import proofs.«01_k».proof.Proof.Post.RefRows
public import proofs.«01_k».proof.Proof.Post.RefReads
public import Idealize.ShloMosaic.Lib.Pipeline.ValueKit.Geometry

@[expose] public section

set_option maxRecDepth 16384

noncomputable section

namespace Cert.ReferenceIdeal.Hand

open Cert.ReferenceIdeal Cert.ReferenceIdeal.Gen Cert.Rows
open Idealize.ShloMosaic Idealize.ShloMosaic.TcCoe
open Idealize.SL.Sem

variable (m : (ℓ : Loc nD τ sig) → Buf (Elt Ideal) ℓ)

/-! ## The blocks are the arrays -/

theorem e_0 : ∀ t : Fin cfg0.N, win0_0.index t = ![0, 0, 0, 0] := (by decide +kernel : ∀ t : Fin grid0.N, _)
theorem iblk_0 (c : Dev nD) (t : Fin cfg0.N) : (iblk m c 0 t : Vec Ideal S5x16x48x1664 .f32) = V m c main_arg0 := by
  funext y
  blk_ext [iblk, e_0]
theorem e_1 : ∀ t : Fin cfg0.N, win0_1.index t = ![0, 0, 0] := (by decide +kernel : ∀ t : Fin grid0.N, _)
theorem iblk_1 (c : Dev nD) (t : Fin cfg0.N) : (iblk m c 1 t : Vec Ideal S5x1664x768 .bf16) = V m c main_arg1 := by
  funext y
  blk_ext [iblk, e_1]
theorem e_2 : ∀ t : Fin cfg0.N, win0_2.index t = ![0, 0, 0] := (by decide +kernel : ∀ t : Fin grid0.N, _)
theorem iblk_2 (c : Dev nD) (t : Fin cfg0.N) : (iblk m c 2 t : Vec Ideal S5x1664x384 .bf16) = V m c main_arg2 := by
  funext y
  blk_ext [iblk, e_2]
theorem e_3 : ∀ t : Fin cfg0.N, win0_3.index t = ![0, 0] := (by decide +kernel : ∀ t : Fin grid0.N, _)
theorem iblk_3 (c : Dev nD) (t : Fin cfg0.N) : (iblk m c 3 t : Vec Ideal S1x384 .f32) = V m c main_v0 := by
  funext y
  blk_ext [iblk, e_3]
theorem e_4 : ∀ t : Fin cfg0.N, win0_4.index t = ![0, 0] := (by decide +kernel : ∀ t : Fin grid0.N, _)
theorem iblk_4 (c : Dev nD) (t : Fin cfg0.N) : (iblk m c 4 t : Vec Ideal S768x768 .fp8e4m3) = V m c main_v1 := by
  funext y
  blk_ext [iblk, e_4]
theorem e_5 : ∀ t : Fin cfg0.N, win0_5.index t = ![0, 0] := (by decide +kernel : ∀ t : Fin grid0.N, _)
theorem iblk_5 (c : Dev nD) (t : Fin cfg0.N) : (iblk m c 5 t : Vec Ideal S1x768 .f32) = V m c main_v2 := by
  funext y
  blk_ext [iblk, e_5]
theorem e_6 : ∀ t : Fin cfg0.N, win0_6.index t = ![0, 0, 0] := (by decide +kernel : ∀ t : Fin grid0.N, _)
theorem iblk_6 (c : Dev nD) (t : Fin cfg0.N) : (iblk m c 6 t : Vec Ideal S384x2x768 .bf16) = V m c main_arg6 := by
  funext y
  blk_ext [iblk, e_6]
theorem e_7 : ∀ t : Fin cfg0.N, win0_7.index t = ![0, 0] := (by decide +kernel : ∀ t : Fin grid0.N, _)
theorem iblk_7 (c : Dev nD) (t : Fin cfg0.N) : (iblk m c 7 t : Vec Ideal S2x768 .f32) = V m c main_arg7 := by
  funext y
  blk_ext [iblk, e_7]
theorem e_8 : ∀ t : Fin cfg0.N, win0_8.index t = ![0, 0, 0] := (by decide +kernel : ∀ t : Fin grid0.N, _)
theorem iblk_8 (c : Dev nD) (t : Fin cfg0.N) : (iblk m c 8 t : Vec Ideal S384x2x768 .bf16) = V m c main_arg8 := by
  funext y
  blk_ext [iblk, e_8]
theorem e_9 : ∀ t : Fin cfg0.N, win0_9.index t = ![0, 0] := (by decide +kernel : ∀ t : Fin grid0.N, _)
theorem iblk_9 (c : Dev nD) (t : Fin cfg0.N) : (iblk m c 9 t : Vec Ideal S1x768 .f32) = V m c main_v3 := by
  funext y
  blk_ext [iblk, e_9]
theorem e_10 : ∀ t : Fin cfg0.N, win0_10.index t = ![0, 0, 0] := (by decide +kernel : ∀ t : Fin grid0.N, _)
theorem iblk_10 (c : Dev nD) (t : Fin cfg0.N) : (iblk m c 10 t : Vec Ideal S768x2x1536 .fp8e4m3) = V m c main_arg10 := by
  funext y
  blk_ext [iblk, e_10]
theorem e_11 : ∀ t : Fin cfg0.N, win0_11.index t = ![0, 0] := (by decide +kernel : ∀ t : Fin grid0.N, _)
theorem iblk_11 (c : Dev nD) (t : Fin cfg0.N) : (iblk m c 11 t : Vec Ideal S2x1536 .f32) = V m c main_arg11 := by
  funext y
  blk_ext [iblk, e_11]
theorem e_12 : ∀ t : Fin cfg0.N, win0_12.index t = ![0, 0] := (by decide +kernel : ∀ t : Fin grid0.N, _)
theorem iblk_12 (c : Dev nD) (t : Fin cfg0.N) : (iblk m c 12 t : Vec Ideal S1536x768 .fp8e4m3) = V m c main_arg12 := by
  funext y
  blk_ext [iblk, e_12]
theorem e_13 : ∀ t : Fin cfg0.N, win0_13.index t = ![0, 0] := (by decide +kernel : ∀ t : Fin grid0.N, _)
theorem iblk_13 (c : Dev nD) (t : Fin cfg0.N) : (iblk m c 13 t : Vec Ideal S1x768 .f32) = V m c main_v4 := by
  funext y
  blk_ext [iblk, e_13]

/-- The weights the body finds are the program's. -/
theorem weights_eq (c : Dev nD) : refW (V m c main_v0) (V m c main_v1) (V m c main_v2) (V m c main_arg6) (V m c main_arg7) (V m c main_arg8) (V m c main_v3) (V m c main_arg10) (V m c main_arg11) (V m c main_arg12) (V m c main_v4) = (inputs m c).W := by
  unfold refW inputs
  rw [Weights.mk.injEq]
  exact ⟨funext fun k => V_gain m c k, funext fun k => funext fun d => V_wo m c k d, funext fun d => V_wos m c d, by rw [V_main_arg6],
    by rw [V_main_arg7], by rw [V_main_arg8], funext fun d => V_bada m c d, by rw [V_main_arg10],
    by rw [V_main_arg11], by rw [V_main_arg12], funext fun d => V_wouts m c d⟩

theorem og_row (c : Dev nD) (b : Fin 5) (n : Fin 1664) : ogRow (V m c main_arg0) b n = (inputs m c).og b n := by
  rw [V_main_arg0]; rfl
theorem a_row (c : Dev nD) (b : Fin 5) (n : Fin 1664) : (fun d => (V m c main_arg1 : Vec Ideal S5x1664x768 .bf16) (ix3 b n d)) = (inputs m c).a b n := by
  rw [V_main_arg1]; rfl
theorem s_row (c : Dev nD) (b : Fin 5) (n : Fin 1664) : (fun d => (V m c main_arg2 : Vec Ideal S5x1664x384 .bf16) (ix3 b n d)) = (inputs m c).s b n := by
  rw [V_main_arg2]; rfl
theorem ogRow_at (v : Vec Ideal S5x16x48x1664 .f32) (b : Fin 5) (n : Fin 1664) (h : Fin 16) (e : Fin 48) :
    ogRow v b n ⟨h.val * 48 + e.val, by omega⟩ = v (ix4 b h e n) := by
  unfold ogRow
  congr 2
  · exact Fin.ext (by show (h.val * 48 + e.val) / 48 = h.val; omega)
  · exact Fin.ext (by show (h.val * 48 + e.val) % 48 = e.val; omega)

/-! ## The result arrays -/

/-- Result array 0. -/
def G14 (c : Dev nD) : Vec Ideal S5x1664x768 .bf16 := fun i => (inputs m c).y (i 0) (i 1) (i 2)

/-- Result array 1. -/
def G15 (c : Dev nD) : Vec Ideal S5x1664x768 .f32 := fun i => (inputs m c).mid (i 0) (i 1) (i 2)

/-- Result array 2. -/
def G16 (c : Dev nD) : Vec Ideal S5x16x48x1664 .fp8e4m3 := fun i => (inputs m c).ogc (i 0) (i 1) (i 2) (i 3)

/-- Result array 3. -/
def G17 (c : Dev nD) : Vec Ideal S5x1x1664 .f32 := fun i => (inputs m c).ogs (i 0) (i 2)

/-- Result array 4. -/
def G18 (c : Dev nD) : Vec Ideal S5x1664x768 .fp8e4m3 := fun i => (inputs m c).xc (i 0) (i 1) (i 2)

/-- Result array 5. -/
def G19 (c : Dev nD) : Vec Ideal S5x1x1664 .f32 := fun i => (inputs m c).xs (i 0) (i 2)

/-- Result array 6. -/
def G20 (c : Dev nD) : Vec Ideal S5x1664x1536 .fp8e4m3 := fun i => (inputs m c).hc (i 0) (i 1) (i 2)

/-- Result array 7. -/
def G21 (c : Dev nD) : Vec Ideal S5x1x1664 .f32 := fun i => (inputs m c).hs (i 0) (i 2)

theorem out14_eq (c : Dev nD) (j : S5x1664x768.Idx) : out0_14 (V m c main_arg0) (V m c main_arg1) (V m c main_arg2) (V m c main_v0) (V m c main_v1) (V m c main_v2) (V m c main_arg6) (V m c main_arg7) (V m c main_arg8) (V m c main_v3) (V m c main_arg10) (V m c main_arg11) (V m c main_arg12) (V m c main_v4) j = G14 m c j := by
  obtain ⟨b, n, d, rfl⟩ : ∃ b n d, j = ix3 b n d := ⟨j 0, j 1, j 2, funext fun a => by fin_cases a <;> rfl⟩
  rw [out14_at]
  rw [weights_eq, og_row, a_row, s_row]
  rfl

theorem whole_14 : (cfg0.win 14).WholeAt t0_0 := by decide +kernel

theorem after_14 (c : Dev nD) : ((dats m 0 c).after 14 t0_0 : Vec Ideal S5x1664x768 .bf16) = G14 m c := by
  rw [after0_14, iblk_0, iblk_1, iblk_2, iblk_3, iblk_4, iblk_5, iblk_6, iblk_7, iblk_8, iblk_9, iblk_10, iblk_11, iblk_12, iblk_13]
  exact funext (out14_eq m c)

theorem arr_14 (c : Dev nD) : (dats m 0 c).arrAt 14 cfg0.N = G14 m c := by
  refine (dats m 0 c).arrAt_eq_of_after_last 14 t0_0 whole_14 _ fun j => ?_
  blk_simp
  exact congrFun (after_14 m c) j

theorem out15_eq (c : Dev nD) (j : S5x1664x768.Idx) : out0_15 (V m c main_arg0) (V m c main_arg1) (V m c main_arg2) (V m c main_v0) (V m c main_v1) (V m c main_v2) (V m c main_arg6) (V m c main_arg7) (V m c main_arg8) (V m c main_v3) (V m c main_arg10) (V m c main_arg11) (V m c main_arg12) (V m c main_v4) j = G15 m c j := by
  obtain ⟨b, n, d, rfl⟩ : ∃ b n d, j = ix3 b n d := ⟨j 0, j 1, j 2, funext fun a => by fin_cases a <;> rfl⟩
  rw [out15_at]
  rw [weights_eq, og_row, a_row, s_row]
  rfl

theorem whole_15 : (cfg0.win 15).WholeAt t0_0 := by decide +kernel

theorem after_15 (c : Dev nD) : ((dats m 0 c).after 15 t0_0 : Vec Ideal S5x1664x768 .f32) = G15 m c := by
  rw [after0_15, iblk_0, iblk_1, iblk_2, iblk_3, iblk_4, iblk_5, iblk_6, iblk_7, iblk_8, iblk_9, iblk_10, iblk_11, iblk_12, iblk_13]
  exact funext (out15_eq m c)

theorem arr_15 (c : Dev nD) : (dats m 0 c).arrAt 15 cfg0.N = G15 m c := by
  refine (dats m 0 c).arrAt_eq_of_after_last 15 t0_0 whole_15 _ fun j => ?_
  blk_simp
  exact congrFun (after_15 m c) j

theorem out16_eq (c : Dev nD) (j : S5x16x48x1664.Idx) : out0_16 (V m c main_arg0) (V m c main_arg1) (V m c main_arg2) (V m c main_v0) (V m c main_v1) (V m c main_v2) (V m c main_arg6) (V m c main_arg7) (V m c main_arg8) (V m c main_v3) (V m c main_arg10) (V m c main_arg11) (V m c main_arg12) (V m c main_v4) j = G16 m c j := by
  obtain ⟨b, h, e, n, rfl⟩ : ∃ b h e n, j = ix4 b h e n := ⟨j 0, j 1, j 2, j 3, funext fun a => by fin_cases a <;> rfl⟩
  rw [out16_at]
  rw [← ogRow_at (V m c main_arg0) b n h e, og_row]
  rfl

theorem whole_16 : (cfg0.win 16).WholeAt t0_0 := by decide +kernel

theorem after_16 (c : Dev nD) : ((dats m 0 c).after 16 t0_0 : Vec Ideal S5x16x48x1664 .fp8e4m3) = G16 m c := by
  rw [after0_16, iblk_0, iblk_1, iblk_2, iblk_3, iblk_4, iblk_5, iblk_6, iblk_7, iblk_8, iblk_9, iblk_10, iblk_11, iblk_12, iblk_13]
  exact funext (out16_eq m c)

theorem arr_16 (c : Dev nD) : (dats m 0 c).arrAt 16 cfg0.N = G16 m c := by
  refine (dats m 0 c).arrAt_eq_of_after_last 16 t0_0 whole_16 _ fun j => ?_
  blk_simp
  exact congrFun (after_16 m c) j

theorem out17_eq (c : Dev nD) (j : S5x1x1664.Idx) : out0_17 (V m c main_arg0) (V m c main_arg1) (V m c main_arg2) (V m c main_v0) (V m c main_v1) (V m c main_v2) (V m c main_arg6) (V m c main_arg7) (V m c main_arg8) (V m c main_v3) (V m c main_arg10) (V m c main_arg11) (V m c main_arg12) (V m c main_v4) j = G17 m c j := by
  obtain ⟨b, n, rfl⟩ : ∃ b n, j = ix3 b (0 : Fin 1) n := ⟨j 0, j 2, funext fun a => by fin_cases a <;> first | rfl | exact Subsingleton.elim (α := Fin 1) _ _⟩
  rw [out17_at]
  rw [og_row]
  rfl

theorem whole_17 : (cfg0.win 17).WholeAt t0_0 := by decide +kernel

theorem after_17 (c : Dev nD) : ((dats m 0 c).after 17 t0_0 : Vec Ideal S5x1x1664 .f32) = G17 m c := by
  rw [after0_17, iblk_0, iblk_1, iblk_2, iblk_3, iblk_4, iblk_5, iblk_6, iblk_7, iblk_8, iblk_9, iblk_10, iblk_11, iblk_12, iblk_13]
  exact funext (out17_eq m c)

theorem arr_17 (c : Dev nD) : (dats m 0 c).arrAt 17 cfg0.N = G17 m c := by
  refine (dats m 0 c).arrAt_eq_of_after_last 17 t0_0 whole_17 _ fun j => ?_
  blk_simp
  exact congrFun (after_17 m c) j

theorem out18_eq (c : Dev nD) (j : S5x1664x768.Idx) : out0_18 (V m c main_arg0) (V m c main_arg1) (V m c main_arg2) (V m c main_v0) (V m c main_v1) (V m c main_v2) (V m c main_arg6) (V m c main_arg7) (V m c main_arg8) (V m c main_v3) (V m c main_arg10) (V m c main_arg11) (V m c main_arg12) (V m c main_v4) j = G18 m c j := by
  obtain ⟨b, n, d, rfl⟩ : ∃ b n d, j = ix3 b n d := ⟨j 0, j 1, j 2, funext fun a => by fin_cases a <;> rfl⟩
  rw [out18_at]
  rw [weights_eq, og_row, a_row, s_row]
  rfl

theorem whole_18 : (cfg0.win 18).WholeAt t0_0 := by decide +kernel

theorem after_18 (c : Dev nD) : ((dats m 0 c).after 18 t0_0 : Vec Ideal S5x1664x768 .fp8e4m3) = G18 m c := by
  rw [after0_18, iblk_0, iblk_1, iblk_2, iblk_3, iblk_4, iblk_5, iblk_6, iblk_7, iblk_8, iblk_9, iblk_10, iblk_11, iblk_12, iblk_13]
  exact funext (out18_eq m c)

theorem arr_18 (c : Dev nD) : (dats m 0 c).arrAt 18 cfg0.N = G18 m c := by
  refine (dats m 0 c).arrAt_eq_of_after_last 18 t0_0 whole_18 _ fun j => ?_
  blk_simp
  exact congrFun (after_18 m c) j

theorem out19_eq (c : Dev nD) (j : S5x1x1664.Idx) : out0_19 (V m c main_arg0) (V m c main_arg1) (V m c main_arg2) (V m c main_v0) (V m c main_v1) (V m c main_v2) (V m c main_arg6) (V m c main_arg7) (V m c main_arg8) (V m c main_v3) (V m c main_arg10) (V m c main_arg11) (V m c main_arg12) (V m c main_v4) j = G19 m c j := by
  obtain ⟨b, n, rfl⟩ : ∃ b n, j = ix3 b (0 : Fin 1) n := ⟨j 0, j 2, funext fun a => by fin_cases a <;> first | rfl | exact Subsingleton.elim (α := Fin 1) _ _⟩
  rw [out19_at]
  rw [weights_eq, og_row, a_row, s_row]
  rfl

theorem whole_19 : (cfg0.win 19).WholeAt t0_0 := by decide +kernel

theorem after_19 (c : Dev nD) : ((dats m 0 c).after 19 t0_0 : Vec Ideal S5x1x1664 .f32) = G19 m c := by
  rw [after0_19, iblk_0, iblk_1, iblk_2, iblk_3, iblk_4, iblk_5, iblk_6, iblk_7, iblk_8, iblk_9, iblk_10, iblk_11, iblk_12, iblk_13]
  exact funext (out19_eq m c)

theorem arr_19 (c : Dev nD) : (dats m 0 c).arrAt 19 cfg0.N = G19 m c := by
  refine (dats m 0 c).arrAt_eq_of_after_last 19 t0_0 whole_19 _ fun j => ?_
  blk_simp
  exact congrFun (after_19 m c) j

theorem out20_eq (c : Dev nD) (j : S5x1664x1536.Idx) : out0_20 (V m c main_arg0) (V m c main_arg1) (V m c main_arg2) (V m c main_v0) (V m c main_v1) (V m c main_v2) (V m c main_arg6) (V m c main_arg7) (V m c main_arg8) (V m c main_v3) (V m c main_arg10) (V m c main_arg11) (V m c main_arg12) (V m c main_v4) j = G20 m c j := by
  obtain ⟨b, n, d, rfl⟩ : ∃ b n d, j = ix3 b n d := ⟨j 0, j 1, j 2, funext fun a => by fin_cases a <;> rfl⟩
  rw [out20_at]
  rw [weights_eq, og_row, a_row, s_row]
  rfl

theorem whole_20 : (cfg0.win 20).WholeAt t0_0 := by decide +kernel

theorem after_20 (c : Dev nD) : ((dats m 0 c).after 20 t0_0 : Vec Ideal S5x1664x1536 .fp8e4m3) = G20 m c := by
  rw [after0_20, iblk_0, iblk_1, iblk_2, iblk_3, iblk_4, iblk_5, iblk_6, iblk_7, iblk_8, iblk_9, iblk_10, iblk_11, iblk_12, iblk_13]
  exact funext (out20_eq m c)

theorem arr_20 (c : Dev nD) : (dats m 0 c).arrAt 20 cfg0.N = G20 m c := by
  refine (dats m 0 c).arrAt_eq_of_after_last 20 t0_0 whole_20 _ fun j => ?_
  blk_simp
  exact congrFun (after_20 m c) j

theorem out21_eq (c : Dev nD) (j : S5x1x1664.Idx) : out0_21 (V m c main_arg0) (V m c main_arg1) (V m c main_arg2) (V m c main_v0) (V m c main_v1) (V m c main_v2) (V m c main_arg6) (V m c main_arg7) (V m c main_arg8) (V m c main_v3) (V m c main_arg10) (V m c main_arg11) (V m c main_arg12) (V m c main_v4) j = G21 m c j := by
  obtain ⟨b, n, rfl⟩ : ∃ b n, j = ix3 b (0 : Fin 1) n := ⟨j 0, j 2, funext fun a => by fin_cases a <;> first | rfl | exact Subsingleton.elim (α := Fin 1) _ _⟩
  rw [out21_at]
  rw [weights_eq, og_row, a_row, s_row]
  rfl

theorem whole_21 : (cfg0.win 21).WholeAt t0_0 := by decide +kernel

theorem after_21 (c : Dev nD) : ((dats m 0 c).after 21 t0_0 : Vec Ideal S5x1x1664 .f32) = G21 m c := by
  rw [after0_21, iblk_0, iblk_1, iblk_2, iblk_3, iblk_4, iblk_5, iblk_6, iblk_7, iblk_8, iblk_9, iblk_10, iblk_11, iblk_12, iblk_13]
  exact funext (out21_eq m c)

theorem arr_21 (c : Dev nD) : (dats m 0 c).arrAt 21 cfg0.N = G21 m c := by
  refine (dats m 0 c).arrAt_eq_of_after_last 21 t0_0 whole_21 _ fun j => ?_
  blk_simp
  exact congrFun (after_21 m c) j

end Cert.ReferenceIdeal.Hand

end
-- ==== Proof.Post.Equation.lean ====
/-
  The runs of the two programs at the ideal instance, each result array named, and the equation between them: the programs'
  inputs are the same when their arguments are.
-/
module

public import proofs.«01_k».proof.Proof.Post.KernelArrays
public import proofs.«01_k».proof.Proof.Post.RefArrays
public import Idealize.ShloMosaic.Adequacy
public import Idealize.ShloMosaic.Init

@[expose] public section

set_option maxRecDepth 16384
set_option maxHeartbeats 1600000

noncomputable section

namespace Cert.KernelIdeal.Hand

open Cert.KernelIdeal Cert.KernelIdeal.Gen Cert.Rows
open Idealize.ShloMosaic Idealize.ShloMosaic.TcCoe
open Idealize.SL.Sem

variable (m : (ℓ : Loc nD τ sig) → Buf (Elt Ideal) ℓ) (ρ : Dev nD → PrngReg)

/-- Every argument array ends as it began. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m (o14 m) (o15 m) (o16 m) (o17 m) (o18 m) (o19 m) (o20 m) (o21 m)) (A_eq m (o14 m) (o15 m) (o16 m) (o17 m) (o18 m) (o19 m) (o20 m) (o21 m)) ((θ_run defs _ _).mono (fun _ h => h.1) (run_main_quiescent m ρ (o14 m) (o15 m) (o16 m) (o17 m) (o18 m) (o19 m) (o20 m) (o21 m) (agree m)))

/-- The frame: the arguments unchanged and every semaphore counter at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ (o14 m) (o15 m) (o16 m) (o17 m) (o18 m) (o19 m) (o20 m) (o21 m) (agree m)))

/-- The run's results, the arguments unchanged. -/
theorem results : θ_run defs (onTc (τ := τ) (main (F := Ideal))) ⟨m, fun _ => 0, ρ⟩ (fun r => ∀ c : Dev nD,
      r.2.mem ((c.tc : Thread nD τ).loc main_v8_0) = G14 m c
      ∧ r.2.mem ((c.tc : Thread nD τ).loc main_v8_1) = G15 m c
      ∧ r.2.mem ((c.tc : Thread nD τ).loc main_v8_2) = G16 m c
      ∧ r.2.mem ((c.tc : Thread nD τ).loc main_v8_3) = G17 m c
      ∧ r.2.mem ((c.tc : Thread nD τ).loc main_v8_4) = G18 m c
      ∧ r.2.mem ((c.tc : Thread nD τ).loc main_v8_5) = G19 m c
      ∧ r.2.mem ((c.tc : Thread nD τ).loc main_v8_6) = G20 m c
      ∧ r.2.mem ((c.tc : Thread nD τ).loc main_v8_7) = G21 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h.1.1 c).1 14).trans (arr_14 m c), ((h.1.1 c).1 15).trans (arr_15 m c), ((h.1.1 c).1 16).trans (arr_16 m c), ((h.1.1 c).1 17).trans (arr_17 m c), ((h.1.1 c).1 18).trans (arr_18 m c), ((h.1.1 c).1 19).trans (arr_19 m c), ((h.1.1 c).1 20).trans (arr_20 m c), ((h.1.1 c).1 21).trans (arr_21 m c), h.2 c⟩)
    (θ_run_and (run_main_quiescent m ρ (o14 m) (o15 m) (o16 m) (o17 m) (o18 m) (o19 m) (o20 m) (o21 m) (agree m)) (unchanged m ρ))

end Cert.KernelIdeal.Hand

namespace Cert.ReferenceIdeal.Hand

open Cert.ReferenceIdeal Cert.ReferenceIdeal.Gen Cert.Rows
open Idealize.ShloMosaic Idealize.ShloMosaic.TcCoe
open Idealize.SL.Sem

variable (m : (ℓ : Loc nD τ sig) → Buf (Elt Ideal) ℓ) (ρ : Dev nD → PrngReg)

/-- Every argument array ends as it began. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) ((θ_run defs _ _).mono (fun _ h => h.1) (run_main_quiescent m ρ))

/-- The frame: the arguments unchanged and every semaphore counter at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

/-- The run's results, the arguments unchanged. -/
theorem results : θ_run defs (onTc (τ := τ) (main (F := Ideal))) ⟨m, fun _ => 0, ρ⟩ (fun r => ∀ c : Dev nD,
      r.2.mem ((c.tc : Thread nD τ).loc main_v5_0) = G14 m c
      ∧ r.2.mem ((c.tc : Thread nD τ).loc main_v5_1) = G15 m c
      ∧ r.2.mem ((c.tc : Thread nD τ).loc main_v5_2) = G16 m c
      ∧ r.2.mem ((c.tc : Thread nD τ).loc main_v5_3) = G17 m c
      ∧ r.2.mem ((c.tc : Thread nD τ).loc main_v5_4) = G18 m c
      ∧ r.2.mem ((c.tc : Thread nD τ).loc main_v5_5) = G19 m c
      ∧ r.2.mem ((c.tc : Thread nD τ).loc main_v5_6) = G20 m c
      ∧ r.2.mem ((c.tc : Thread nD τ).loc main_v5_7) = G21 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h.1.1 c).1 14).trans (arr_14 m c), ((h.1.1 c).1 15).trans (arr_15 m c), ((h.1.1 c).1 16).trans (arr_16 m c), ((h.1.1 c).1 17).trans (arr_17 m c), ((h.1.1 c).1 18).trans (arr_18 m c), ((h.1.1 c).1 19).trans (arr_19 m c), ((h.1.1 c).1 20).trans (arr_20 m c), ((h.1.1 c).1 21).trans (arr_21 m c), h.2 c⟩)
    (θ_run_and (run_main_quiescent m ρ) (unchanged m ρ))

end Cert.ReferenceIdeal.Hand

namespace Cert.Rows

open Idealize.ShloMosaic Idealize.SL.Sem

/-- Equal arguments are equal inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Hand.inputs m' c = Cert.KernelIdeal.Hand.inputs m c := by
  obtain ⟨h0, h1, h2, h3, h4, h5, h6, h7, h8, h9, h10, h11, h12, h13⟩ := h
  unfold Cert.ReferenceIdeal.Hand.inputs Cert.KernelIdeal.Hand.inputs
  rw [h0, h1, h2, h3, h4, h5, h6, h7, h8, h9, h10, h11, h12, h13]

end Cert.Rows

end
-- ==== Proof.Pre.KernelBody.lean ====
/-
  What the body of the first call leaves in the seven output buffers written at every point, as a function of what the input
  buffers hold, and the body's triple on whole buffers.
-/
module

public import proofs.«01_k».proof.Proof.Gen.PreKernel.Skeleton
public import proofs.«01_k».proof.Proof.Gen.PreKernel.Frame

@[expose] public section

set_option maxRecDepth 16384

noncomputable section

namespace Cert.PreKernel.Hand

open Cert.PreKernel Cert.PreKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

abbrev r0_a : Rect S1x256x768 := Rect.unit (s := S1x256x768) ![0, 0, 0] S1x256x768.size inb_S1x256x768_S1x256x768_0_0_0
abbrev r0_s : Rect S1x256x384 := Rect.unit (s := S1x256x384) ![0, 0, 0] S1x256x384.size inb_S1x256x384_S1x256x384_0_0_0
abbrev r0_gain : Rect S1x384 := Rect.unit (s := S1x384) ![0, 0] S1x384.size inb_S1x384_S1x384_0_0
abbrev r0_wada : Rect S384x1536 := Rect.unit (s := S384x1536) ![0, 0] S384x1536.size inb_S384x1536_S384x1536_0_0
abbrev r0_bada : Rect S1x768 := Rect.unit (s := S1x768) ![0, 0] S1x768.size inb_S1x768_S1x768_0_0
abbrev r0_wq : Rect S3072x768 := Rect.unit (s := S3072x768) ![0, 0] S768x768.size inb_S3072x768_S768x768_0_0
abbrev r0_sq : Rect S3072x128 := Rect.unit (s := S3072x128) ![0, 0] S768x128.size inb_S3072x128_S768x128_0_0
abbrev r0_wk : Rect S3072x768 := Rect.unit (s := S3072x768) ![768, 0] S768x768.size inb_S3072x768_S768x768_768_0
abbrev r0_sk : Rect S3072x128 := Rect.unit (s := S3072x128) ![768, 0] S768x128.size inb_S3072x128_S768x128_768_0
abbrev r0_wv : Rect S3072x768 := Rect.unit (s := S3072x768) ![1536, 0] S768x768.size inb_S3072x768_S768x768_1536_0
abbrev r0_sv : Rect S3072x128 := Rect.unit (s := S3072x128) ![1536, 0] S768x128.size inb_S3072x128_S768x128_1536_0
abbrev r0_wg : Rect S3072x768 := Rect.unit (s := S3072x768) ![2304, 0] S768x768.size inb_S3072x768_S768x768_2304_0
abbrev r0_sg : Rect S3072x128 := Rect.unit (s := S3072x128) ![2304, 0] S768x128.size inb_S3072x128_S768x128_2304_0
abbrev r0_bq : Rect S768x128 := Rect.unit (s := S768x128) ![0, 0] S768x128.size inb_S768x128_S768x128_0_0
abbrev r0_row : Rect S1x1x256 := Rect.unit (s := S1x1x256) ![0, 0, 0] S1x1x256.size inb_S1x1x256_S1x1x256_0_0_0
abbrev r0_hrow : Rect S1x16x256 := Rect.unit (s := S1x16x256) ![0, 0, 0] S1x16x256.size inb_S1x16x256_S1x16x256_0_0_0
abbrev r0_heads : Rect S1x16x48x256 := Rect.unit (s := S1x16x48x256) ![0, 0, 0, 0] S1x16x48x256.size inb_S1x16x48x256_S1x16x48x256_0_0_0_0

/-! ## What the body leaves in each output window's buffer -/

/-- The bias row of the adaptive norm, -/
def bias (x4 : Vec F S1x768 .f32) : FVec F S1x768 .f32 := k0_pay16 (View.ld x4 r0_bada)
/-- the gate and shift rows made of the conditioning rows, -/
def ada (x1 : Vec F S1x256x384 .bf16) (x2 : Vec F S1x384 .f32) (x3 : Vec F S384x1536 .bf16) : FVec F S256x1536 .f32 :=
  k0_pay17 (View.ld x1 r0_s) (View.ld x2 r0_gain) (View.ld x3 r0_wada)
/-- the centred rows of the block, -/
def cent (x0 : Vec F S1x256x768 .bf16) : FVec F S256x768 .f32 := k0_pay18 (View.ld x0 r0_a)
/-- the codes of the normed and modulated rows, -/
def codes (x0 : Vec F S1x256x768 .bf16) (x1 : Vec F S1x256x384 .bf16) (x2 : Vec F S1x384 .f32) (x3 : Vec F S384x1536 .bf16) (x4 : Vec F S1x768 .f32) : FVec F S256x768 .fp8e4m3 :=
  k0_pay21 (bias x4) (ada x1 x2 x3) (cent x0)
/-- and their scales as one row. -/
def srow (x0 : Vec F S1x256x768 .bf16) (x1 : Vec F S1x256x384 .bf16) (x2 : Vec F S1x384 .f32) (x3 : Vec F S384x1536 .bf16) (x4 : Vec F S1x768 .f32) : FVec F S1x256 .f32 :=
  k0_pay23 (bias x4) (ada x1 x2 x3) (cent x0)

/-- Window 8's buffer after the body: the codes of the modulated rows. -/
def out0_8 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x256x768 .fp8e4m3 :=
  View.canon [⟨r0_a, k0_pay22 (bias x4) (ada x1 x2 x3) (cent x0)⟩]

theorem cover0_8 (p0 : Vec F S1x256x768 .fp8e4m3) (y : S1x256x768.Idx) :
    ∃ pc ∈ ([⟨r0_a, p0⟩] : List (View.Piece (Elt F) S1x256x768 .fp8e4m3)), y ∈ pc.1.set :=
  View.cover_of_tiled [⟨r0_a, p0⟩] S1x256x768.size (by rfl) y

/-- Window 9's buffer after the body: their scales. -/
def out0_9 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x1x256 .f32 :=
  View.canon [⟨r0_row, k0_pay24 (srow x0 x1 x2 x3 x4)⟩]

theorem cover0_9 (p0 : Vec F S1x1x256 .f32) (y : S1x1x256.Idx) :
    ∃ pc ∈ ([⟨r0_row, p0⟩] : List (View.Piece (Elt F) S1x1x256 .f32)), y ∈ pc.1.set :=
  View.cover_of_tiled [⟨r0_row, p0⟩] S1x1x256.size (by rfl) y

/-- Window 10's buffer after the body: the query codes. -/
def out0_10 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x16x48x256 .fp8e4m3 :=
  View.canon [⟨r0_heads, k0_pay27 (codes x0 x1 x2 x3 x4) (srow x0 x1 x2 x3 x4) (View.ld x7 r0_bq) (View.ld x5 r0_wq) (View.ld x6 r0_sq)⟩]

theorem cover0_10 (p0 : Vec F S1x16x48x256 .fp8e4m3) (y : S1x16x48x256.Idx) :
    ∃ pc ∈ ([⟨r0_heads, p0⟩] : List (View.Piece (Elt F) S1x16x48x256 .fp8e4m3)), y ∈ pc.1.set :=
  View.cover_of_tiled [⟨r0_heads, p0⟩] S1x16x48x256.size (by rfl) y

/-- Window 11's buffer after the body: the query scales. -/
def out0_11 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x16x256 .f32 :=
  View.canon [⟨r0_hrow, k0_pay28 (k0_pay26 (codes x0 x1 x2 x3 x4) (srow x0 x1 x2 x3 x4) (View.ld x7 r0_bq) (View.ld x5 r0_wq) (View.ld x6 r0_sq))⟩]

theorem cover0_11 (p0 : Vec F S1x16x256 .f32) (y : S1x16x256.Idx) :
    ∃ pc ∈ ([⟨r0_hrow, p0⟩] : List (View.Piece (Elt F) S1x16x256 .f32)), y ∈ pc.1.set :=
  View.cover_of_tiled [⟨r0_hrow, p0⟩] S1x16x256.size (by rfl) y

/-- Window 12's buffer after the body: the key codes. -/
def out0_12 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x16x48x256 .fp8e4m3 :=
  View.canon [⟨r0_heads, k0_pay31 (codes x0 x1 x2 x3 x4) (srow x0 x1 x2 x3 x4) (View.ld x5 r0_wk) (View.ld x6 r0_sk)⟩]

theorem cover0_12 (p0 : Vec F S1x16x48x256 .fp8e4m3) (y : S1x16x48x256.Idx) :
    ∃ pc ∈ ([⟨r0_heads, p0⟩] : List (View.Piece (Elt F) S1x16x48x256 .fp8e4m3)), y ∈ pc.1.set :=
  View.cover_of_tiled [⟨r0_heads, p0⟩] S1x16x48x256.size (by rfl) y

/-- Window 13's buffer after the body: the key scales. -/
def out0_13 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x16x256 .f32 :=
  View.canon [⟨r0_hrow, k0_pay33 (k0_pay32 (codes x0 x1 x2 x3 x4) (srow x0 x1 x2 x3 x4) (View.ld x5 r0_wk) (View.ld x6 r0_sk))⟩]

theorem cover0_13 (p0 : Vec F S1x16x256 .f32) (y : S1x16x256.Idx) :
    ∃ pc ∈ ([⟨r0_hrow, p0⟩] : List (View.Piece (Elt F) S1x16x256 .f32)), y ∈ pc.1.set :=
  View.cover_of_tiled [⟨r0_hrow, p0⟩] S1x16x256.size (by rfl) y

/-- Window 16's buffer after the body: the gates. -/
def out0_16 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x16x48x256 .f32 :=
  View.canon [⟨r0_heads, k0_pay2 (codes x0 x1 x2 x3 x4) (srow x0 x1 x2 x3 x4) (View.ld x5 r0_wg) (View.ld x6 r0_sg)⟩]

theorem cover0_16 (p0 : Vec F S1x16x48x256 .f32) (y : S1x16x48x256.Idx) :
    ∃ pc ∈ ([⟨r0_heads, p0⟩] : List (View.Piece (Elt F) S1x16x48x256 .f32)), y ∈ pc.1.set :=
  View.cover_of_tiled [⟨r0_heads, p0⟩] S1x16x48x256.size (by rfl) y

/-! ## The body's triple -/

set_option maxHeartbeats 4000000 in
/-- The kernel body on whole buffers, the inputs' at `x0 … x7`, the outputs' and the two scratch buffers' at anything, runs to its
    end with the inputs' as they were, the seven outputs written at every point at `out0_W` of the inputs, and the two outputs
    written at the last token block only, like the scratch buffers, at something. -/
theorem sound_kernel (c : Dev nD) (E : Set ℕ) (i : grid0.Coords) (arg2 : Memref sig .tc .vmem S1x256x768 .bf16) (harg2 : arg2.IsWhole) (arg3 : Memref sig .tc .vmem S1x256x384 .bf16) (harg3 : arg3.IsWhole) (arg4 : Memref sig .tc .vmem S1x384 .f32) (harg4 : arg4.IsWhole) (arg5 : Memref sig .tc .vmem S384x1536 .bf16) (harg5 : arg5.IsWhole) (arg6 : Memref sig .tc .vmem S1x768 .f32) (harg6 : arg6.IsWhole) (arg7 : Memref sig .tc .vmem S3072x768 .fp8e4m3) (harg7 : arg7.IsWhole) (arg8 : Memref sig .tc .vmem S3072x128 .f32) (harg8 : arg8.IsWhole) (arg9 : Memref sig .tc .vmem S768x128 .f32) (harg9 : arg9.IsWhole) (arg10 : Memref sig .tc .vmem S1x256x768 .fp8e4m3) (harg10 : arg10.IsWhole) (arg11 : Memref sig .tc .vmem S1x1x256 .f32) (harg11 : arg11.IsWhole) (arg12 : Memref sig .tc .vmem S1x16x48x256 .fp8e4m3) (harg12 : arg12.IsWhole) (arg13 : Memref sig .tc .vmem S1x16x256 .f32) (harg13 : arg13.IsWhole) (arg14 : Memref sig .tc .vmem S1x16x48x256 .fp8e4m3) (harg14 : arg14.IsWhole) (arg15 : Memref sig .tc .vmem S1x16x256 .f32) (harg15 : arg15.IsWhole) (arg16 : Memref sig .tc .vmem S1x16x48x1664 .fp8e4m3) (harg16 : arg16.IsWhole) (arg17 : Memref sig .tc .vmem S1x16x128 .f32) (harg17 : arg17.IsWhole) (arg18 : Memref sig .tc .vmem S1x16x48x256 .f32) (harg18 : arg18.IsWhole) (arg19 : Memref sig .tc .vmem S7x16x48x256 .f32) (harg19 : arg19.IsWhole) (arg20 : Memref sig .tc .vmem S16x128 .f32) (harg20 : arg20.IsWhole)
    (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4 x5 x6 x7) ∗ owns (c : Thread nD τ) arg11 fullShare (out0_9 x0 x1 x2 x3 x4 x5 x6 x7) ∗ owns (c : Thread nD τ) arg12 fullShare (out0_10 x0 x1 x2 x3 x4 x5 x6 x7) ∗ owns (c : Thread nD τ) arg13 fullShare (out0_11 x0 x1 x2 x3 x4 x5 x6 x7) ∗ owns (c : Thread nD τ) arg14 fullShare (out0_12 x0 x1 x2 x3 x4 x5 x6 x7) ∗ owns (c : Thread nD τ) arg15 fullShare (out0_13 x0 x1 x2 x3 x4 x5 x6 x7) ∗ (∃ d, owns (c : Thread nD τ) arg16 fullShare d) ∗ (∃ d, owns (c : Thread nD τ) arg17 fullShare d) ∗ owns (c : Thread nD τ) arg18 fullShare (out0_16 x0 x1 x2 x3 x4 x5 x6 x7) ∗ (∃ d, owns (c : Thread nD τ) arg19 fullShare d) ∗ (∃ d, owns (c : Thread nD τ) arg20 fullShare d)) -∗ K ⟨⟩))
      ⊢ wp frame (wpE (defs₀ (F := F)) Variants.none c none) E (cc0_ada_qkvg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ada_qkvg_eq_skeleton]; unfold cc0_ada_qkvg_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7
  by_cases hlast : k0_cond1 i = 1#1
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      refine (View.read_writes_eq_canon _ _ _ (cover0_8 _)).trans ?_
      rfl
    isplitl [H9]
    · iexists _; isplitr
      swap; · iexact H9
      ipureintro
      refine (View.read_writes_eq_canon _ _ _ (cover0_9 _)).trans ?_
      rfl
    isplitl [H10]
    · iexists _; isplitr
      swap; · iexact H10
      ipureintro
      refine (View.read_writes_eq_canon _ _ _ (cover0_10 _)).trans ?_
      rfl
    isplitl [H11]
    · iexists _; isplitr
      swap; · iexact H11
      ipureintro
      refine (View.read_writes_eq_canon _ _ _ (cover0_11 _)).trans ?_
      rfl
    isplitl [H12]
    · iexists _; isplitr
      swap; · iexact H12
      ipureintro
      refine (View.read_writes_eq_canon _ _ _ (cover0_12 _)).trans ?_
      rfl
    isplitl [H13]
    · iexists _; isplitr
      swap; · iexact H13
      ipureintro
      refine (View.read_writes_eq_canon _ _ _ (cover0_13 _)).trans ?_
      rfl
    isplitl [H14]
    · iexists _; iexists _; isplitr
      swap; · iexact H14
      ipureintro; rfl
    isplitl [H15]
    · iexists _; iexists _; isplitr
      swap; · iexact H15
      ipureintro; rfl
    isplitl [H16]
    · iexists _; isplitr
      swap; · iexact H16
      ipureintro
      refine (View.read_writes_eq_canon _ _ _ (cover0_16 _)).trans ?_
      rfl
    isplitl [H17]
    · iexists _; iexists _; isplitr
      swap; · iexact H17
      ipureintro; rfl
    iexists _; iexists _; isplitr
    swap; · iexact H18
    ipureintro; rfl
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      refine (View.read_writes_eq_canon _ _ _ (cover0_8 _)).trans ?_
      rfl
    isplitl [H9]
    · iexists _; isplitr
      swap; · iexact H9
      ipureintro
      refine (View.read_writes_eq_canon _ _ _ (cover0_9 _)).trans ?_
      rfl
    isplitl [H10]
    · iexists _; isplitr
      swap; · iexact H10
      ipureintro
      refine (View.read_writes_eq_canon _ _ _ (cover0_10 _)).trans ?_
      rfl
    isplitl [H11]
    · iexists _; isplitr
      swap; · iexact H11
      ipureintro
      refine (View.read_writes_eq_canon _ _ _ (cover0_11 _)).trans ?_
      rfl
    isplitl [H12]
    · iexists _; isplitr
      swap; · iexact H12
      ipureintro
      refine (View.read_writes_eq_canon _ _ _ (cover0_12 _)).trans ?_
      rfl
    isplitl [H13]
    · iexists _; isplitr
      swap; · iexact H13
      ipureintro
      refine (View.read_writes_eq_canon _ _ _ (cover0_13 _)).trans ?_
      rfl
    isplitl [H14]
    · iexists _; iexists _; isplitr
      swap; · iexact H14
      ipureintro; rfl
    isplitl [H15]
    · iexists _; iexists _; isplitr
      swap; · iexact H15
      ipureintro; rfl
    isplitl [H16]
    · iexists _; isplitr
      swap; · iexact H16
      ipureintro
      refine (View.read_writes_eq_canon _ _ _ (cover0_16 _)).trans ?_
      rfl
    isplitl [H17]
    · iexists _; iexists _; isplitr
      swap; · iexact H17
      ipureintro; rfl
    iexists _; iexists _; isplitr
    swap; · iexact H18
    ipureintro; rfl

end Cert.PreKernel.Hand

end
-- ==== Proof.Pre.KernelFrame.lean ====
/-
  The frame of the first call on any float values: every run ends, the argument arrays unchanged. What the body computes is
  forgotten here.
-/
module

public import proofs.«01_k».proof.Proof.Gen.PreKernel.Skeleton
public import proofs.«01_k».proof.Proof.Pre.KernelBody

@[expose] public section

set_option maxRecDepth 16384

noncomputable section

namespace Cert.PreKernel.Hand

open Cert.PreKernel Cert.PreKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- An input block whose transfer is cut at the array's end, filled out with the zero word past it. -/
def fblk0 (c : Dev nD) (t : Fin cfg0.N) : Vec F S1x256x768 .bf16 :=
  win0_0.fill (grid0.coords t) (fun _ => Scalar.ofBits .bf16 0#16) (iblk m c 0 t)
def fblk1 (c : Dev nD) (t : Fin cfg0.N) : Vec F S1x256x384 .bf16 :=
  win0_1.fill (grid0.coords t) (fun _ => Scalar.ofBits .bf16 0#16) (iblk m c 1 t)

/-- The proof data: after the body each input buffer holds its block, each claimed output buffer its `oW`; the two outputs of
    the last token block are claimed nothing of. -/
def dats (o8 : Dev nD → Fin cfg0.N → Vec F S1x256x768 .fp8e4m3) (o9 : Dev nD → Fin cfg0.N → Vec F S1x1x256 .f32) (o10 : Dev nD → Fin cfg0.N → Vec F S1x16x48x256 .fp8e4m3) (o11 : Dev nD → Fin cfg0.N → Vec F S1x16x256 .f32) (o12 : Dev nD → Fin cfg0.N → Vec F S1x16x48x256 .fp8e4m3) (o13 : Dev nD → Fin cfg0.N → Vec F S1x16x256 .f32) (o16 : Dev nD → Fin cfg0.N → Vec F S1x16x48x256 .f32)
    (_ : Fin 1) (c : Dev nD) : Dat τ (Elt F) Unit ℕ (UR sig nD τ) ℕ cfg0 c where
  A w := V m c (Pipeline.arrRef spec0 w)
  after w t := match w with
    | ⟨0, _⟩ => fblk0 m c t
    | ⟨1, _⟩ => fblk1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o8 c t
    | ⟨9, _⟩ => o9 c t
    | ⟨10, _⟩ => o10 c t
    | ⟨11, _⟩ => o11 c t
    | ⟨12, _⟩ => o12 c t
    | ⟨13, _⟩ => o13 c t
    | ⟨14, _⟩ => (fun _ => Scalar.ofBits .fp8e4m3 0#8)
    | ⟨15, _⟩ => (fun _ => Scalar.ofBits .f32 0#32)
    | ⟨16, _⟩ => o16 c t
    | ⟨_ + 17, h⟩ => absurd h (Nat.not_lt.2 (Nat.le_add_left _ _))
  Φ _ := Pipeline.ΦA spec0 c
  q _ := fullShare
  owed _ := 0

variable (o8 : Dev nD → Fin cfg0.N → Vec F S1x256x768 .fp8e4m3) (o9 : Dev nD → Fin cfg0.N → Vec F S1x1x256 .f32) (o10 : Dev nD → Fin cfg0.N → Vec F S1x16x48x256 .fp8e4m3) (o11 : Dev nD → Fin cfg0.N → Vec F S1x16x256 .f32) (o12 : Dev nD → Fin cfg0.N → Vec F S1x16x48x256 .fp8e4m3) (o13 : Dev nD → Fin cfg0.N → Vec F S1x16x256 .f32) (o16 : Dev nD → Fin cfg0.N → Vec F S1x16x48x256 .f32)

local notation "𝔇" => dats m o8 o9 o10 o11 o12 o13 o16

theorem A_eq (c : Dev nD) (w : Fin cfg0.W) : (𝔇 0 c).A w = V m c (Pipeline.arrRef spec0 w) := by
  dsimp only [dats]

theorem after0_0 (c : Dev nD) (t : Fin cfg0.N) : (𝔇 0 c).after 0 t = fblk0 m c t := by dsimp only [dats]
theorem after0_1 (c : Dev nD) (t : Fin cfg0.N) : (𝔇 0 c).after 1 t = fblk1 m c t := by dsimp only [dats]
theorem after0_2 (c : Dev nD) (t : Fin cfg0.N) : (𝔇 0 c).after 2 t = iblk m c 2 t := by dsimp only [dats]
theorem after0_3 (c : Dev nD) (t : Fin cfg0.N) : (𝔇 0 c).after 3 t = iblk m c 3 t := by dsimp only [dats]
theorem after0_4 (c : Dev nD) (t : Fin cfg0.N) : (𝔇 0 c).after 4 t = iblk m c 4 t := by dsimp only [dats]
theorem after0_5 (c : Dev nD) (t : Fin cfg0.N) : (𝔇 0 c).after 5 t = iblk m c 5 t := by dsimp only [dats]
theorem after0_6 (c : Dev nD) (t : Fin cfg0.N) : (𝔇 0 c).after 6 t = iblk m c 6 t := by dsimp only [dats]
theorem after0_7 (c : Dev nD) (t : Fin cfg0.N) : (𝔇 0 c).after 7 t = iblk m c 7 t := by dsimp only [dats]
theorem after0_8 (c : Dev nD) (t : Fin cfg0.N) : (𝔇 0 c).after 8 t = o8 c t := by dsimp only [dats]
theorem after0_9 (c : Dev nD) (t : Fin cfg0.N) : (𝔇 0 c).after 9 t = o9 c t := by dsimp only [dats]
theorem after0_10 (c : Dev nD) (t : Fin cfg0.N) : (𝔇 0 c).after 10 t = o10 c t := by dsimp only [dats]
theorem after0_11 (c : Dev nD) (t : Fin cfg0.N) : (𝔇 0 c).after 11 t = o11 c t := by dsimp only [dats]
theorem after0_12 (c : Dev nD) (t : Fin cfg0.N) : (𝔇 0 c).after 12 t = o12 c t := by dsimp only [dats]
theorem after0_13 (c : Dev nD) (t : Fin cfg0.N) : (𝔇 0 c).after 13 t = o13 c t := by dsimp only [dats]
theorem after0_16 (c : Dev nD) (t : Fin cfg0.N) : (𝔇 0 c).after 16 t = o16 c t := by dsimp only [dats]

/-- What the body finds in each input buffer: a cut block on the part inside the array, anything past it; -/
theorem before0_0 (c : Dev nD) (t : Fin cfg0.N) (d) :
    (𝔇 0 c).before 0 t d = win0_0.fill (grid0.coords t) d (iblk m c 0 t) := by
  rw [Dat.before_fetched _ _ _ (fetch0_0 t)]; unfold Dat.fetched Dat.blockOf iblk; rw [A_eq]
theorem before0_1 (c : Dev nD) (t : Fin cfg0.N) (d) :
    (𝔇 0 c).before 1 t d = win0_1.fill (grid0.coords t) d (iblk m c 1 t) := by
  rw [Dat.before_fetched _ _ _ (fetch0_1 t)]; unfold Dat.fetched Dat.blockOf iblk; rw [A_eq]
/-- a whole block otherwise. -/
theorem before0_2 (c : Dev nD) (t : Fin cfg0.N) (d) : (𝔇 0 c).before 2 t d = iblk m c 2 t :=
  before0_2_of m (𝔇 0 c) (A_eq m o8 o9 o10 o11 o12 o13 o16 c 2) (after0_2 m o8 o9 o10 o11 o12 o13 o16 c) t d
theorem before0_3 (c : Dev nD) (t : Fin cfg0.N) (d) : (𝔇 0 c).before 3 t d = iblk m c 3 t :=
  before0_3_of m (𝔇 0 c) (A_eq m o8 o9 o10 o11 o12 o13 o16 c 3) (after0_3 m o8 o9 o10 o11 o12 o13 o16 c) t d
theorem before0_4 (c : Dev nD) (t : Fin cfg0.N) (d) : (𝔇 0 c).before 4 t d = iblk m c 4 t :=
  before0_4_of m (𝔇 0 c) (A_eq m o8 o9 o10 o11 o12 o13 o16 c 4) (after0_4 m o8 o9 o10 o11 o12 o13 o16 c) t d
theorem before0_5 (c : Dev nD) (t : Fin cfg0.N) (d) : (𝔇 0 c).before 5 t d = iblk m c 5 t :=
  before0_5_of m (𝔇 0 c) (A_eq m o8 o9 o10 o11 o12 o13 o16 c 5) (after0_5 m o8 o9 o10 o11 o12 o13 o16 c) t d
theorem before0_6 (c : Dev nD) (t : Fin cfg0.N) (d) : (𝔇 0 c).before 6 t d = iblk m c 6 t :=
  before0_6_of m (𝔇 0 c) (A_eq m o8 o9 o10 o11 o12 o13 o16 c 6) (after0_6 m o8 o9 o10 o11 o12 o13 o16 c) t d
theorem before0_7 (c : Dev nD) (t : Fin cfg0.N) (d) : (𝔇 0 c).before 7 t d = iblk m c 7 t :=
  before0_7_of m (𝔇 0 c) (A_eq m o8 o9 o10 o11 o12 o13 o16 c 7) (after0_7 m o8 o9 o10 o11 o12 o13 o16 c) t d

/-- A scratch buffer owned through the memref of all of it is the buffer at those contents. -/
theorem owns_of_whole (c : Dev nD) (b : Ref sig .tc) (X : Buf (Elt F) ((c : Thread nD τ).loc b)) :
    (((c : Thread nD τ).loc b) ↦{fullShare} X : sProp 𝕄) ⊢ owns (c : Thread nD τ) (Memref.whole b) fullShare X := by
  rw [owns_whole]
theorem whole_of_owns (c : Dev nD) (b : Ref sig .tc) (X : Buf (Elt F) ((c : Thread nD τ).loc b)) :
    (owns (c : Thread nD τ) (Memref.whole b) fullShare X : sProp 𝕄) ⊢ (((c : Thread nD τ).loc b) ↦{fullShare} X) := by
  rw [owns_whole]

/-! ## The body obligation -/

/-- What the body is called with at point `t`, -/
def bodyPre (c : Dev nD) (t : Fin cfg0.N) : sProp 𝕄 :=
  iprop((𝔇 0 c).Φ t.castSucc ∗ (𝔇 0 c).owesAt () t.castSucc
    ∗ (∃ d, owns (c : Thread nD τ) (st0_0 t) fullShare ((𝔇 0 c).before 0 t d))
    ∗ (∃ d, owns (c : Thread nD τ) (st0_1 t) fullShare ((𝔇 0 c).before 1 t d))
    ∗ (∃ d, owns (c : Thread nD τ) (st0_2 t) fullShare ((𝔇 0 c).before 2 t d))
    ∗ (∃ d, owns (c : Thread nD τ) (st0_3 t) fullShare ((𝔇 0 c).before 3 t d))
    ∗ (∃ d, owns (c : Thread nD τ) (st0_4 t) fullShare ((𝔇 0 c).before 4 t d))
    ∗ (∃ d, owns (c : Thread nD τ) (st0_5 t) fullShare ((𝔇 0 c).before 5 t d))
    ∗ (∃ d, owns (c : Thread nD τ) (st0_6 t) fullShare ((𝔇 0 c).before 6 t d))
    ∗ (∃ d, owns (c : Thread nD τ) (st0_7 t) fullShare ((𝔇 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X))

/-- and what it returns. -/
def bodyPost (c : Dev nD) (t : Fin cfg0.N) : sProp 𝕄 :=
  iprop((𝔇 0 c).Φ t.succ ∗ (𝔇 0 c).owesAt () t.succ
    ∗ (∃ d, owns (c : Thread nD τ) (st0_0 t) fullShare (win0_0.fill (grid0.coords t) d (win0_0.cut (grid0.coords t) ((𝔇 0 c).after 0 t))))
    ∗ (∃ d, owns (c : Thread nD τ) (st0_1 t) fullShare (win0_1.fill (grid0.coords t) d (win0_1.cut (grid0.coords t) ((𝔇 0 c).after 1 t))))
    ∗ owns (c : Thread nD τ) (st0_2 t) fullShare ((𝔇 0 c).after 2 t)
    ∗ owns (c : Thread nD τ) (st0_3 t) fullShare ((𝔇 0 c).after 3 t)
    ∗ owns (c : Thread nD τ) (st0_4 t) fullShare ((𝔇 0 c).after 4 t)
    ∗ owns (c : Thread nD τ) (st0_5 t) fullShare ((𝔇 0 c).after 5 t)
    ∗ owns (c : Thread nD τ) (st0_6 t) fullShare ((𝔇 0 c).after 6 t)
    ∗ owns (c : Thread nD τ) (st0_7 t) fullShare ((𝔇 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X))

set_option maxHeartbeats 1600000 in
theorem sound_body (c : Dev nD) (t : Fin cfg0.N) :
    bodyPre m o8 o9 o10 o11 o12 o13 o16 c t ⊢ wp frame (wpE (defs₀ (F := F)) Variants.none c none) Set.univ (bodyAt0 t) (fun _ => bodyPost m o8 o9 o10 o11 o12 o13 o16 c t) := by
  unfold bodyPre bodyPost bodyAt0
  simp only [before0_0, before0_1, before0_2, before0_3, before0_4, before0_5, before0_6, before0_7]
  rw [show (𝔇 0 c).Φ t.succ = Pipeline.ΦA spec0 c from rfl, show (𝔇 0 c).Φ t.castSucc = Pipeline.ΦA spec0 c from rfl,
    show (𝔇 0 c).owesAt () t.succ = (𝔇 0 c).owesAt () t.castSucc from rfl,
    after0_0, after0_1, after0_2, after0_3, after0_4, after0_5, after0_6, after0_7]
  unfold Pipeline.ΦA
  rw [scopedRest0_eq]
  have h0 : win0_0.cut (grid0.coords t) (fblk0 m c t) = iblk m c 0 t := win0_0.cut_fill _ _ _
  have h1 : win0_1.cut (grid0.coords t) (fblk1 m c t) = iblk m c 1 t := win0_1.cut_fill _ _ _
  rw [h0, h1]
  iintro ⟨⟨⟨⟨%g17, H17⟩, ⟨%g18, H18⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ _ _ _ _ (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists g17; iapply (owns_of_whole c cc0_scratch0 g17); iexact H17
  isplitl [H18]; · iexists g18; iapply (owns_of_whole c cc0_scratch1 g18); iexact H18
  iintro ⟨H0, H1, H2, H3, H4, H5, H6, H7, H8, H9, H10, H11, H12, H13, ⟨%e14', H14⟩, ⟨%e15', H15⟩, H16, ⟨%e17', H17⟩, ⟨%e18', H18⟩⟩
  isplitl [H17 H18 HP]
  · isplitl [H17 H18]
    · isplitl [H17]
      · iexists e17'; iapply (whole_of_owns c cc0_scratch0 e17'); iexact H17
      · iexists e18'; iapply (whole_of_owns c cc0_scratch1 e18'); iexact H18
    · iexact HP
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexists (out0_8 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); iexact H8
  isplitl [H9]; · iexists (out0_9 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); iexact H9
  isplitl [H10]; · iexists (out0_10 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); iexact H10
  isplitl [H11]; · iexists (out0_11 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); iexact H11
  isplitl [H12]; · iexists (out0_12 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); iexact H12
  isplitl [H13]; · iexists (out0_13 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); iexact H13
  isplitl [H14]; · iexists e14'; iexact H14
  isplitl [H15]; · iexists e15'; iexact H15
  iexists (out0_16 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); iexact H16

theorem defs₀_row (t : Fin cfg0.N) :
    defs₀ (F := F) .tc cfg0.body (cfg0.bodyArgs t (cfg0.slots t)) = bodyAt0 t := by
  unfold defs₀; rw [Defs.onTc_tc]

/-- The result windows nothing is claimed of. -/
abbrev fgt : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨_ + 17, h⟩ => absurd h (Nat.not_lt.2 (Nat.le_add_left _ _))

theorem body_obligation (c : Dev nD) : BodyObligationLoose (𝔇 0 c) (defs₀ (F := F)) Variants.none () Set.univ fgt := fun t => by
  rw [bigSep_W0, bigSep_W0, defs₀_row]
  exact triple_restated (sound_body m o8 o9 o10 o11 o12 o13 o16 c t) rfl .rfl fun _ => .rfl

/-! ## The run -/

/-- No claim is made of what the results hold, so any blocks do: all zero. -/
abbrev dats0 := dats m (fun _ _ => fun _ => Scalar.ofBits .fp8e4m3 0#8) (fun _ _ => fun _ => Scalar.ofBits .f32 0#32) (fun _ _ => fun _ => Scalar.ofBits .fp8e4m3 0#8) (fun _ _ => fun _ => Scalar.ofBits .f32 0#32) (fun _ _ => fun _ => Scalar.ofBits .fp8e4m3 0#8) (fun _ _ => fun _ => Scalar.ofBits .f32 0#32) (fun _ _ => fun _ => Scalar.ofBits .f32 0#32)

theorem A_eq0 (c : Dev nD) (w : Fin cfg0.W) : (dats0 m 0 c).A w = V m c (Pipeline.arrRef spec0 w) := A_eq m _ _ _ _ _ _ _ c w

set_option backward.isDefEq.respectTransparency.types false in
set_option maxHeartbeats 800000 in
theorem run_main_quiescent : θ_run defs (onTc (τ := τ) (main (F := F))) (s₀ m ρ)
    (fun r => (Pipeline.RDat.FramePost cfg0 (fun c => (dats0 m 0 c).toRForget fgt) (V m)) r ∧ r.2.sem = fun _ => 0) :=
  Pipeline.θ_run_frame_forget (Q' := _) cfgs (dats0 m) (0 : Fin 1) launch0 defs₀ Variants.none fgt m ρ main
    (hbody := fun c => body_obligation m _ _ _ _ _ _ _ c) (hshare := fun c => (dats0 m 0 c).share_full fun _ => rfl)
    (howed := fun _ _ => rfl) (V := V m) (hmain := hmain m Variants.none) (hA := A_eq m _ _ _ _ _ _ _) (hΦ := fun _ _ => rfl)

set_option maxHeartbeats 1320000 in
/-- THE FRAME: every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨(h.1.arr_in c 0 rfl).trans ((A_eq0 m c 0).trans (V_main_arg0 m c)),
      (h.1.arr_in c 1 rfl).trans ((A_eq0 m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main_quiescent m ρ)

end Cert.PreKernel.Hand

end
-- ==== Proof.Pre.KernelIdealBody.lean ====
/-
  What the body of the first call leaves in the seven output buffers written at every point, as a function of what the input
  buffers hold, and the body's triple on whole buffers.
-/
module

public import proofs.«01_k».proof.Proof.Gen.PreKernelIdeal.Skeleton
public import proofs.«01_k».proof.Proof.Gen.PreKernelIdeal.Frame

@[expose] public section

set_option maxRecDepth 16384

noncomputable section

namespace Cert.PreKernelIdeal.Hand

open Cert.PreKernelIdeal Cert.PreKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

abbrev r0_a : Rect S1x256x768 := Rect.unit (s := S1x256x768) ![0, 0, 0] S1x256x768.size inb_S1x256x768_S1x256x768_0_0_0
abbrev r0_s : Rect S1x256x384 := Rect.unit (s := S1x256x384) ![0, 0, 0] S1x256x384.size inb_S1x256x384_S1x256x384_0_0_0
abbrev r0_gain : Rect S1x384 := Rect.unit (s := S1x384) ![0, 0] S1x384.size inb_S1x384_S1x384_0_0
abbrev r0_wada : Rect S384x1536 := Rect.unit (s := S384x1536) ![0, 0] S384x1536.size inb_S384x1536_S384x1536_0_0
abbrev r0_bada : Rect S1x768 := Rect.unit (s := S1x768) ![0, 0] S1x768.size inb_S1x768_S1x768_0_0
abbrev r0_wq : Rect S3072x768 := Rect.unit (s := S3072x768) ![0, 0] S768x768.size inb_S3072x768_S768x768_0_0
abbrev r0_sq : Rect S3072x128 := Rect.unit (s := S3072x128) ![0, 0] S768x128.size inb_S3072x128_S768x128_0_0
abbrev r0_wk : Rect S3072x768 := Rect.unit (s := S3072x768) ![768, 0] S768x768.size inb_S3072x768_S768x768_768_0
abbrev r0_sk : Rect S3072x128 := Rect.unit (s := S3072x128) ![768, 0] S768x128.size inb_S3072x128_S768x128_768_0
abbrev r0_wv : Rect S3072x768 := Rect.unit (s := S3072x768) ![1536, 0] S768x768.size inb_S3072x768_S768x768_1536_0
abbrev r0_sv : Rect S3072x128 := Rect.unit (s := S3072x128) ![1536, 0] S768x128.size inb_S3072x128_S768x128_1536_0
abbrev r0_wg : Rect S3072x768 := Rect.unit (s := S3072x768) ![2304, 0] S768x768.size inb_S3072x768_S768x768_2304_0
abbrev r0_sg : Rect S3072x128 := Rect.unit (s := S3072x128) ![2304, 0] S768x128.size inb_S3072x128_S768x128_2304_0
abbrev r0_bq : Rect S768x128 := Rect.unit (s := S768x128) ![0, 0] S768x128.size inb_S768x128_S768x128_0_0
abbrev r0_row : Rect S1x1x256 := Rect.unit (s := S1x1x256) ![0, 0, 0] S1x1x256.size inb_S1x1x256_S1x1x256_0_0_0
abbrev r0_hrow : Rect S1x16x256 := Rect.unit (s := S1x16x256) ![0, 0, 0] S1x16x256.size inb_S1x16x256_S1x16x256_0_0_0
abbrev r0_heads : Rect S1x16x48x256 := Rect.unit (s := S1x16x48x256) ![0, 0, 0, 0] S1x16x48x256.size inb_S1x16x48x256_S1x16x48x256_0_0_0_0

/-! ## What the body leaves in each output window's buffer -/

/-- The bias row of the adaptive norm, -/
def bias (x4 : Vec F S1x768 .f32) : FVec F S1x768 .f32 := k0_pay16 (View.ld x4 r0_bada)
/-- the gate and shift rows made of the conditioning rows, -/
def ada (x1 : Vec F S1x256x384 .bf16) (x2 : Vec F S1x384 .f32) (x3 : Vec F S384x1536 .bf16) : FVec F S256x1536 .f32 :=
  k0_pay17 (View.ld x1 r0_s) (View.ld x2 r0_gain) (View.ld x3 r0_wada)
/-- the centred rows of the block, -/
def cent (x0 : Vec F S1x256x768 .bf16) : FVec F S256x768 .f32 := k0_pay18 (View.ld x0 r0_a)
/-- the codes of the normed and modulated rows, -/
def codes (x0 : Vec F S1x256x768 .bf16) (x1 : Vec F S1x256x384 .bf16) (x2 : Vec F S1x384 .f32) (x3 : Vec F S384x1536 .bf16) (x4 : Vec F S1x768 .f32) : FVec F S256x768 .fp8e4m3 :=
  k0_pay21 (bias x4) (ada x1 x2 x3) (cent x0)
/-- and their scales as one row. -/
def srow (x0 : Vec F S1x256x768 .bf16) (x1 : Vec F S1x256x384 .bf16) (x2 : Vec F S1x384 .f32) (x3 : Vec F S384x1536 .bf16) (x4 : Vec F S1x768 .f32) : FVec F S1x256 .f32 :=
  k0_pay23 (bias x4) (ada x1 x2 x3) (cent x0)

/-- Window 8's buffer after the body: the codes of the modulated rows. -/
def out0_8 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x256x768 .fp8e4m3 :=
  View.canon [⟨r0_a, k0_pay22 (bias x4) (ada x1 x2 x3) (cent x0)⟩]

theorem cover0_8 (p0 : Vec F S1x256x768 .fp8e4m3) (y : S1x256x768.Idx) :
    ∃ pc ∈ ([⟨r0_a, p0⟩] : List (View.Piece (Elt F) S1x256x768 .fp8e4m3)), y ∈ pc.1.set :=
  View.cover_of_tiled [⟨r0_a, p0⟩] S1x256x768.size (by rfl) y

/-- Window 9's buffer after the body: their scales. -/
def out0_9 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x1x256 .f32 :=
  View.canon [⟨r0_row, k0_pay24 (srow x0 x1 x2 x3 x4)⟩]

theorem cover0_9 (p0 : Vec F S1x1x256 .f32) (y : S1x1x256.Idx) :
    ∃ pc ∈ ([⟨r0_row, p0⟩] : List (View.Piece (Elt F) S1x1x256 .f32)), y ∈ pc.1.set :=
  View.cover_of_tiled [⟨r0_row, p0⟩] S1x1x256.size (by rfl) y

/-- Window 10's buffer after the body: the query codes. -/
def out0_10 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x16x48x256 .fp8e4m3 :=
  View.canon [⟨r0_heads, k0_pay27 (codes x0 x1 x2 x3 x4) (srow x0 x1 x2 x3 x4) (View.ld x7 r0_bq) (View.ld x5 r0_wq) (View.ld x6 r0_sq)⟩]

theorem cover0_10 (p0 : Vec F S1x16x48x256 .fp8e4m3) (y : S1x16x48x256.Idx) :
    ∃ pc ∈ ([⟨r0_heads, p0⟩] : List (View.Piece (Elt F) S1x16x48x256 .fp8e4m3)), y ∈ pc.1.set :=
  View.cover_of_tiled [⟨r0_heads, p0⟩] S1x16x48x256.size (by rfl) y

/-- Window 11's buffer after the body: the query scales. -/
def out0_11 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x16x256 .f32 :=
  View.canon [⟨r0_hrow, k0_pay28 (k0_pay26 (codes x0 x1 x2 x3 x4) (srow x0 x1 x2 x3 x4) (View.ld x7 r0_bq) (View.ld x5 r0_wq) (View.ld x6 r0_sq))⟩]

theorem cover0_11 (p0 : Vec F S1x16x256 .f32) (y : S1x16x256.Idx) :
    ∃ pc ∈ ([⟨r0_hrow, p0⟩] : List (View.Piece (Elt F) S1x16x256 .f32)), y ∈ pc.1.set :=
  View.cover_of_tiled [⟨r0_hrow, p0⟩] S1x16x256.size (by rfl) y

/-- Window 12's buffer after the body: the key codes. -/
def out0_12 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x16x48x256 .fp8e4m3 :=
  View.canon [⟨r0_heads, k0_pay31 (codes x0 x1 x2 x3 x4) (srow x0 x1 x2 x3 x4) (View.ld x5 r0_wk) (View.ld x6 r0_sk)⟩]

theorem cover0_12 (p0 : Vec F S1x16x48x256 .fp8e4m3) (y : S1x16x48x256.Idx) :
    ∃ pc ∈ ([⟨r0_heads, p0⟩] : List (View.Piece (Elt F) S1x16x48x256 .fp8e4m3)), y ∈ pc.1.set :=
  View.cover_of_tiled [⟨r0_heads, p0⟩] S1x16x48x256.size (by rfl) y

/-- Window 13's buffer after the body: the key scales. -/
def out0_13 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x16x256 .f32 :=
  View.canon [⟨r0_hrow, k0_pay33 (k0_pay32 (codes x0 x1 x2 x3 x4) (srow x0 x1 x2 x3 x4) (View.ld x5 r0_wk) (View.ld x6 r0_sk))⟩]

theorem cover0_13 (p0 : Vec F S1x16x256 .f32) (y : S1x16x256.Idx) :
    ∃ pc ∈ ([⟨r0_hrow, p0⟩] : List (View.Piece (Elt F) S1x16x256 .f32)), y ∈ pc.1.set :=
  View.cover_of_tiled [⟨r0_hrow, p0⟩] S1x16x256.size (by rfl) y

/-- Window 16's buffer after the body: the gates. -/
def out0_16 (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) : Vec F S1x16x48x256 .f32 :=
  View.canon [⟨r0_heads, k0_pay2 (codes x0 x1 x2 x3 x4) (srow x0 x1 x2 x3 x4) (View.ld x5 r0_wg) (View.ld x6 r0_sg)⟩]

theorem cover0_16 (p0 : Vec F S1x16x48x256 .f32) (y : S1x16x48x256.Idx) :
    ∃ pc ∈ ([⟨r0_heads, p0⟩] : List (View.Piece (Elt F) S1x16x48x256 .f32)), y ∈ pc.1.set :=
  View.cover_of_tiled [⟨r0_heads, p0⟩] S1x16x48x256.size (by rfl) y

/-! ## The body's triple -/

set_option maxHeartbeats 4000000 in
/-- The kernel body on whole buffers, the inputs' at `x0 … x7`, the outputs' and the two scratch buffers' at anything, runs to its
    end with the inputs' as they were, the seven outputs written at every point at `out0_W` of the inputs, and the two outputs
    written at the last token block only, like the scratch buffers, at something. -/
theorem sound_kernel (c : Dev nD) (E : Set ℕ) (i : grid0.Coords) (arg2 : Memref sig .tc .vmem S1x256x768 .bf16) (harg2 : arg2.IsWhole) (arg3 : Memref sig .tc .vmem S1x256x384 .bf16) (harg3 : arg3.IsWhole) (arg4 : Memref sig .tc .vmem S1x384 .f32) (harg4 : arg4.IsWhole) (arg5 : Memref sig .tc .vmem S384x1536 .bf16) (harg5 : arg5.IsWhole) (arg6 : Memref sig .tc .vmem S1x768 .f32) (harg6 : arg6.IsWhole) (arg7 : Memref sig .tc .vmem S3072x768 .fp8e4m3) (harg7 : arg7.IsWhole) (arg8 : Memref sig .tc .vmem S3072x128 .f32) (harg8 : arg8.IsWhole) (arg9 : Memref sig .tc .vmem S768x128 .f32) (harg9 : arg9.IsWhole) (arg10 : Memref sig .tc .vmem S1x256x768 .fp8e4m3) (harg10 : arg10.IsWhole) (arg11 : Memref sig .tc .vmem S1x1x256 .f32) (harg11 : arg11.IsWhole) (arg12 : Memref sig .tc .vmem S1x16x48x256 .fp8e4m3) (harg12 : arg12.IsWhole) (arg13 : Memref sig .tc .vmem S1x16x256 .f32) (harg13 : arg13.IsWhole) (arg14 : Memref sig .tc .vmem S1x16x48x256 .fp8e4m3) (harg14 : arg14.IsWhole) (arg15 : Memref sig .tc .vmem S1x16x256 .f32) (harg15 : arg15.IsWhole) (arg16 : Memref sig .tc .vmem S1x16x48x1664 .fp8e4m3) (harg16 : arg16.IsWhole) (arg17 : Memref sig .tc .vmem S1x16x128 .f32) (harg17 : arg17.IsWhole) (arg18 : Memref sig .tc .vmem S1x16x48x256 .f32) (harg18 : arg18.IsWhole) (arg19 : Memref sig .tc .vmem S7x16x48x256 .f32) (harg19 : arg19.IsWhole) (arg20 : Memref sig .tc .vmem S16x128 .f32) (harg20 : arg20.IsWhole)
    (x0 : Vec F S1x256x768 .bf16) (x1 : Vec F S1x256x384 .bf16) (x2 : Vec F S1x384 .f32) (x3 : Vec F S384x1536 .bf16) (x4 : Vec F S1x768 .f32) (x5 : Vec F S3072x768 .fp8e4m3) (x6 : Vec F S3072x128 .f32) (x7 : Vec F S768x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4 x5 x6 x7) ∗ owns (c : Thread nD τ) arg11 fullShare (out0_9 x0 x1 x2 x3 x4 x5 x6 x7) ∗ owns (c : Thread nD τ) arg12 fullShare (out0_10 x0 x1 x2 x3 x4 x5 x6 x7) ∗ owns (c : Thread nD τ) arg13 fullShare (out0_11 x0 x1 x2 x3 x4 x5 x6 x7) ∗ owns (c : Thread nD τ) arg14 fullShare (out0_12 x0 x1 x2 x3 x4 x5 x6 x7) ∗ owns (c : Thread nD τ) arg15 fullShare (out0_13 x0 x1 x2 x3 x4 x5 x6 x7) ∗ (∃ d, owns (c : Thread nD τ) arg16 fullShare d) ∗ (∃ d, owns (c : Thread nD τ) arg17 fullShare d) ∗ owns (c : Thread nD τ) arg18 fullShare (out0_16 x0 x1 x2 x3 x4 x5 x6 x7) ∗ (∃ d, owns (c : Thread nD τ) arg19 fullShare d) ∗ (∃ d, owns (c : Thread nD τ) arg20 fullShare d)) -∗ K ⟨⟩))
      ⊢ wp frame (wpE (defs₀ (F := F)) Variants.none c none) E (cc0_ada_qkvg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ada_qkvg_eq_skeleton]; unfold cc0_ada_qkvg_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7
  by_cases hlast : k0_cond1 i = 1#1
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      refine (View.read_writes_eq_canon _ _ _ (cover0_8 _)).trans ?_
      rfl
    isplitl [H9]
    · iexists _; isplitr
      swap; · iexact H9
      ipureintro
      refine (View.read_writes_eq_canon _ _ _ (cover0_9 _)).trans ?_
      rfl
    isplitl [H10]
    · iexists _; isplitr
      swap; · iexact H10
      ipureintro
      refine (View.read_writes_eq_canon _ _ _ (cover0_10 _)).trans ?_
      rfl
    isplitl [H11]
    · iexists _; isplitr
      swap; · iexact H11
      ipureintro
      refine (View.read_writes_eq_canon _ _ _ (cover0_11 _)).trans ?_
      rfl
    isplitl [H12]
    · iexists _; isplitr
      swap; · iexact H12
      ipureintro
      refine (View.read_writes_eq_canon _ _ _ (cover0_12 _)).trans ?_
      rfl
    isplitl [H13]
    · iexists _; isplitr
      swap; · iexact H13
      ipureintro
      refine (View.read_writes_eq_canon _ _ _ (cover0_13 _)).trans ?_
      rfl
    isplitl [H14]
    · iexists _; iexists _; isplitr
      swap; · iexact H14
      ipureintro; rfl
    isplitl [H15]
    · iexists _; iexists _; isplitr
      swap; · iexact H15
      ipureintro; rfl
    isplitl [H16]
    · iexists _; isplitr
      swap; · iexact H16
      ipureintro
      refine (View.read_writes_eq_canon _ _ _ (cover0_16 _)).trans ?_
      rfl
    isplitl [H17]
    · iexists _; iexists _; isplitr
      swap; · iexact H17
      ipureintro; rfl
    iexists _; iexists _; isplitr
    swap; · iexact H18
    ipureintro; rfl
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      refine (View.read_writes_eq_canon _ _ _ (cover0_8 _)).trans ?_
      rfl
    isplitl [H9]
    · iexists _; isplitr
      swap; · iexact H9
      ipureintro
      refine (View.read_writes_eq_canon _ _ _ (cover0_9 _)).trans ?_
      rfl
    isplitl [H10]
    · iexists _; isplitr
      swap; · iexact H10
      ipureintro
      refine (View.read_writes_eq_canon _ _ _ (cover0_10 _)).trans ?_
      rfl
    isplitl [H11]
    · iexists _; isplitr
      swap; · iexact H11
      ipureintro
      refine (View.read_writes_eq_canon _ _ _ (cover0_11 _)).trans ?_
      rfl
    isplitl [H12]
    · iexists _; isplitr
      swap; · iexact H12
      ipureintro
      refine (View.read_writes_eq_canon _ _ _ (cover0_12 _)).trans ?_
      rfl
    isplitl [H13]
    · iexists _; isplitr
      swap; · iexact H13
      ipureintro
      refine (View.read_writes_eq_canon _ _ _ (cover0_13 _)).trans ?_
      rfl
    isplitl [H14]
    · iexists _; iexists _; isplitr
      swap; · iexact H14
      ipureintro; rfl
    isplitl [H15]
    · iexists _; iexists _; isplitr
      swap; · iexact H15
      ipureintro; rfl
    isplitl [H16]
    · iexists _; isplitr
      swap; · iexact H16
      ipureintro
      refine (View.read_writes_eq_canon _ _ _ (cover0_16 _)).trans ?_
      rfl
    isplitl [H17]
    · iexists _; iexists _; isplitr
      swap; · iexact H17
      ipureintro; rfl
    iexists _; iexists _; isplitr
    swap; · iexact H18
    ipureintro; rfl

end Cert.PreKernelIdeal.Hand

end
-- ==== Proof.Pre.KernelIdealRun.lean ====
/-
  The run of the first call over the exact values: every run ends, the arguments unchanged, and each claimed result array is what
  the write-backs of the blocks `o8 … o13`, `o16` make it, for any such blocks that agree, on the part inside the array, with
  what the body computes from the input blocks filled out with anything past the array's end (`Agree`).
-/
module

public import proofs.«01_k».proof.Proof.Gen.PreKernelIdeal.Skeleton
public import proofs.«01_k».proof.Proof.Pre.KernelIdealBody

@[expose] public section

set_option maxRecDepth 16384

noncomputable section

namespace Cert.PreKernelIdeal.Hand

open Cert.PreKernelIdeal Cert.PreKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- An input block whose transfer is cut at the array's end, filled out with the zero word past it. -/
def fblk0 (c : Dev nD) (t : Fin cfg0.N) : Vec F S1x256x768 .bf16 :=
  win0_0.fill (grid0.coords t) (fun _ => Scalar.ofBits .bf16 0#16) (iblk m c 0 t)
def fblk1 (c : Dev nD) (t : Fin cfg0.N) : Vec F S1x256x384 .bf16 :=
  win0_1.fill (grid0.coords t) (fun _ => Scalar.ofBits .bf16 0#16) (iblk m c 1 t)

/-- The proof data: after the body each input buffer holds its block, each claimed output buffer its `oW`; the two outputs of
    the last token block are claimed nothing of. -/
def dats (o8 : Dev nD → Fin cfg0.N → Vec F S1x256x768 .fp8e4m3) (o9 : Dev nD → Fin cfg0.N → Vec F S1x1x256 .f32) (o10 : Dev nD → Fin cfg0.N → Vec F S1x16x48x256 .fp8e4m3) (o11 : Dev nD → Fin cfg0.N → Vec F S1x16x256 .f32) (o12 : Dev nD → Fin cfg0.N → Vec F S1x16x48x256 .fp8e4m3) (o13 : Dev nD → Fin cfg0.N → Vec F S1x16x256 .f32) (o16 : Dev nD → Fin cfg0.N → Vec F S1x16x48x256 .f32)
    (_ : Fin 1) (c : Dev nD) : Dat τ (Elt F) Unit ℕ (UR sig nD τ) ℕ cfg0 c where
  A w := V m c (Pipeline.arrRef spec0 w)
  after w t := match w with
    | ⟨0, _⟩ => fblk0 m c t
    | ⟨1, _⟩ => fblk1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o8 c t
    | ⟨9, _⟩ => o9 c t
    | ⟨10, _⟩ => o10 c t
    | ⟨11, _⟩ => o11 c t
    | ⟨12, _⟩ => o12 c t
    | ⟨13, _⟩ => o13 c t
    | ⟨14, _⟩ => (fun _ => Scalar.ofBits .fp8e4m3 0#8)
    | ⟨15, _⟩ => (fun _ => Scalar.ofBits .f32 0#32)
    | ⟨16, _⟩ => o16 c t
    | ⟨_ + 17, h⟩ => absurd h (Nat.not_lt.2 (Nat.le_add_left _ _))
  Φ _ := Pipeline.ΦA spec0 c
  q _ := fullShare
  owed _ := 0

variable (o8 : Dev nD → Fin cfg0.N → Vec F S1x256x768 .fp8e4m3) (o9 : Dev nD → Fin cfg0.N → Vec F S1x1x256 .f32) (o10 : Dev nD → Fin cfg0.N → Vec F S1x16x48x256 .fp8e4m3) (o11 : Dev nD → Fin cfg0.N → Vec F S1x16x256 .f32) (o12 : Dev nD → Fin cfg0.N → Vec F S1x16x48x256 .fp8e4m3) (o13 : Dev nD → Fin cfg0.N → Vec F S1x16x256 .f32) (o16 : Dev nD → Fin cfg0.N → Vec F S1x16x48x256 .f32)

local notation "𝔇" => dats m o8 o9 o10 o11 o12 o13 o16

theorem A_eq (c : Dev nD) (w : Fin cfg0.W) : (𝔇 0 c).A w = V m c (Pipeline.arrRef spec0 w) := by
  dsimp only [dats]

theorem after0_0 (c : Dev nD) (t : Fin cfg0.N) : (𝔇 0 c).after 0 t = fblk0 m c t := by dsimp only [dats]
theorem after0_1 (c : Dev nD) (t : Fin cfg0.N) : (𝔇 0 c).after 1 t = fblk1 m c t := by dsimp only [dats]
theorem after0_2 (c : Dev nD) (t : Fin cfg0.N) : (𝔇 0 c).after 2 t = iblk m c 2 t := by dsimp only [dats]
theorem after0_3 (c : Dev nD) (t : Fin cfg0.N) : (𝔇 0 c).after 3 t = iblk m c 3 t := by dsimp only [dats]
theorem after0_4 (c : Dev nD) (t : Fin cfg0.N) : (𝔇 0 c).after 4 t = iblk m c 4 t := by dsimp only [dats]
theorem after0_5 (c : Dev nD) (t : Fin cfg0.N) : (𝔇 0 c).after 5 t = iblk m c 5 t := by dsimp only [dats]
theorem after0_6 (c : Dev nD) (t : Fin cfg0.N) : (𝔇 0 c).after 6 t = iblk m c 6 t := by dsimp only [dats]
theorem after0_7 (c : Dev nD) (t : Fin cfg0.N) : (𝔇 0 c).after 7 t = iblk m c 7 t := by dsimp only [dats]
theorem after0_8 (c : Dev nD) (t : Fin cfg0.N) : (𝔇 0 c).after 8 t = o8 c t := by dsimp only [dats]
theorem after0_9 (c : Dev nD) (t : Fin cfg0.N) : (𝔇 0 c).after 9 t = o9 c t := by dsimp only [dats]
theorem after0_10 (c : Dev nD) (t : Fin cfg0.N) : (𝔇 0 c).after 10 t = o10 c t := by dsimp only [dats]
theorem after0_11 (c : Dev nD) (t : Fin cfg0.N) : (𝔇 0 c).after 11 t = o11 c t := by dsimp only [dats]
theorem after0_12 (c : Dev nD) (t : Fin cfg0.N) : (𝔇 0 c).after 12 t = o12 c t := by dsimp only [dats]
theorem after0_13 (c : Dev nD) (t : Fin cfg0.N) : (𝔇 0 c).after 13 t = o13 c t := by dsimp only [dats]
theorem after0_16 (c : Dev nD) (t : Fin cfg0.N) : (𝔇 0 c).after 16 t = o16 c t := by dsimp only [dats]

/-- What the body finds in each input buffer: a cut block on the part inside the array, anything past it; -/
theorem before0_0 (c : Dev nD) (t : Fin cfg0.N) (d) :
    (𝔇 0 c).before 0 t d = win0_0.fill (grid0.coords t) d (iblk m c 0 t) := by
  rw [Dat.before_fetched _ _ _ (fetch0_0 t)]; unfold Dat.fetched Dat.blockOf iblk; rw [A_eq]
theorem before0_1 (c : Dev nD) (t : Fin cfg0.N) (d) :
    (𝔇 0 c).before 1 t d = win0_1.fill (grid0.coords t) d (iblk m c 1 t) := by
  rw [Dat.before_fetched _ _ _ (fetch0_1 t)]; unfold Dat.fetched Dat.blockOf iblk; rw [A_eq]
/-- a whole block otherwise. -/
theorem before0_2 (c : Dev nD) (t : Fin cfg0.N) (d) : (𝔇 0 c).before 2 t d = iblk m c 2 t :=
  before0_2_of m (𝔇 0 c) (A_eq m o8 o9 o10 o11 o12 o13 o16 c 2) (after0_2 m o8 o9 o10 o11 o12 o13 o16 c) t d
theorem before0_3 (c : Dev nD) (t : Fin cfg0.N) (d) : (𝔇 0 c).before 3 t d = iblk m c 3 t :=
  before0_3_of m (𝔇 0 c) (A_eq m o8 o9 o10 o11 o12 o13 o16 c 3) (after0_3 m o8 o9 o10 o11 o12 o13 o16 c) t d
theorem before0_4 (c : Dev nD) (t : Fin cfg0.N) (d) : (𝔇 0 c).before 4 t d = iblk m c 4 t :=
  before0_4_of m (𝔇 0 c) (A_eq m o8 o9 o10 o11 o12 o13 o16 c 4) (after0_4 m o8 o9 o10 o11 o12 o13 o16 c) t d
theorem before0_5 (c : Dev nD) (t : Fin cfg0.N) (d) : (𝔇 0 c).before 5 t d = iblk m c 5 t :=
  before0_5_of m (𝔇 0 c) (A_eq m o8 o9 o10 o11 o12 o13 o16 c 5) (after0_5 m o8 o9 o10 o11 o12 o13 o16 c) t d
theorem before0_6 (c : Dev nD) (t : Fin cfg0.N) (d) : (𝔇 0 c).before 6 t d = iblk m c 6 t :=
  before0_6_of m (𝔇 0 c) (A_eq m o8 o9 o10 o11 o12 o13 o16 c 6) (after0_6 m o8 o9 o10 o11 o12 o13 o16 c) t d
theorem before0_7 (c : Dev nD) (t : Fin cfg0.N) (d) : (𝔇 0 c).before 7 t d = iblk m c 7 t :=
  before0_7_of m (𝔇 0 c) (A_eq m o8 o9 o10 o11 o12 o13 o16 c 7) (after0_7 m o8 o9 o10 o11 o12 o13 o16 c) t d

/-- The blocks agree, inside the array, with what the body computes whatever the input buffers hold past its end. -/
def Agree (c : Dev nD) (t : Fin cfg0.N) : Prop :=
  ∀ (d0 : Vec F S1x256x768 .bf16) (d1 : Vec F S1x256x384 .bf16),
    win0_8.cut (grid0.coords t) (o8 c t) = win0_8.cut (grid0.coords t) (out0_8 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t))
    ∧ win0_9.cut (grid0.coords t) (o9 c t) = win0_9.cut (grid0.coords t) (out0_9 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t))
    ∧ win0_10.cut (grid0.coords t) (o10 c t) = win0_10.cut (grid0.coords t) (out0_10 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t))
    ∧ win0_11.cut (grid0.coords t) (o11 c t) = win0_11.cut (grid0.coords t) (out0_11 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t))
    ∧ win0_12.cut (grid0.coords t) (o12 c t) = win0_12.cut (grid0.coords t) (out0_12 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t))
    ∧ win0_13.cut (grid0.coords t) (o13 c t) = win0_13.cut (grid0.coords t) (out0_13 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t))
    ∧ win0_16.cut (grid0.coords t) (o16 c t) = win0_16.cut (grid0.coords t) (out0_16 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t))

/-- A scratch buffer owned through the memref of all of it is the buffer at those contents. -/
theorem owns_of_whole (c : Dev nD) (b : Ref sig .tc) (X : Buf (Elt F) ((c : Thread nD τ).loc b)) :
    (((c : Thread nD τ).loc b) ↦{fullShare} X : sProp 𝕄) ⊢ owns (c : Thread nD τ) (Memref.whole b) fullShare X := by
  rw [owns_whole]
theorem whole_of_owns (c : Dev nD) (b : Ref sig .tc) (X : Buf (Elt F) ((c : Thread nD τ).loc b)) :
    (owns (c : Thread nD τ) (Memref.whole b) fullShare X : sProp 𝕄) ⊢ (((c : Thread nD τ).loc b) ↦{fullShare} X) := by
  rw [owns_whole]

/-! ## The body obligation -/

/-- What the body is called with at point `t`, -/
def bodyPre (c : Dev nD) (t : Fin cfg0.N) : sProp 𝕄 :=
  iprop((𝔇 0 c).Φ t.castSucc ∗ (𝔇 0 c).owesAt () t.castSucc
    ∗ (∃ d, owns (c : Thread nD τ) (st0_0 t) fullShare ((𝔇 0 c).before 0 t d))
    ∗ (∃ d, owns (c : Thread nD τ) (st0_1 t) fullShare ((𝔇 0 c).before 1 t d))
    ∗ (∃ d, owns (c : Thread nD τ) (st0_2 t) fullShare ((𝔇 0 c).before 2 t d))
    ∗ (∃ d, owns (c : Thread nD τ) (st0_3 t) fullShare ((𝔇 0 c).before 3 t d))
    ∗ (∃ d, owns (c : Thread nD τ) (st0_4 t) fullShare ((𝔇 0 c).before 4 t d))
    ∗ (∃ d, owns (c : Thread nD τ) (st0_5 t) fullShare ((𝔇 0 c).before 5 t d))
    ∗ (∃ d, owns (c : Thread nD τ) (st0_6 t) fullShare ((𝔇 0 c).before 6 t d))
    ∗ (∃ d, owns (c : Thread nD τ) (st0_7 t) fullShare ((𝔇 0 c).before 7 t d))
    ∗ (∃ d, owns (c : Thread nD τ) (st0_8 t) fullShare ((𝔇 0 c).before 8 t d))
    ∗ (∃ d, owns (c : Thread nD τ) (st0_9 t) fullShare ((𝔇 0 c).before 9 t d))
    ∗ (∃ d, owns (c : Thread nD τ) (st0_10 t) fullShare ((𝔇 0 c).before 10 t d))
    ∗ (∃ d, owns (c : Thread nD τ) (st0_11 t) fullShare ((𝔇 0 c).before 11 t d))
    ∗ (∃ d, owns (c : Thread nD τ) (st0_12 t) fullShare ((𝔇 0 c).before 12 t d))
    ∗ (∃ d, owns (c : Thread nD τ) (st0_13 t) fullShare ((𝔇 0 c).before 13 t d))
    ∗ (∃ X, owns (c : Thread nD τ) (st0_14 t) fullShare X)
    ∗ (∃ X, owns (c : Thread nD τ) (st0_15 t) fullShare X)
    ∗ (∃ d, owns (c : Thread nD τ) (st0_16 t) fullShare ((𝔇 0 c).before 16 t d)))

/-- and what it returns. -/
def bodyPost (c : Dev nD) (t : Fin cfg0.N) : sProp 𝕄 :=
  iprop((𝔇 0 c).Φ t.succ ∗ (𝔇 0 c).owesAt () t.succ
    ∗ (∃ d, owns (c : Thread nD τ) (st0_0 t) fullShare (win0_0.fill (grid0.coords t) d (win0_0.cut (grid0.coords t) ((𝔇 0 c).after 0 t))))
    ∗ (∃ d, owns (c : Thread nD τ) (st0_1 t) fullShare (win0_1.fill (grid0.coords t) d (win0_1.cut (grid0.coords t) ((𝔇 0 c).after 1 t))))
    ∗ owns (c : Thread nD τ) (st0_2 t) fullShare ((𝔇 0 c).after 2 t)
    ∗ owns (c : Thread nD τ) (st0_3 t) fullShare ((𝔇 0 c).after 3 t)
    ∗ owns (c : Thread nD τ) (st0_4 t) fullShare ((𝔇 0 c).after 4 t)
    ∗ owns (c : Thread nD τ) (st0_5 t) fullShare ((𝔇 0 c).after 5 t)
    ∗ owns (c : Thread nD τ) (st0_6 t) fullShare ((𝔇 0 c).after 6 t)
    ∗ owns (c : Thread nD τ) (st0_7 t) fullShare ((𝔇 0 c).after 7 t)
    ∗ (∃ d, owns (c : Thread nD τ) (st0_8 t) fullShare (win0_8.fill (grid0.coords t) d (win0_8.cut (grid0.coords t) ((𝔇 0 c).after 8 t))))
    ∗ (∃ d, owns (c : Thread nD τ) (st0_9 t) fullShare (win0_9.fill (grid0.coords t) d (win0_9.cut (grid0.coords t) ((𝔇 0 c).after 9 t))))
    ∗ (∃ d, owns (c : Thread nD τ) (st0_10 t) fullShare (win0_10.fill (grid0.coords t) d (win0_10.cut (grid0.coords t) ((𝔇 0 c).after 10 t))))
    ∗ (∃ d, owns (c : Thread nD τ) (st0_11 t) fullShare (win0_11.fill (grid0.coords t) d (win0_11.cut (grid0.coords t) ((𝔇 0 c).after 11 t))))
    ∗ (∃ d, owns (c : Thread nD τ) (st0_12 t) fullShare (win0_12.fill (grid0.coords t) d (win0_12.cut (grid0.coords t) ((𝔇 0 c).after 12 t))))
    ∗ (∃ d, owns (c : Thread nD τ) (st0_13 t) fullShare (win0_13.fill (grid0.coords t) d (win0_13.cut (grid0.coords t) ((𝔇 0 c).after 13 t))))
    ∗ (∃ X, owns (c : Thread nD τ) (st0_14 t) fullShare X)
    ∗ (∃ X, owns (c : Thread nD τ) (st0_15 t) fullShare X)
    ∗ (∃ d, owns (c : Thread nD τ) (st0_16 t) fullShare (win0_16.fill (grid0.coords t) d (win0_16.cut (grid0.coords t) ((𝔇 0 c).after 16 t)))))

set_option maxHeartbeats 1600000 in
theorem sound_body (c : Dev nD) (t : Fin cfg0.N) (hag : Agree m o8 o9 o10 o11 o12 o13 o16 c t) :
    bodyPre m o8 o9 o10 o11 o12 o13 o16 c t ⊢ wp frame (wpE (defs₀ (F := F)) Variants.none c none) Set.univ (bodyAt0 t) (fun _ => bodyPost m o8 o9 o10 o11 o12 o13 o16 c t) := by
  unfold bodyPre bodyPost bodyAt0
  simp only [before0_0, before0_1, before0_2, before0_3, before0_4, before0_5, before0_6, before0_7]
  rw [show (𝔇 0 c).Φ t.succ = Pipeline.ΦA spec0 c from rfl, show (𝔇 0 c).Φ t.castSucc = Pipeline.ΦA spec0 c from rfl,
    show (𝔇 0 c).owesAt () t.succ = (𝔇 0 c).owesAt () t.castSucc from rfl,
    after0_0, after0_1, after0_2, after0_3, after0_4, after0_5, after0_6, after0_7, after0_8, after0_9, after0_10, after0_11, after0_12, after0_13, after0_16]
  unfold Pipeline.ΦA
  rw [scopedRest0_eq]
  have h0 : win0_0.cut (grid0.coords t) (fblk0 m c t) = iblk m c 0 t := win0_0.cut_fill _ _ _
  have h1 : win0_1.cut (grid0.coords t) (fblk1 m c t) = iblk m c 1 t := win0_1.cut_fill _ _ _
  rw [h0, h1]
  iintro ⟨⟨⟨⟨%g17, H17⟩, ⟨%g18, H18⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨e8, e9, e10, e11, e12, e13, e16⟩ := hag d0 d1
  rw [e8, e9, e10, e11, e12, e13, e16]
  iapply (sound_kernel c Set.univ (grid0.coords t) _ _ _ _ _ _ _ _ _ _ _ _ _ _ _ _ _ _ _ _ _ _ _ _ _ _ _ _ _ _ _ _ _ _ _ _ _ _ (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists g17; iapply (owns_of_whole c cc0_scratch0 g17); iexact H17
  isplitl [H18]; · iexists g18; iapply (owns_of_whole c cc0_scratch1 g18); iexact H18
  iintro ⟨H0, H1, H2, H3, H4, H5, H6, H7, H8, H9, H10, H11, H12, H13, ⟨%e14', H14⟩, ⟨%e15', H15⟩, H16, ⟨%e17', H17⟩, ⟨%e18', H18⟩⟩
  isplitl [H17 H18 HP]
  · isplitl [H17 H18]
    · isplitl [H17]
      · iexists e17'; iapply (whole_of_owns c cc0_scratch0 e17'); iexact H17
      · iexists e18'; iapply (whole_of_owns c cc0_scratch1 e18'); iexact H18
    · iexact HP
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexists (out0_8 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); rw [Window.fill_cut]; iexact H8
  isplitl [H9]; · iexists (out0_9 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); rw [Window.fill_cut]; iexact H9
  isplitl [H10]; · iexists (out0_10 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); rw [Window.fill_cut]; iexact H10
  isplitl [H11]; · iexists (out0_11 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); rw [Window.fill_cut]; iexact H11
  isplitl [H12]; · iexists (out0_12 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); rw [Window.fill_cut]; iexact H12
  isplitl [H13]; · iexists (out0_13 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); rw [Window.fill_cut]; iexact H13
  isplitl [H14]; · iexists e14'; iexact H14
  isplitl [H15]; · iexists e15'; iexact H15
  iexists (out0_16 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)); rw [Window.fill_cut]; iexact H16

theorem defs₀_row (t : Fin cfg0.N) :
    defs₀ (F := F) .tc cfg0.body (cfg0.bodyArgs t (cfg0.slots t)) = bodyAt0 t := by
  unfold defs₀; rw [Defs.onTc_tc]

/-- The result windows nothing is claimed of. -/
abbrev fgt : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => false
  | ⟨_ + 17, h⟩ => absurd h (Nat.not_lt.2 (Nat.le_add_left _ _))

theorem body_obligation (hag : ∀ c t, Agree m o8 o9 o10 o11 o12 o13 o16 c t) (c : Dev nD) : BodyObligationLoose (𝔇 0 c) (defs₀ (F := F)) Variants.none () Set.univ fgt := fun t => by
  rw [bigSep_W0, bigSep_W0, defs₀_row]
  exact triple_restated (sound_body m o8 o9 o10 o11 o12 o13 o16 c t (hag c t)) rfl .rfl fun _ => .rfl

/-! ## The run -/

set_option backward.isDefEq.respectTransparency.types false in
set_option maxHeartbeats 800000 in
theorem run_main_quiescent (hag : ∀ c t, Agree m o8 o9 o10 o11 o12 o13 o16 c t) : θ_run defs (onTc (τ := τ) (main (F := F))) (s₀ m ρ)
    (fun r => (Pipeline.RDat.FramePost cfg0 (fun c => (𝔇 0 c).toRForget fgt) (V m)) r ∧ r.2.sem = fun _ => 0) :=
  Pipeline.θ_run_frame_forget (Q' := _) cfgs (𝔇) (0 : Fin 1) launch0 defs₀ Variants.none fgt m ρ main
    (hbody := fun c => body_obligation m o8 o9 o10 o11 o12 o13 o16 hag c) (hshare := fun c => (𝔇 0 c).share_full fun _ => rfl)
    (howed := fun _ _ => rfl) (V := V m) (hmain := hmain m Variants.none) (hA := A_eq m o8 o9 o10 o11 o12 o13 o16) (hΦ := fun _ _ => rfl)

end Cert.PreKernelIdeal.Hand

end
-- ==== Proof.Pre.Arrays.lean ====
/-
  The first part of the layer for one token, over the extended reals, and its arrays: the adaptively normalised row, its
  codes and scale, and the query, key and gate rows projected from the codes. Both programs' result arrays are read against
  these.
-/
module

public import proofs.«01_k».proof.Proof.Post.Rows

@[expose] public section

noncomputable section

namespace Cert.PreRows

open Idealize.ShloMosaic Cert.Rows

/-- The weights of the first adaptive norm and of the four projections: query, key, value and gate. -/
structure Weights where
  gain : Fin 384 → EReal
  wada : Fin 2 → Fin 384 → Fin 768 → EReal
  bada : Fin 768 → EReal
  w : Fin 4 → Fin 768 → Fin 768 → EReal
  ws : Fin 4 → Fin 768 → EReal
  bq : Fin 768 → EReal

/-- One head's part of a row of 768. -/
def head (v : Fin 768 → EReal) (h : Fin 16) (e : Fin 48) : EReal := v ⟨h.val * 48 + e.val, by omega⟩

namespace Weights

variable (W : Weights)

/-- The conditioning row, normalised and scaled by its gain. -/
def sn (s : Fin 384 → EReal) (k : Fin 384) : EReal := normed len384 s k * W.gain k

/-- The adaptively normalised activation row. -/
def x1 (a : Fin 768 → EReal) (s : Fin 384 → EReal) (d : Fin 768) : EReal :=
  normed len768 a d * Ideal.logistic (dot (W.sn s) (W.wada 0) d + W.bada d) + dot (W.sn s) (W.wada 1) d

/-- One of the four projections of the row, quantised. -/
def proj (p : Fin 4) (a : Fin 768 → EReal) (s : Fin 384 → EReal) (j : Fin 768) : EReal :=
  qdot (W.x1 a s) (W.w p) (W.ws p) j

/-- The query, key and gate rows. -/
def q (a : Fin 768 → EReal) (s : Fin 384 → EReal) (j : Fin 768) : EReal := W.proj 0 a s j + W.bq j
def k (a : Fin 768 → EReal) (s : Fin 384 → EReal) (j : Fin 768) : EReal := W.proj 1 a s j
def g (a : Fin 768 → EReal) (s : Fin 384 → EReal) (j : Fin 768) : EReal := Ideal.logistic (W.proj 3 a s j)

end Weights

/-- The inputs: the weights, and the activation and conditioning rows of every token. -/
structure Inputs where
  W : Weights
  a : Fin 5 → Fin 1664 → Fin 768 → EReal
  s : Fin 5 → Fin 1664 → Fin 384 → EReal

namespace Inputs

variable (I : Inputs)

/-- The normalised rows' codes and scales. -/
def xc (b : Fin 5) (n : Fin 1664) (d : Fin 768) : EReal := code (I.W.x1 (I.a b n) (I.s b n)) d
def xs (b : Fin 5) (n : Fin 1664) : EReal := scale (I.W.x1 (I.a b n) (I.s b n))
/-- The query rows' codes and scales, per head. -/
def qc (b : Fin 5) (h : Fin 16) (e : Fin 48) (n : Fin 1664) : EReal := code (head (I.W.q (I.a b n) (I.s b n)) h) e
def qs (b : Fin 5) (h : Fin 16) (n : Fin 1664) : EReal := scale (head (I.W.q (I.a b n) (I.s b n)) h)
/-- The key rows' codes and scales, per head. -/
def kc (b : Fin 5) (h : Fin 16) (e : Fin 48) (n : Fin 1664) : EReal := code (head (I.W.k (I.a b n) (I.s b n)) h) e
def ks (b : Fin 5) (h : Fin 16) (n : Fin 1664) : EReal := scale (head (I.W.k (I.a b n) (I.s b n)) h)
/-- The gates. -/
def g (b : Fin 5) (h : Fin 16) (e : Fin 48) (n : Fin 1664) : EReal := head (I.W.g (I.a b n) (I.s b n)) h e

end Inputs

end Cert.PreRows

end
-- ==== Proof.Pre.KernelBlock.lean ====
/-
  What the kernel body computes, read at the rows of a block: each of its intermediate vectors, at row `r`, in terms of row
  `r` of the vectors it is computed from.
-/
module

public import proofs.«01_k».proof.Proof.Pre.Arrays
public import proofs.«01_k».proof.Proof.Gen.PreKernelIdeal.Skeleton
public import proofs.«01_k».proof.Proof.Gen.PreKernelIdeal

@[expose] public section

set_option maxRecDepth 16384

noncomputable section

namespace Cert.PreKernelIdeal.Hand

open Cert.PreKernelIdeal Cert.PreKernelIdeal.Gen Cert.Rows Cert.PreRows
open Idealize.ShloMosaic
open scoped BigOperators

theorem absMax_one {K : ℕ} (f : Fin K → EReal) :
    Finset.fold max (Ideal.ofBits .f32 0xFF800000#32) (fun k => FloatOps.absf (F := Ideal) (φ := .f32) (f k)) Finset.univ = absMax f := by
  have hb : Ideal.ofBits .f32 0xFF800000#32 = ⊥ := by simp [Ideal.ofBits, Ideal.ieee]
  rw [hb]; rfl

theorem pay16_at (v : Vec Ideal S1x768 .f32) (d : Fin 768) : k0_pay16 v (ix2 0 d) = v (ix2 0 d) := by
  unfold k0_pay16
  pointwise

theorem pay17_at (v0 : Vec Ideal S1x256x384 .bf16) (v22 : Vec Ideal S1x384 .f32) (v24 : Vec Ideal S384x1536 .bf16) (r : Fin 256) (j : Fin 1536) :
    k0_pay17 v0 v22 v24 (ix2 r j) = ∑ k : Fin 384, (normed len384 (fun k => v0 (ix3 0 r k)) k * v22 (ix2 0 k)) * v24 (ix2 k j) := by
  unfold k0_pay17
  pointwise [dot_S256x384_S384x1536_S256x1536_1_0_0_1_n_n]
  refine Finset.sum_congr rfl fun k _ => ?_
  congr 2
  exact mul_rsqrt_var len384_pos _ _

theorem pay18_at (v : Vec Ideal S1x256x768 .bf16) (r : Fin 256) (d : Fin 768) :
    k0_pay18 v (ix2 r d) = centred len768 (fun k => v (ix3 0 r k)) d := by
  unfold k0_pay18
  pointwise
  rfl

theorem pay19_at (v27 : FVec Ideal S1x768 .f32) (v31 : FVec Ideal S256x1536 .f32) (v37 : FVec Ideal S256x768 .f32) (r : Fin 256) (d : Fin 768) :
    k0_pay19 v27 v31 v37 (ix2 r d)
      = v37 (ix2 r d) * Ideal.rsqrt (mean len768 (fun k => v37 (ix2 r k) * v37 (ix2 r k)) + eps)
        * Ideal.logistic (v31 (ix2 r ⟨d.val, by omega⟩) + v27 (ix2 0 d)) + v31 (ix2 r ⟨768 + d.val, by omega⟩) := by
  unfold k0_pay19
  pointwise
  rfl

theorem pay20_at (v27 : FVec Ideal S1x768 .f32) (v31 : FVec Ideal S256x1536 .f32) (v37 : FVec Ideal S256x768 .f32) (r : Fin 256) :
    k0_pay20 v27 v31 v37 (ix2 r 0) = scale (fun d => k0_pay19 v27 v31 v37 (ix2 r d)) := by
  unfold k0_pay20
  pointwise [absMax_one]
  rfl

theorem pay21_at (v27 : FVec Ideal S1x768 .f32) (v31 : FVec Ideal S256x1536 .f32) (v37 : FVec Ideal S256x768 .f32) (r : Fin 256) (d : Fin 768) :
    k0_pay21 v27 v31 v37 (ix2 r d) = code (fun d => k0_pay19 v27 v31 v37 (ix2 r d)) d := by
  unfold k0_pay21 code codeAt
  rw [← mul_recip_scale]
  pointwise [pay20_at]
  rfl

theorem pay22_at (v27 : FVec Ideal S1x768 .f32) (v31 : FVec Ideal S256x1536 .f32) (v37 : FVec Ideal S256x768 .f32) (r : Fin 256) (d : Fin 768) :
    k0_pay22 v27 v31 v37 (ix3 0 r d) = code (fun d => k0_pay19 v27 v31 v37 (ix2 r d)) d := by
  unfold k0_pay22
  pointwise [pay21_at]

theorem pay23_at (v27 : FVec Ideal S1x768 .f32) (v31 : FVec Ideal S256x1536 .f32) (v37 : FVec Ideal S256x768 .f32) (r : Fin 256) :
    k0_pay23 v27 v31 v37 (ix2 0 r) = scale (fun d => k0_pay19 v27 v31 v37 (ix2 r d)) := by
  unfold k0_pay23
  pointwise [pay20_at]

theorem pay24_at (v : FVec Ideal S1x256 .f32) (r : Fin 256) : k0_pay24 v (ix3 0 0 r) = v (ix2 0 r) := by
  unfold k0_pay24
  pointwise

/-! ## A projection, heads and head columns apart -/

/-- The projection of row `r`'s codes at head `h` and head column `e`. -/
def projAt (v72 : FVec Ideal S256x768 .fp8e4m3) (v79 : FVec Ideal S1x256 .f32) (w : Vec Ideal S768x768 .fp8e4m3) (u : Fin 768 → EReal)
    (r : Fin 256) (j : Fin 768) : EReal :=
  (∑ k : Fin 768, w (ix2 j k) * v72 (ix2 r k)) * v79 (ix2 0 r) * u j

theorem pay25_at (v72 : FVec Ideal S256x768 .fp8e4m3) (v79 : FVec Ideal S1x256 .f32) (v83 : Vec Ideal S768x128 .f32)
    (w : Vec Ideal S768x768 .fp8e4m3) (v94 : Vec Ideal S768x128 .f32) (b u : Fin 768 → EReal) (hb : ∀ j l, v83 (ix2 j l) = b j)
    (hu : ∀ j l, v94 (ix2 j l) = u j) (h : Fin 16) (e : Fin 48) (r : Fin 256) :
    k0_pay25 v72 v79 v83 w v94 (ix3 h e r) = head (fun j => projAt v72 v79 w u r j + b j) h e := by
  unfold k0_pay25 head projAt
  pointwise [dot_S768x768_S256x768_S768x256_1_1_0_0_n_n, hb, hu]
  split_ifs <;> rfl

theorem pay29_at (v72 : FVec Ideal S256x768 .fp8e4m3) (v79 : FVec Ideal S1x256 .f32)
    (w : Vec Ideal S768x768 .fp8e4m3) (v94 : Vec Ideal S768x128 .f32) (u : Fin 768 → EReal)
    (hu : ∀ j l, v94 (ix2 j l) = u j) (h : Fin 16) (e : Fin 48) (r : Fin 256) :
    k0_pay29 v72 v79 w v94 (ix3 h e r) = head (fun j => projAt v72 v79 w u r j) h e := by
  unfold k0_pay29 head projAt
  pointwise [dot_S768x768_S256x768_S768x256_1_1_0_0_n_n, hu]
  split_ifs <;> rfl

theorem pay2_at (v72 : FVec Ideal S256x768 .fp8e4m3) (v79 : FVec Ideal S1x256 .f32)
    (w : Vec Ideal S768x768 .fp8e4m3) (v94 : Vec Ideal S768x128 .f32) (u : Fin 768 → EReal)
    (hu : ∀ j l, v94 (ix2 j l) = u j) (h : Fin 16) (e : Fin 48) (r : Fin 256) :
    k0_pay2 v72 v79 w v94 (ix4 0 h e r) = head (fun j => Ideal.logistic (projAt v72 v79 w u r j)) h e := by
  unfold k0_pay2 head projAt
  pointwise [dot_S768x768_S256x768_S768x256_1_1_0_0_n_n, hu]
  split_ifs <;> rfl

theorem pay26_at (v72 : FVec Ideal S256x768 .fp8e4m3) (v79 : FVec Ideal S1x256 .f32) (v83 : Vec Ideal S768x128 .f32)
    (w : Vec Ideal S768x768 .fp8e4m3) (v94 : Vec Ideal S768x128 .f32) (h : Fin 16) (r : Fin 256) :
    k0_pay26 v72 v79 v83 w v94 (ix3 h 0 r) = scale (fun e => k0_pay25 v72 v79 v83 w v94 (ix3 h e r)) := by
  unfold k0_pay26
  pointwise [absMax_one]
  rfl

theorem pay30_at (v72 : FVec Ideal S256x768 .fp8e4m3) (v79 : FVec Ideal S1x256 .f32)
    (w : Vec Ideal S768x768 .fp8e4m3) (v94 : Vec Ideal S768x128 .f32) (h : Fin 16) (r : Fin 256) :
    k0_pay30 v72 v79 w v94 (ix3 h 0 r) = scale (fun e => k0_pay29 v72 v79 w v94 (ix3 h e r)) := by
  unfold k0_pay30
  pointwise [absMax_one]
  rfl

theorem pay27_at (v72 : FVec Ideal S256x768 .fp8e4m3) (v79 : FVec Ideal S1x256 .f32) (v83 : Vec Ideal S768x128 .f32)
    (w : Vec Ideal S768x768 .fp8e4m3) (v94 : Vec Ideal S768x128 .f32) (h : Fin 16) (e : Fin 48) (r : Fin 256) :
    k0_pay27 v72 v79 v83 w v94 (ix4 0 h e r) = code (fun e => k0_pay25 v72 v79 v83 w v94 (ix3 h e r)) e := by
  unfold k0_pay27 code codeAt
  rw [← mul_recip_scale]
  pointwise [pay26_at]
  rfl

theorem pay31_at (v72 : FVec Ideal S256x768 .fp8e4m3) (v79 : FVec Ideal S1x256 .f32)
    (w : Vec Ideal S768x768 .fp8e4m3) (v94 : Vec Ideal S768x128 .f32) (h : Fin 16) (e : Fin 48) (r : Fin 256) :
    k0_pay31 v72 v79 w v94 (ix4 0 h e r) = code (fun e => k0_pay29 v72 v79 w v94 (ix3 h e r)) e := by
  unfold k0_pay31 code codeAt
  rw [← mul_recip_scale]
  pointwise [pay30_at]
  rfl

theorem pay28_at (v : FVec Ideal S16x1x256 .f32) (h : Fin 16) (r : Fin 256) : k0_pay28 v (ix3 0 h r) = v (ix3 h 0 r) := by
  unfold k0_pay28
  pointwise

theorem pay32_at (v72 : FVec Ideal S256x768 .fp8e4m3) (v79 : FVec Ideal S1x256 .f32)
    (w : Vec Ideal S768x768 .fp8e4m3) (v94 : Vec Ideal S768x128 .f32) (h : Fin 16) (r : Fin 256) :
    k0_pay32 v72 v79 w v94 (ix2 h r) = k0_pay30 v72 v79 w v94 (ix3 h 0 r) := by
  unfold k0_pay32
  pointwise

theorem pay33_at (v : FVec Ideal S16x256 .f32) (h : Fin 16) (r : Fin 256) : k0_pay33 v (ix3 0 h r) = v (ix2 h r) := by
  unfold k0_pay33
  pointwise

end Cert.PreKernelIdeal.Hand

end
-- ==== Proof.Pre.KernelRows.lean ====
/-
  The kernel body's stores, read at a row of the block: each is the token function of Arrays.lean at that row of the input
  blocks and the weights the weight blocks hold.
-/
module

public import proofs.«01_k».proof.Proof.Pre.KernelBlock
public import proofs.«01_k».proof.Proof.Pre.KernelIdealBody

@[expose] public section

set_option maxRecDepth 16384

noncomputable section

namespace Cert.PreKernelIdeal.Hand

open Cert.PreKernelIdeal Cert.PreKernelIdeal.Gen Cert.Rows Cert.PreRows
open Idealize.ShloMosaic
open scoped BigOperators

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-! ## Loads -/

theorem ld_a (x : Vec Ideal S1x256x768 .bf16) : View.ld x r0_a = x := View.ld_unit_zero (S := S1x256x768) z3 _ x
theorem ld_s (x : Vec Ideal S1x256x384 .bf16) : View.ld x r0_s = x := View.ld_unit_zero (S := S1x256x384) z3 _ x
theorem ld_gain (x : Vec Ideal S1x384 .f32) : View.ld x r0_gain = x := View.ld_unit_zero (S := S1x384) z2 _ x
theorem ld_wada (x : Vec Ideal S384x1536 .bf16) : View.ld x r0_wada = x := View.ld_unit_zero (S := S384x1536) z2 _ x
theorem ld_bada (x : Vec Ideal S1x768 .f32) : View.ld x r0_bada = x := View.ld_unit_zero (S := S1x768) z2 _ x
theorem ld_bq (x : Vec Ideal S768x128 .f32) : View.ld x r0_bq = x := View.ld_unit_zero (S := S768x128) z2 _ x
theorem ld_wq (x : Vec Ideal S3072x768 .fp8e4m3) (j k : Fin 768) : (View.ld x r0_wq : Vec Ideal S768x768 .fp8e4m3) (ix2 j k) = x (ix2 ⟨(0 : Fin 4).val * 768 + j.val, by show 0 * 768 + j.val < 3072; omega⟩ k) := by
  pointwise
theorem ld_sq (x : Vec Ideal S3072x128 .f32) (j : Fin 768) (l : Fin 128) : (View.ld x r0_sq : Vec Ideal S768x128 .f32) (ix2 j l) = x (ix2 ⟨(0 : Fin 4).val * 768 + j.val, by show 0 * 768 + j.val < 3072; omega⟩ l) := by
  pointwise
theorem ld_wk (x : Vec Ideal S3072x768 .fp8e4m3) (j k : Fin 768) : (View.ld x r0_wk : Vec Ideal S768x768 .fp8e4m3) (ix2 j k) = x (ix2 ⟨(1 : Fin 4).val * 768 + j.val, by show 1 * 768 + j.val < 3072; omega⟩ k) := by
  pointwise
theorem ld_sk (x : Vec Ideal S3072x128 .f32) (j : Fin 768) (l : Fin 128) : (View.ld x r0_sk : Vec Ideal S768x128 .f32) (ix2 j l) = x (ix2 ⟨(1 : Fin 4).val * 768 + j.val, by show 1 * 768 + j.val < 3072; omega⟩ l) := by
  pointwise
theorem ld_wg (x : Vec Ideal S3072x768 .fp8e4m3) (j k : Fin 768) : (View.ld x r0_wg : Vec Ideal S768x768 .fp8e4m3) (ix2 j k) = x (ix2 ⟨(3 : Fin 4).val * 768 + j.val, by show 3 * 768 + j.val < 3072; omega⟩ k) := by
  pointwise
theorem ld_sg (x : Vec Ideal S3072x128 .f32) (j : Fin 768) (l : Fin 128) : (View.ld x r0_sg : Vec Ideal S768x128 .f32) (ix2 j l) = x (ix2 ⟨(3 : Fin 4).val * 768 + j.val, by show 3 * 768 + j.val < 3072; omega⟩ l) := by
  pointwise

/-! ## The token functions -/

/-- The weights the weight blocks hold. -/
def blockW (x2 : Vec Ideal S1x384 .f32) (x3 : Vec Ideal S384x1536 .bf16) (x4 : Vec Ideal S1x768 .f32) (x5 : Vec Ideal S3072x768 .fp8e4m3) (x6 : Vec Ideal S3072x128 .f32) (x7 : Vec Ideal S768x128 .f32) : PreRows.Weights where
  gain k := x2 (ix2 0 k)
  wada i k d := x3 (ix2 k ⟨i.val * 768 + d.val, by omega⟩)
  bada d := x4 (ix2 0 d)
  w p k j := x5 (ix2 ⟨p.val * 768 + j.val, by omega⟩ k)
  ws p j := x6 (ix2 ⟨p.val * 768 + j.val, by omega⟩ 0)
  bq j := x7 (ix2 j 0)

variable (x0 : Vec Ideal S1x256x768 .bf16) (x1 : Vec Ideal S1x256x384 .bf16) (x2 : Vec Ideal S1x384 .f32) (x3 : Vec Ideal S384x1536 .bf16) (x4 : Vec Ideal S1x768 .f32) (x5 : Vec Ideal S3072x768 .fp8e4m3) (x6 : Vec Ideal S3072x128 .f32) (x7 : Vec Ideal S768x128 .f32)

theorem half0 (d : Fin 768) (h) : (⟨(0 : Fin 2).val * 768 + d.val, h⟩ : Fin 1536) = ⟨d.val, by omega⟩ := Fin.ext (by simp)
theorem half1 (d : Fin 768) (h) : (⟨(1 : Fin 2).val * 768 + d.val, h⟩ : Fin 1536) = ⟨768 + d.val, by omega⟩ := Fin.ext (by simp)

theorem x1_at (r : Fin 256) (d : Fin 768) : k0_pay19 (bias x4) (ada x1 x2 x3) (cent x0) (ix2 r d) = (blockW x2 x3 x4 x5 x6 x7).x1 (fun d => x0 (ix3 0 r d)) (fun k => x1 (ix3 0 r k)) d := by
  rw [pay19_at]
  unfold bias ada cent
  simp only [pay16_at, pay17_at, pay18_at, ld_a, ld_s, ld_gain, ld_wada, ld_bada]
  have h := mul_rsqrt_var len768_pos (fun d => x0 (ix3 0 r d)) (centred len768 (fun d => x0 (ix3 0 r d)) d)
  simp only [var] at h
  rw [h]
  simp only [PreRows.Weights.x1, PreRows.Weights.sn, dot, normed, var, blockW, half0, half1]

theorem x1_row (r : Fin 256) : (fun d => k0_pay19 (bias x4) (ada x1 x2 x3) (cent x0) (ix2 r d)) = (blockW x2 x3 x4 x5 x6 x7).x1 (fun d => x0 (ix3 0 r d)) (fun k => x1 (ix3 0 r k)) := funext fun d => x1_at x0 x1 x2 x3 x4 x5 x6 x7 r d

theorem codes_at (r : Fin 256) (k : Fin 768) : codes x0 x1 x2 x3 x4 (ix2 r k) = code ((blockW x2 x3 x4 x5 x6 x7).x1 (fun d => x0 (ix3 0 r d)) (fun k => x1 (ix3 0 r k))) k := by
  unfold codes
  rw [pay21_at, x1_row x0 x1 x2 x3 x4 x5 x6 x7 r]

theorem srow_at (r : Fin 256) : srow x0 x1 x2 x3 x4 (ix2 0 r) = scale ((blockW x2 x3 x4 x5 x6 x7).x1 (fun d => x0 (ix3 0 r d)) (fun k => x1 (ix3 0 r k))) := by
  unfold srow
  rw [pay23_at, x1_row x0 x1 x2 x3 x4 x5 x6 x7 r]

/-- A projection of the body is the token's. -/
theorem proj_at (p : Fin 4) (w : Vec Ideal S768x768 .fp8e4m3) (hw : ∀ j k, w (ix2 j k) = (blockW x2 x3 x4 x5 x6 x7).w p k j) (r : Fin 256) (j : Fin 768) :
    projAt (codes x0 x1 x2 x3 x4) (srow x0 x1 x2 x3 x4) w ((blockW x2 x3 x4 x5 x6 x7).ws p) r j = (blockW x2 x3 x4 x5 x6 x7).proj p (fun d => x0 (ix3 0 r d)) (fun k => x1 (ix3 0 r k)) j := by
  unfold projAt PreRows.Weights.proj qdot dot
  rw [srow_at x0 x1 x2 x3 x4 x5 x6 x7 r]
  congr 2
  refine Finset.sum_congr rfl fun k _ => ?_
  rw [codes_at x0 x1 x2 x3 x4 x5 x6 x7 r k, hw, mul_comm]

/-! ## The heads -/

theorem q_at (h6 : ∀ j l, x6 (ix2 j l) = x6 (ix2 j 0)) (h7 : ∀ j l, x7 (ix2 j l) = x7 (ix2 j 0)) (h : Fin 16) (e : Fin 48) (r : Fin 256) :
    k0_pay25 (codes x0 x1 x2 x3 x4) (srow x0 x1 x2 x3 x4) (View.ld x7 r0_bq) (View.ld x5 r0_wq) (View.ld x6 r0_sq) (ix3 h e r) = head ((blockW x2 x3 x4 x5 x6 x7).q (fun d => x0 (ix3 0 r d)) (fun k => x1 (ix3 0 r k))) h e := by
  rw [pay25_at _ _ _ _ _ (fun j => x7 (ix2 j 0)) ((blockW x2 x3 x4 x5 x6 x7).ws 0) (fun j l => by rw [ld_bq]; exact h7 j l) (fun j l => by rw [ld_sq]; exact h6 _ l)]
  unfold head PreRows.Weights.q
  exact congrArg (fun t : EReal => t + x7 (ix2 ⟨h.val * 48 + e.val, by omega⟩ 0)) (proj_at x0 x1 x2 x3 x4 x5 x6 x7 0 _ (fun j k => by rw [ld_wq]; rfl) r _)

theorem k_at (h6 : ∀ j l, x6 (ix2 j l) = x6 (ix2 j 0)) (h : Fin 16) (e : Fin 48) (r : Fin 256) :
    k0_pay29 (codes x0 x1 x2 x3 x4) (srow x0 x1 x2 x3 x4) (View.ld x5 r0_wk) (View.ld x6 r0_sk) (ix3 h e r) = head ((blockW x2 x3 x4 x5 x6 x7).k (fun d => x0 (ix3 0 r d)) (fun k => x1 (ix3 0 r k))) h e := by
  rw [pay29_at _ _ _ _ ((blockW x2 x3 x4 x5 x6 x7).ws 1) (fun j l => by rw [ld_sk]; exact h6 _ l)]
  unfold head PreRows.Weights.k
  exact proj_at x0 x1 x2 x3 x4 x5 x6 x7 1 _ (fun j k => by rw [ld_wk]; rfl) r _

/-! ## The stores -/

theorem out8_at (r : Fin 256) (d : Fin 768) : out0_8 x0 x1 x2 x3 x4 x5 x6 x7 (ix3 0 r d) = code ((blockW x2 x3 x4 x5 x6 x7).x1 (fun d => x0 (ix3 0 r d)) (fun k => x1 (ix3 0 r k))) d := by
  unfold out0_8
  rw [View.canon_unit_zero (S := S1x256x768) z3, pay22_at, x1_row x0 x1 x2 x3 x4 x5 x6 x7 r]

theorem out9_at (r : Fin 256) : out0_9 x0 x1 x2 x3 x4 x5 x6 x7 (ix3 0 0 r) = scale ((blockW x2 x3 x4 x5 x6 x7).x1 (fun d => x0 (ix3 0 r d)) (fun k => x1 (ix3 0 r k))) := by
  unfold out0_9
  rw [View.canon_unit_zero (S := S1x1x256) z3, pay24_at, srow_at x0 x1 x2 x3 x4 x5 x6 x7 r]

theorem out10_at (h6 : ∀ j l, x6 (ix2 j l) = x6 (ix2 j 0)) (h7 : ∀ j l, x7 (ix2 j l) = x7 (ix2 j 0)) (h : Fin 16) (e : Fin 48) (r : Fin 256) : out0_10 x0 x1 x2 x3 x4 x5 x6 x7 (ix4 0 h e r) = code (head ((blockW x2 x3 x4 x5 x6 x7).q (fun d => x0 (ix3 0 r d)) (fun k => x1 (ix3 0 r k))) h) e := by
  unfold out0_10
  rw [View.canon_unit_zero (S := S1x16x48x256) z4, pay27_at]
  exact congrArg (fun v : Fin 48 → EReal => code v e) (funext fun e => q_at x0 x1 x2 x3 x4 x5 x6 x7 h6 h7 h e r)

theorem out11_at (h6 : ∀ j l, x6 (ix2 j l) = x6 (ix2 j 0)) (h7 : ∀ j l, x7 (ix2 j l) = x7 (ix2 j 0)) (h : Fin 16) (r : Fin 256) : out0_11 x0 x1 x2 x3 x4 x5 x6 x7 (ix3 0 h r) = scale (head ((blockW x2 x3 x4 x5 x6 x7).q (fun d => x0 (ix3 0 r d)) (fun k => x1 (ix3 0 r k))) h) := by
  unfold out0_11
  rw [View.canon_unit_zero (S := S1x16x256) z3, pay28_at, pay26_at]
  exact congrArg scale (funext fun e => q_at x0 x1 x2 x3 x4 x5 x6 x7 h6 h7 h e r)

theorem out12_at (h6 : ∀ j l, x6 (ix2 j l) = x6 (ix2 j 0)) (h : Fin 16) (e : Fin 48) (r : Fin 256) : out0_12 x0 x1 x2 x3 x4 x5 x6 x7 (ix4 0 h e r) = code (head ((blockW x2 x3 x4 x5 x6 x7).k (fun d => x0 (ix3 0 r d)) (fun k => x1 (ix3 0 r k))) h) e := by
  unfold out0_12
  rw [View.canon_unit_zero (S := S1x16x48x256) z4, pay31_at]
  exact congrArg (fun v : Fin 48 → EReal => code v e) (funext fun e => k_at x0 x1 x2 x3 x4 x5 x6 x7 h6 h e r)

theorem out13_at (h6 : ∀ j l, x6 (ix2 j l) = x6 (ix2 j 0)) (h : Fin 16) (r : Fin 256) : out0_13 x0 x1 x2 x3 x4 x5 x6 x7 (ix3 0 h r) = scale (head ((blockW x2 x3 x4 x5 x6 x7).k (fun d => x0 (ix3 0 r d)) (fun k => x1 (ix3 0 r k))) h) := by
  unfold out0_13
  rw [View.canon_unit_zero (S := S1x16x256) z3, pay33_at, pay32_at, pay30_at]
  exact congrArg scale (funext fun e => k_at x0 x1 x2 x3 x4 x5 x6 x7 h6 h e r)

theorem out16_at (h6 : ∀ j l, x6 (ix2 j l) = x6 (ix2 j 0)) (h : Fin 16) (e : Fin 48) (r : Fin 256) : out0_16 x0 x1 x2 x3 x4 x5 x6 x7 (ix4 0 h e r) = head ((blockW x2 x3 x4 x5 x6 x7).g (fun d => x0 (ix3 0 r d)) (fun k => x1 (ix3 0 r k))) h e := by
  unfold out0_16
  rw [View.canon_unit_zero (S := S1x16x48x256) z4, pay2_at _ _ _ _ ((blockW x2 x3 x4 x5 x6 x7).ws 3) (fun j l => by rw [ld_sg]; exact h6 _ l)]
  unfold head PreRows.Weights.g
  exact congrArg Ideal.logistic (proj_at x0 x1 x2 x3 x4 x5 x6 x7 3 _ (fun j k => by rw [ld_wg]; rfl) r _)

end Cert.PreKernelIdeal.Hand

end
-- ==== Proof.Pre.KernelReads.lean ====
/-
  What the arrays the region reads hold, at an index, in terms of the program's arguments: the host lines before the region
  are reshapes, one transpose and two broadcasts along the lanes.
-/
module

public import proofs.«01_k».proof.Proof.Gen.PreKernelIdeal.Frame
public import proofs.«01_k».proof.Proof.Pre.Arrays
public import Idealize.ShloMosaic.Lib.StableHlo.ReadAt

@[expose] public section

set_option maxRecDepth 16384

noncomputable section

namespace Cert.PreKernelIdeal.Hand

open Cert.PreKernelIdeal Cert.PreKernelIdeal.Gen Cert.PreRows
open Idealize.ShloMosaic Idealize.ShloMosaic.TcCoe
open Idealize.SL.Sem

variable (m : (ℓ : Loc nD τ sig) → Buf (Elt Ideal) ℓ)

theorem V_w (c : Dev nD) (p : Fin 4) (k j : Fin 768) :
    V m c main_v1 (ix2 ⟨p.val * 768 + j.val, by omega⟩ k) = m ((c : Thread nD τ).loc main_arg5) (ix4 k p ⟨j.val / 48, by omega⟩ ⟨j.val % 48, by omega⟩) := by
  unfold V
  after_reads_at
  exact congrArg (m ((c : Thread nD τ).loc main_arg5)) (congr (congr (rfl : ix4 k _ = ix4 k p) (Fin.ext (by show (p.val * 768 + j.val) / 48 % 16 = j.val / 48; omega))) (Fin.ext (by show (p.val * 768 + j.val) % 48 = j.val % 48; omega)))

theorem V_ws (c : Dev nD) (p : Fin 4) (j : Fin 768) (l : Fin 128) :
    V m c main_v3 (ix2 ⟨p.val * 768 + j.val, by omega⟩ l) = m ((c : Thread nD τ).loc main_arg6) (ix3 p ⟨j.val / 48, by omega⟩ ⟨j.val % 48, by omega⟩) := by
  unfold V
  after_reads_at
  exact congrArg (m ((c : Thread nD τ).loc main_arg6)) (congr (congr (congrArg ix3 (Fin.ext (by show (p.val * 768 + j.val) / 768 = p.val; omega))) (Fin.ext (by show (p.val * 768 + j.val) / 48 % 16 = j.val / 48; omega))) (Fin.ext (by show (p.val * 768 + j.val) % 48 = j.val % 48; omega)))

theorem V_bq (c : Dev nD) (j : Fin 768) (l : Fin 128) :
    V m c main_v5 (ix2 j l) = m ((c : Thread nD τ).loc main_arg7) (ix2 ⟨j.val / 48, by omega⟩ ⟨j.val % 48, by omega⟩) := by
  unfold V
  after_reads_at

theorem V_gain (c : Dev nD) (k : Fin 384) : V m c main_v6 (ix2 0 k) = m ((c : Thread nD τ).loc main_arg2) (ix1 k) := by
  unfold V
  after_reads_at

theorem V_wada0 (c : Dev nD) (k : Fin 384) (d : Fin 768) :
    V m c main_v7 (ix2 k ⟨0 * 768 + d.val, by omega⟩) = m ((c : Thread nD τ).loc main_arg3) (ix3 k 0 d) := by
  unfold V
  after_reads_at
  exact congrArg (m ((c : Thread nD τ).loc main_arg3)) (congr (congrArg (ix3 k) (Fin.ext (by show _ / 768 = 0; omega))) (Fin.ext (by show d.val % 768 = d.val; omega)))

theorem V_wada1 (c : Dev nD) (k : Fin 384) (d : Fin 768) :
    V m c main_v7 (ix2 k ⟨1 * 768 + d.val, by omega⟩) = m ((c : Thread nD τ).loc main_arg3) (ix3 k 1 d) := by
  unfold V
  after_reads_at
  exact congrArg (m ((c : Thread nD τ).loc main_arg3)) (congr (congrArg (ix3 k) (Fin.ext (by show _ / 768 = 1; omega))) rfl)

theorem V_bada (c : Dev nD) (d : Fin 768) : V m c main_v8 (ix2 0 d) = m ((c : Thread nD τ).loc main_arg4) (ix1 d) := by
  unfold V
  after_reads_at

/-- The program's inputs. -/
def inputs (c : Dev nD) : Inputs where
  W :=
    { gain := fun k => m ((c : Thread nD τ).loc main_arg2) (ix1 k)
      wada := fun i k d => m ((c : Thread nD τ).loc main_arg3) (ix3 k i d)
      bada := fun d => m ((c : Thread nD τ).loc main_arg4) (ix1 d)
      w := fun p k j => m ((c : Thread nD τ).loc main_arg5) (ix4 k p ⟨j.val / 48, by omega⟩ ⟨j.val % 48, by omega⟩)
      ws := fun p j => m ((c : Thread nD τ).loc main_arg6) (ix3 p ⟨j.val / 48, by omega⟩ ⟨j.val % 48, by omega⟩)
      bq := fun j => m ((c : Thread nD τ).loc main_arg7) (ix2 ⟨j.val / 48, by omega⟩ ⟨j.val % 48, by omega⟩) }
  a b n d := m ((c : Thread nD τ).loc main_arg0) (ix3 b n d)
  s b n k := m ((c : Thread nD τ).loc main_arg1) (ix3 b n k)

end Cert.PreKernelIdeal.Hand

end
-- ==== Proof.Pre.KernelBlocks.lean ====
/-
  The blocks of the arrays the kernel's region leaves: every point's blocks, read inside the array, are the rows of the
  result arrays.
-/
module

public import proofs.«01_k».proof.Proof.Pre.KernelIdealRun
public import proofs.«01_k».proof.Proof.Pre.KernelRows
public import proofs.«01_k».proof.Proof.Pre.KernelReads
public import Idealize.ShloMosaic.Lib.Pipeline.ValueKit.Geometry

@[expose] public section

set_option maxRecDepth 16384

noncomputable section

namespace Cert.PreKernelIdeal.Hand

open Cert.PreKernelIdeal Cert.PreKernelIdeal.Gen Cert.Rows Cert.PreRows
open Idealize.ShloMosaic Idealize.ShloMosaic.TcCoe
open Idealize.SL.Sem

variable (m : (ℓ : Loc nD τ sig) → Buf (Elt Ideal) ℓ)

/-! ## The windows' geometry -/

theorem e_0 : ∀ t : Fin cfg0.N, win0_0.index t = ![(grid0.coords t 0).val, (grid0.coords t 1).val, 0] := (by decide +kernel : ∀ t : Fin grid0.N, _)
theorem x_0 : ∀ t : Fin cfg0.N, win0_0.xsize (grid0.coords t) = ![1, min 256 (1664 - (grid0.coords t 1).val * 256), 768] := (by decide +kernel : ∀ t : Fin grid0.N, _)
theorem e_1 : ∀ t : Fin cfg0.N, win0_1.index t = ![(grid0.coords t 0).val, (grid0.coords t 1).val, 0] := (by decide +kernel : ∀ t : Fin grid0.N, _)
theorem x_1 : ∀ t : Fin cfg0.N, win0_1.xsize (grid0.coords t) = ![1, min 256 (1664 - (grid0.coords t 1).val * 256), 384] := (by decide +kernel : ∀ t : Fin grid0.N, _)
theorem e_8 : ∀ t : Fin cfg0.N, win0_8.index t = ![(grid0.coords t 0).val, (grid0.coords t 1).val, 0] := (by decide +kernel : ∀ t : Fin grid0.N, _)
theorem x_8 : ∀ t : Fin cfg0.N, win0_8.xsize (grid0.coords t) = ![1, min 256 (1664 - (grid0.coords t 1).val * 256), 768] := (by decide +kernel : ∀ t : Fin grid0.N, _)
theorem e_9 : ∀ t : Fin cfg0.N, win0_9.index t = ![(grid0.coords t 0).val, 0, (grid0.coords t 1).val] := (by decide +kernel : ∀ t : Fin grid0.N, _)
theorem x_9 : ∀ t : Fin cfg0.N, win0_9.xsize (grid0.coords t) = ![1, 1, min 256 (1664 - (grid0.coords t 1).val * 256)] := (by decide +kernel : ∀ t : Fin grid0.N, _)
theorem e_10 : ∀ t : Fin cfg0.N, win0_10.index t = ![(grid0.coords t 0).val, 0, 0, (grid0.coords t 1).val] := (by decide +kernel : ∀ t : Fin grid0.N, _)
theorem x_10 : ∀ t : Fin cfg0.N, win0_10.xsize (grid0.coords t) = ![1, 16, 48, min 256 (1664 - (grid0.coords t 1).val * 256)] := (by decide +kernel : ∀ t : Fin grid0.N, _)
theorem e_11 : ∀ t : Fin cfg0.N, win0_11.index t = ![(grid0.coords t 0).val, 0, (grid0.coords t 1).val] := (by decide +kernel : ∀ t : Fin grid0.N, _)
theorem x_11 : ∀ t : Fin cfg0.N, win0_11.xsize (grid0.coords t) = ![1, 16, min 256 (1664 - (grid0.coords t 1).val * 256)] := (by decide +kernel : ∀ t : Fin grid0.N, _)
theorem e_12 : ∀ t : Fin cfg0.N, win0_12.index t = ![(grid0.coords t 0).val, 0, 0, (grid0.coords t 1).val] := (by decide +kernel : ∀ t : Fin grid0.N, _)
theorem x_12 : ∀ t : Fin cfg0.N, win0_12.xsize (grid0.coords t) = ![1, 16, 48, min 256 (1664 - (grid0.coords t 1).val * 256)] := (by decide +kernel : ∀ t : Fin grid0.N, _)
theorem e_13 : ∀ t : Fin cfg0.N, win0_13.index t = ![(grid0.coords t 0).val, 0, (grid0.coords t 1).val] := (by decide +kernel : ∀ t : Fin grid0.N, _)
theorem x_13 : ∀ t : Fin cfg0.N, win0_13.xsize (grid0.coords t) = ![1, 16, min 256 (1664 - (grid0.coords t 1).val * 256)] := (by decide +kernel : ∀ t : Fin grid0.N, _)
theorem e_16 : ∀ t : Fin cfg0.N, win0_16.index t = ![(grid0.coords t 0).val, 0, 0, (grid0.coords t 1).val] := (by decide +kernel : ∀ t : Fin grid0.N, _)
theorem x_16 : ∀ t : Fin cfg0.N, win0_16.xsize (grid0.coords t) = ![1, 16, 48, min 256 (1664 - (grid0.coords t 1).val * 256)] := (by decide +kernel : ∀ t : Fin grid0.N, _)
theorem e_2 : ∀ t : Fin cfg0.N, win0_2.index t = ![0, 0] := (by decide +kernel : ∀ t : Fin grid0.N, _)
theorem e_3 : ∀ t : Fin cfg0.N, win0_3.index t = ![0, 0] := (by decide +kernel : ∀ t : Fin grid0.N, _)
theorem e_4 : ∀ t : Fin cfg0.N, win0_4.index t = ![0, 0] := (by decide +kernel : ∀ t : Fin grid0.N, _)
theorem e_5 : ∀ t : Fin cfg0.N, win0_5.index t = ![0, 0] := (by decide +kernel : ∀ t : Fin grid0.N, _)
theorem e_6 : ∀ t : Fin cfg0.N, win0_6.index t = ![0, 0] := (by decide +kernel : ∀ t : Fin grid0.N, _)
theorem e_7 : ∀ t : Fin cfg0.N, win0_7.index t = ![0, 0] := (by decide +kernel : ∀ t : Fin grid0.N, _)

/-! ## The weights: each block is its whole array -/

theorem iblk_2 (c : Dev nD) (t : Fin cfg0.N) : (iblk m c 2 t : Vec Ideal S1x384 .f32) = V m c main_v6 := by
  funext y
  blk_ext [iblk, e_2]
theorem iblk_3 (c : Dev nD) (t : Fin cfg0.N) : (iblk m c 3 t : Vec Ideal S384x1536 .bf16) = V m c main_v7 := by
  funext y
  blk_ext [iblk, e_3]
theorem iblk_4 (c : Dev nD) (t : Fin cfg0.N) : (iblk m c 4 t : Vec Ideal S1x768 .f32) = V m c main_v8 := by
  funext y
  blk_ext [iblk, e_4]
theorem iblk_5 (c : Dev nD) (t : Fin cfg0.N) : (iblk m c 5 t : Vec Ideal S3072x768 .fp8e4m3) = V m c main_v1 := by
  funext y
  blk_ext [iblk, e_5]
theorem iblk_6 (c : Dev nD) (t : Fin cfg0.N) : (iblk m c 6 t : Vec Ideal S3072x128 .f32) = V m c main_v3 := by
  funext y
  blk_ext [iblk, e_6]
theorem iblk_7 (c : Dev nD) (t : Fin cfg0.N) : (iblk m c 7 t : Vec Ideal S768x128 .f32) = V m c main_v5 := by
  funext y
  blk_ext [iblk, e_7]

/-- The weights the body finds at a point are the program's. -/
theorem weights_eq (c : Dev nD) (t : Fin cfg0.N) : blockW (iblk m c 2 t) (iblk m c 3 t) (iblk m c 4 t) (iblk m c 5 t) (iblk m c 6 t) (iblk m c 7 t) = (inputs m c).W := by
  have h2 : ∀ (P : Fin 2 → Prop), P 0 → P 1 → ∀ i, P i := fun P h0 h1 i => by fin_cases i <;> assumption
  rw [iblk_2, iblk_3, iblk_4, iblk_5, iblk_6, iblk_7]
  unfold blockW inputs
  rw [PreRows.Weights.mk.injEq]
  refine ⟨funext fun k => V_gain m c k, ?_, funext fun d => V_bada m c d, funext fun p => funext fun k => funext fun j => V_w m c p k j,
    funext fun p => funext fun j => V_ws m c p j 0, funext fun j => V_bq m c j 0⟩
  funext i k d
  exact h2 (fun i => V m c main_v7 (ix2 k ⟨i.val * 768 + d.val, by omega⟩) = m ((c : Thread nD τ).loc main_arg3) (ix3 k i d)) (V_wada0 m c k d) (V_wada1 m c k d) i

/-- The scales and the biases are the same along the lanes. -/
theorem lanes_6 (c : Dev nD) (t : Fin cfg0.N) (i : Fin 3072) (l : Fin 128) :
    (iblk m c 6 t : Vec Ideal S3072x128 .f32) (ix2 i l) = (iblk m c 6 t : Vec Ideal S3072x128 .f32) (ix2 i 0) := by
  rw [iblk_6]
  have hi : i = ⟨(⟨i.val / 768, by omega⟩ : Fin 4).val * 768 + (⟨i.val % 768, by omega⟩ : Fin 768).val, by show i.val / 768 * 768 + i.val % 768 < 3072; omega⟩ :=
    Fin.ext (by show i.val = i.val / 768 * 768 + i.val % 768; omega)
  rw [hi, V_ws, V_ws]

theorem lanes_7 (c : Dev nD) (t : Fin cfg0.N) (j : Fin 768) (l : Fin 128) :
    (iblk m c 7 t : Vec Ideal S768x128 .f32) (ix2 j l) = (iblk m c 7 t : Vec Ideal S768x128 .f32) (ix2 j 0) := by
  rw [iblk_7, V_bq, V_bq]

/-! ## The rows: a block's rows inside the array are the array's -/

theorem fill_of_lt {sig : RefSig} {G : Pipeline.Grid} (w : Pipeline.Window sig G) {α : Type} (i : G.Coords) (d : w.block.Idx → α) (g : (w.xblock i).Idx → α)
    (j : w.block.Idx) (h : ∀ a, (j a).val < w.xsize i a) : w.fill i d g j = g fun a => ⟨(j a).val, h a⟩ :=
  dif_pos ((w.moved_iff i j).mpr h)

/-- The batch of a point. -/
def bt (t : Fin cfg0.N) : Fin 5 := grid0.coords t 0

/-- The token of a block's row (the last one for a row past the array's end). -/
def tok (t : Fin cfg0.N) (r : Fin 256) : Fin 1664 := ⟨min ((grid0.coords t 1).val * 256 + r.val) 1663, by omega⟩

theorem tok_val (t : Fin cfg0.N) (r : Fin 256) (h : r.val < min 256 (1664 - (grid0.coords t 1).val * 256)) :
    (tok t r).val = (grid0.coords t 1).val * 256 + r.val := by unfold tok; simp only; omega

theorem a_row (c : Dev nD) (t : Fin cfg0.N) (d0 : Vec Ideal S1x256x768 .bf16) (r : Fin 256) (h : r.val < min 256 (1664 - (grid0.coords t 1).val * 256)) :
    (fun d => win0_0.fill (grid0.coords t) d0 (iblk m c 0 t) (ix3 0 r d)) = (inputs m c).a (bt t) (tok t r) := by
  funext k
  have hv := tok_val t r h
  show _ = m ((c : Thread nD τ).loc main_arg0) _
  have hb : ∀ a, ((ix3 (0 : Fin 1) r k : S1x256x768.Idx) a).val < win0_0.xsize (grid0.coords t) a := fun a => by
    rw [x_0]; fin_cases a
    · exact Nat.one_pos
    · exact h
    · exact k.isLt
  have hg := fill_of_lt win0_0 (grid0.coords t) d0 (iblk m c 0 t) (ix3 (0 : Fin 1) r k) hb
  refine hg.trans ?_
  rw [← V_main_arg0 m c]
  blk_ext [iblk, e_0, bt, hv]

theorem s_row (c : Dev nD) (t : Fin cfg0.N) (d1 : Vec Ideal S1x256x384 .bf16) (r : Fin 256) (h : r.val < min 256 (1664 - (grid0.coords t 1).val * 256)) :
    (fun d => win0_1.fill (grid0.coords t) d1 (iblk m c 1 t) (ix3 0 r d)) = (inputs m c).s (bt t) (tok t r) := by
  funext k
  have hv := tok_val t r h
  show _ = m ((c : Thread nD τ).loc main_arg1) _
  have hb : ∀ a, ((ix3 (0 : Fin 1) r k : S1x256x384.Idx) a).val < win0_1.xsize (grid0.coords t) a := fun a => by
    rw [x_1]; fin_cases a
    · exact Nat.one_pos
    · exact h
    · exact k.isLt
  have hg := fill_of_lt win0_1 (grid0.coords t) d1 (iblk m c 1 t) (ix3 (0 : Fin 1) r k) hb
  refine hg.trans ?_
  rw [← V_main_arg1 m c]
  blk_ext [iblk, e_1, bt, hv]

/-! ## The result arrays and their blocks -/

/-- Result array 0, -/
def G8 (c : Dev nD) : Vec Ideal S5x1664x768 .fp8e4m3 := fun i => (inputs m c).xc (i 0) (i 1) (i 2)
/-- and its block at a point. -/
def o8 (c : Dev nD) (t : Fin cfg0.N) : Vec Ideal S1x256x768 .fp8e4m3 := fun i => G8 m c (ix3 (bt t) (tok t (i 1)) (i 2))
/-- Result array 1, -/
def G9 (c : Dev nD) : Vec Ideal S5x1x1664 .f32 := fun i => (inputs m c).xs (i 0) (i 2)
/-- and its block at a point. -/
def o9 (c : Dev nD) (t : Fin cfg0.N) : Vec Ideal S1x1x256 .f32 := fun i => G9 m c (ix3 (bt t) 0 (tok t (i 2)))
/-- Result array 2, -/
def G10 (c : Dev nD) : Vec Ideal S5x16x48x1664 .fp8e4m3 := fun i => (inputs m c).qc (i 0) (i 1) (i 2) (i 3)
/-- and its block at a point. -/
def o10 (c : Dev nD) (t : Fin cfg0.N) : Vec Ideal S1x16x48x256 .fp8e4m3 := fun i => G10 m c (ix4 (bt t) (i 1) (i 2) (tok t (i 3)))
/-- Result array 3, -/
def G11 (c : Dev nD) : Vec Ideal S5x16x1664 .f32 := fun i => (inputs m c).qs (i 0) (i 1) (i 2)
/-- and its block at a point. -/
def o11 (c : Dev nD) (t : Fin cfg0.N) : Vec Ideal S1x16x256 .f32 := fun i => G11 m c (ix3 (bt t) (i 1) (tok t (i 2)))
/-- Result array 4, -/
def G12 (c : Dev nD) : Vec Ideal S5x16x48x1664 .fp8e4m3 := fun i => (inputs m c).kc (i 0) (i 1) (i 2) (i 3)
/-- and its block at a point. -/
def o12 (c : Dev nD) (t : Fin cfg0.N) : Vec Ideal S1x16x48x256 .fp8e4m3 := fun i => G12 m c (ix4 (bt t) (i 1) (i 2) (tok t (i 3)))
/-- Result array 5, -/
def G13 (c : Dev nD) : Vec Ideal S5x16x1664 .f32 := fun i => (inputs m c).ks (i 0) (i 1) (i 2)
/-- and its block at a point. -/
def o13 (c : Dev nD) (t : Fin cfg0.N) : Vec Ideal S1x16x256 .f32 := fun i => G13 m c (ix3 (bt t) (i 1) (tok t (i 2)))
/-- Result array 6, -/
def G16 (c : Dev nD) : Vec Ideal S5x16x48x1664 .f32 := fun i => (inputs m c).g (i 0) (i 1) (i 2) (i 3)
/-- and its block at a point. -/
def o16 (c : Dev nD) (t : Fin cfg0.N) : Vec Ideal S1x16x48x256 .f32 := fun i => G16 m c (ix4 (bt t) (i 1) (i 2) (tok t (i 3)))

/-- Inside the array the body stores the result's block. -/
theorem agree_8 (c : Dev nD) (t : Fin cfg0.N) (d0 : Vec Ideal S1x256x768 .bf16) (d1 : Vec Ideal S1x256x384 .bf16) :
    win0_8.cut (grid0.coords t) (o8 m c t) = win0_8.cut (grid0.coords t) (out0_8 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)) := by
  funext y
  have hr : (y 1).val < min 256 (1664 - (grid0.coords t 1).val * 256) := (y 1).isLt.trans_eq (congrFun (x_8 t) 1)
  let r : Fin 256 := ⟨(y 1).val, hr.trans_le (min_le_left _ _)⟩
  let c2 : Fin 768 := ⟨(y 2).val, ((y 2).isLt.trans_eq (congrFun (x_8 t) 2))⟩
  have hi : win0_8.xinj (grid0.coords t) y = ix3 (0 : Fin 1) r c2 := by
    funext a
    fin_cases a <;> first | rfl | exact Subsingleton.elim (α := Fin 1) _ _
  rw [Pipeline.Window.cut_apply, Pipeline.Window.cut_apply, hi]
  refine Eq.trans ?_ (out8_at (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) r c2).symm
  rw [weights_eq]
  simp only [a_row m c t d0 r hr, s_row m c t d1 r hr]
  rfl

/-- Inside the array the body stores the result's block. -/
theorem agree_9 (c : Dev nD) (t : Fin cfg0.N) (d0 : Vec Ideal S1x256x768 .bf16) (d1 : Vec Ideal S1x256x384 .bf16) :
    win0_9.cut (grid0.coords t) (o9 m c t) = win0_9.cut (grid0.coords t) (out0_9 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)) := by
  funext y
  have hr : (y 2).val < min 256 (1664 - (grid0.coords t 1).val * 256) := (y 2).isLt.trans_eq (congrFun (x_9 t) 2)
  let r : Fin 256 := ⟨(y 2).val, hr.trans_le (min_le_left _ _)⟩
  have hi : win0_9.xinj (grid0.coords t) y = ix3 (0 : Fin 1) (0 : Fin 1) r := by
    funext a
    fin_cases a <;> first | rfl | exact Subsingleton.elim (α := Fin 1) _ _
  rw [Pipeline.Window.cut_apply, Pipeline.Window.cut_apply, hi]
  refine Eq.trans ?_ (out9_at (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) r).symm
  rw [weights_eq]
  simp only [a_row m c t d0 r hr, s_row m c t d1 r hr]
  rfl

/-- Inside the array the body stores the result's block. -/
theorem agree_10 (c : Dev nD) (t : Fin cfg0.N) (d0 : Vec Ideal S1x256x768 .bf16) (d1 : Vec Ideal S1x256x384 .bf16) :
    win0_10.cut (grid0.coords t) (o10 m c t) = win0_10.cut (grid0.coords t) (out0_10 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)) := by
  funext y
  have hr : (y 3).val < min 256 (1664 - (grid0.coords t 1).val * 256) := (y 3).isLt.trans_eq (congrFun (x_10 t) 3)
  let r : Fin 256 := ⟨(y 3).val, hr.trans_le (min_le_left _ _)⟩
  let h : Fin 16 := ⟨(y 1).val, ((y 1).isLt.trans_eq (congrFun (x_10 t) 1))⟩
  let e : Fin 48 := ⟨(y 2).val, ((y 2).isLt.trans_eq (congrFun (x_10 t) 2))⟩
  have hi : win0_10.xinj (grid0.coords t) y = ix4 (0 : Fin 1) h e r := by
    funext a
    fin_cases a <;> first | rfl | exact Subsingleton.elim (α := Fin 1) _ _
  rw [Pipeline.Window.cut_apply, Pipeline.Window.cut_apply, hi]
  refine Eq.trans ?_ (out10_at (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) (lanes_6 m c t) (lanes_7 m c t) h e r).symm
  rw [weights_eq]
  simp only [a_row m c t d0 r hr, s_row m c t d1 r hr]
  rfl

/-- Inside the array the body stores the result's block. -/
theorem agree_11 (c : Dev nD) (t : Fin cfg0.N) (d0 : Vec Ideal S1x256x768 .bf16) (d1 : Vec Ideal S1x256x384 .bf16) :
    win0_11.cut (grid0.coords t) (o11 m c t) = win0_11.cut (grid0.coords t) (out0_11 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)) := by
  funext y
  have hr : (y 2).val < min 256 (1664 - (grid0.coords t 1).val * 256) := (y 2).isLt.trans_eq (congrFun (x_11 t) 2)
  let r : Fin 256 := ⟨(y 2).val, hr.trans_le (min_le_left _ _)⟩
  let h : Fin 16 := ⟨(y 1).val, ((y 1).isLt.trans_eq (congrFun (x_11 t) 1))⟩
  have hi : win0_11.xinj (grid0.coords t) y = ix3 (0 : Fin 1) h r := by
    funext a
    fin_cases a <;> first | rfl | exact Subsingleton.elim (α := Fin 1) _ _
  rw [Pipeline.Window.cut_apply, Pipeline.Window.cut_apply, hi]
  refine Eq.trans ?_ (out11_at (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) (lanes_6 m c t) (lanes_7 m c t) h r).symm
  rw [weights_eq]
  simp only [a_row m c t d0 r hr, s_row m c t d1 r hr]
  rfl

/-- Inside the array the body stores the result's block. -/
theorem agree_12 (c : Dev nD) (t : Fin cfg0.N) (d0 : Vec Ideal S1x256x768 .bf16) (d1 : Vec Ideal S1x256x384 .bf16) :
    win0_12.cut (grid0.coords t) (o12 m c t) = win0_12.cut (grid0.coords t) (out0_12 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)) := by
  funext y
  have hr : (y 3).val < min 256 (1664 - (grid0.coords t 1).val * 256) := (y 3).isLt.trans_eq (congrFun (x_12 t) 3)
  let r : Fin 256 := ⟨(y 3).val, hr.trans_le (min_le_left _ _)⟩
  let h : Fin 16 := ⟨(y 1).val, ((y 1).isLt.trans_eq (congrFun (x_12 t) 1))⟩
  let e : Fin 48 := ⟨(y 2).val, ((y 2).isLt.trans_eq (congrFun (x_12 t) 2))⟩
  have hi : win0_12.xinj (grid0.coords t) y = ix4 (0 : Fin 1) h e r := by
    funext a
    fin_cases a <;> first | rfl | exact Subsingleton.elim (α := Fin 1) _ _
  rw [Pipeline.Window.cut_apply, Pipeline.Window.cut_apply, hi]
  refine Eq.trans ?_ (out12_at (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) (lanes_6 m c t) h e r).symm
  rw [weights_eq]
  simp only [a_row m c t d0 r hr, s_row m c t d1 r hr]
  rfl

/-- Inside the array the body stores the result's block. -/
theorem agree_13 (c : Dev nD) (t : Fin cfg0.N) (d0 : Vec Ideal S1x256x768 .bf16) (d1 : Vec Ideal S1x256x384 .bf16) :
    win0_13.cut (grid0.coords t) (o13 m c t) = win0_13.cut (grid0.coords t) (out0_13 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)) := by
  funext y
  have hr : (y 2).val < min 256 (1664 - (grid0.coords t 1).val * 256) := (y 2).isLt.trans_eq (congrFun (x_13 t) 2)
  let r : Fin 256 := ⟨(y 2).val, hr.trans_le (min_le_left _ _)⟩
  let h : Fin 16 := ⟨(y 1).val, ((y 1).isLt.trans_eq (congrFun (x_13 t) 1))⟩
  have hi : win0_13.xinj (grid0.coords t) y = ix3 (0 : Fin 1) h r := by
    funext a
    fin_cases a <;> first | rfl | exact Subsingleton.elim (α := Fin 1) _ _
  rw [Pipeline.Window.cut_apply, Pipeline.Window.cut_apply, hi]
  refine Eq.trans ?_ (out13_at (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) (lanes_6 m c t) h r).symm
  rw [weights_eq]
  simp only [a_row m c t d0 r hr, s_row m c t d1 r hr]
  rfl

/-- Inside the array the body stores the result's block. -/
theorem agree_16 (c : Dev nD) (t : Fin cfg0.N) (d0 : Vec Ideal S1x256x768 .bf16) (d1 : Vec Ideal S1x256x384 .bf16) :
    win0_16.cut (grid0.coords t) (o16 m c t) = win0_16.cut (grid0.coords t) (out0_16 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t)) := by
  funext y
  have hr : (y 3).val < min 256 (1664 - (grid0.coords t 1).val * 256) := (y 3).isLt.trans_eq (congrFun (x_16 t) 3)
  let r : Fin 256 := ⟨(y 3).val, hr.trans_le (min_le_left _ _)⟩
  let h : Fin 16 := ⟨(y 1).val, ((y 1).isLt.trans_eq (congrFun (x_16 t) 1))⟩
  let e : Fin 48 := ⟨(y 2).val, ((y 2).isLt.trans_eq (congrFun (x_16 t) 2))⟩
  have hi : win0_16.xinj (grid0.coords t) y = ix4 (0 : Fin 1) h e r := by
    funext a
    fin_cases a <;> first | rfl | exact Subsingleton.elim (α := Fin 1) _ _
  rw [Pipeline.Window.cut_apply, Pipeline.Window.cut_apply, hi]
  refine Eq.trans ?_ (out16_at (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) (lanes_6 m c t) h e r).symm
  rw [weights_eq]
  simp only [a_row m c t d0 r hr, s_row m c t d1 r hr]
  rfl

theorem agree (c : Dev nD) (t : Fin cfg0.N) : Agree m (o8 m) (o9 m) (o10 m) (o11 m) (o12 m) (o13 m) (o16 m) c t := fun d0 d1 =>
  ⟨agree_8 m c t d0 d1, agree_9 m c t d0 d1, agree_10 m c t d0 d1, agree_11 m c t d0 d1, agree_12 m c t d0 d1, agree_13 m c t d0 d1, agree_16 m c t d0 d1⟩

end Cert.PreKernelIdeal.Hand

end
-- ==== Proof.Pre.KernelArrays.lean ====
/-
  The arrays the kernel's region leaves: the blocks cover the arrays.
-/
module

public import proofs.«01_k».proof.Proof.Pre.KernelBlocks
public import Idealize.ShloMosaic.Lib.Pipeline.ValueKit.Geometry

@[expose] public section

set_option maxRecDepth 16384

noncomputable section

namespace Cert.PreKernelIdeal.Hand

open Cert.PreKernelIdeal Cert.PreKernelIdeal.Gen Cert.Rows Cert.PreRows
open Idealize.ShloMosaic Idealize.ShloMosaic.TcCoe
open Idealize.SL.Sem

variable (m : (ℓ : Loc nD τ sig) → Buf (Elt Ideal) ℓ)

/-! ## The arrays after the run -/

theorem arr_8 (c : Dev nD) : (dats m (o8 m) (o9 m) (o10 m) (o11 m) (o12 m) (o13 m) (o16 m) 0 c).arrAt 8 cfg0.N = G8 m c := by
  refine (dats m (o8 m) (o9 m) (o10 m) (o11 m) (o12 m) (o13 m) (o16 m) 0 c).arrAt_eq_of_covers 8 _ (by decide +kernel) fun t hf y => ?_
  rw [after0_8]
  have hr : (y 1).val < min 256 (1664 - (grid0.coords t 1).val * 256) := (y 1).isLt.trans_eq (congrFun (x_8 t) 1)
  have hv := tok_val t ⟨(y 1).val, hr.trans_le (min_le_left _ _)⟩ hr
  refine congrArg (G8 m c) ?_
  have he := fun a => win0_8.rect_emb_val t y a rfl
  simp only [e_8 t] at he
  have h0 : (y 0).val < 1 := (y 0).isLt.trans_eq (congrFun (x_8 t) 0)
  have hb : (bt t).val = (grid0.coords t 0).val * 1 + (y 0).val := by show (grid0.coords t 0).val = _; omega
  funext a
  fin_cases a
  · exact Fin.ext (hb.trans (he 0).symm)
  · exact Fin.ext (hv.trans (he 1).symm)
  · exact Fin.ext ((show (y 2).val = 0 * _ + (y 2).val by omega).trans (he 2).symm)

theorem arr_9 (c : Dev nD) : (dats m (o8 m) (o9 m) (o10 m) (o11 m) (o12 m) (o13 m) (o16 m) 0 c).arrAt 9 cfg0.N = G9 m c := by
  refine (dats m (o8 m) (o9 m) (o10 m) (o11 m) (o12 m) (o13 m) (o16 m) 0 c).arrAt_eq_of_covers 9 _ (by decide +kernel) fun t hf y => ?_
  rw [after0_9]
  have hr : (y 2).val < min 256 (1664 - (grid0.coords t 1).val * 256) := (y 2).isLt.trans_eq (congrFun (x_9 t) 2)
  have hv := tok_val t ⟨(y 2).val, hr.trans_le (min_le_left _ _)⟩ hr
  refine congrArg (G9 m c) ?_
  have he := fun a => win0_9.rect_emb_val t y a rfl
  simp only [e_9 t] at he
  have h0 : (y 0).val < 1 := (y 0).isLt.trans_eq (congrFun (x_9 t) 0)
  have hb : (bt t).val = (grid0.coords t 0).val * 1 + (y 0).val := by show (grid0.coords t 0).val = _; omega
  funext a
  fin_cases a
  · exact Fin.ext (hb.trans (he 0).symm)
  · exact Fin.ext ((show 0 = 0 * 1 + (y 1).val by have : (y 1).val < 1 := (y 1).isLt.trans_eq (congrFun (x_9 t) 1); omega).trans (he 1).symm)
  · exact Fin.ext (hv.trans (he 2).symm)

theorem arr_10 (c : Dev nD) : (dats m (o8 m) (o9 m) (o10 m) (o11 m) (o12 m) (o13 m) (o16 m) 0 c).arrAt 10 cfg0.N = G10 m c := by
  refine (dats m (o8 m) (o9 m) (o10 m) (o11 m) (o12 m) (o13 m) (o16 m) 0 c).arrAt_eq_of_covers 10 _ (by decide +kernel) fun t hf y => ?_
  rw [after0_10]
  have hr : (y 3).val < min 256 (1664 - (grid0.coords t 1).val * 256) := (y 3).isLt.trans_eq (congrFun (x_10 t) 3)
  have hv := tok_val t ⟨(y 3).val, hr.trans_le (min_le_left _ _)⟩ hr
  refine congrArg (G10 m c) ?_
  have he := fun a => win0_10.rect_emb_val t y a rfl
  simp only [e_10 t] at he
  have h0 : (y 0).val < 1 := (y 0).isLt.trans_eq (congrFun (x_10 t) 0)
  have hb : (bt t).val = (grid0.coords t 0).val * 1 + (y 0).val := by show (grid0.coords t 0).val = _; omega
  funext a
  fin_cases a
  · exact Fin.ext (hb.trans (he 0).symm)
  · exact Fin.ext ((show (y 1).val = 0 * _ + (y 1).val by omega).trans (he 1).symm)
  · exact Fin.ext ((show (y 2).val = 0 * _ + (y 2).val by omega).trans (he 2).symm)
  · exact Fin.ext (hv.trans (he 3).symm)

theorem arr_11 (c : Dev nD) : (dats m (o8 m) (o9 m) (o10 m) (o11 m) (o12 m) (o13 m) (o16 m) 0 c).arrAt 11 cfg0.N = G11 m c := by
  refine (dats m (o8 m) (o9 m) (o10 m) (o11 m) (o12 m) (o13 m) (o16 m) 0 c).arrAt_eq_of_covers 11 _ (by decide +kernel) fun t hf y => ?_
  rw [after0_11]
  have hr : (y 2).val < min 256 (1664 - (grid0.coords t 1).val * 256) := (y 2).isLt.trans_eq (congrFun (x_11 t) 2)
  have hv := tok_val t ⟨(y 2).val, hr.trans_le (min_le_left _ _)⟩ hr
  refine congrArg (G11 m c) ?_
  have he := fun a => win0_11.rect_emb_val t y a rfl
  simp only [e_11 t] at he
  have h0 : (y 0).val < 1 := (y 0).isLt.trans_eq (congrFun (x_11 t) 0)
  have hb : (bt t).val = (grid0.coords t 0).val * 1 + (y 0).val := by show (grid0.coords t 0).val = _; omega
  funext a
  fin_cases a
  · exact Fin.ext (hb.trans (he 0).symm)
  · exact Fin.ext ((show (y 1).val = 0 * _ + (y 1).val by omega).trans (he 1).symm)
  · exact Fin.ext (hv.trans (he 2).symm)

theorem arr_12 (c : Dev nD) : (dats m (o8 m) (o9 m) (o10 m) (o11 m) (o12 m) (o13 m) (o16 m) 0 c).arrAt 12 cfg0.N = G12 m c := by
  refine (dats m (o8 m) (o9 m) (o10 m) (o11 m) (o12 m) (o13 m) (o16 m) 0 c).arrAt_eq_of_covers 12 _ (by decide +kernel) fun t hf y => ?_
  rw [after0_12]
  have hr : (y 3).val < min 256 (1664 - (grid0.coords t 1).val * 256) := (y 3).isLt.trans_eq (congrFun (x_12 t) 3)
  have hv := tok_val t ⟨(y 3).val, hr.trans_le (min_le_left _ _)⟩ hr
  refine congrArg (G12 m c) ?_
  have he := fun a => win0_12.rect_emb_val t y a rfl
  simp only [e_12 t] at he
  have h0 : (y 0).val < 1 := (y 0).isLt.trans_eq (congrFun (x_12 t) 0)
  have hb : (bt t).val = (grid0.coords t 0).val * 1 + (y 0).val := by show (grid0.coords t 0).val = _; omega
  funext a
  fin_cases a
  · exact Fin.ext (hb.trans (he 0).symm)
  · exact Fin.ext ((show (y 1).val = 0 * _ + (y 1).val by omega).trans (he 1).symm)
  · exact Fin.ext ((show (y 2).val = 0 * _ + (y 2).val by omega).trans (he 2).symm)
  · exact Fin.ext (hv.trans (he 3).symm)

theorem arr_13 (c : Dev nD) : (dats m (o8 m) (o9 m) (o10 m) (o11 m) (o12 m) (o13 m) (o16 m) 0 c).arrAt 13 cfg0.N = G13 m c := by
  refine (dats m (o8 m) (o9 m) (o10 m) (o11 m) (o12 m) (o13 m) (o16 m) 0 c).arrAt_eq_of_covers 13 _ (by decide +kernel) fun t hf y => ?_
  rw [after0_13]
  have hr : (y 2).val < min 256 (1664 - (grid0.coords t 1).val * 256) := (y 2).isLt.trans_eq (congrFun (x_13 t) 2)
  have hv := tok_val t ⟨(y 2).val, hr.trans_le (min_le_left _ _)⟩ hr
  refine congrArg (G13 m c) ?_
  have he := fun a => win0_13.rect_emb_val t y a rfl
  simp only [e_13 t] at he
  have h0 : (y 0).val < 1 := (y 0).isLt.trans_eq (congrFun (x_13 t) 0)
  have hb : (bt t).val = (grid0.coords t 0).val * 1 + (y 0).val := by show (grid0.coords t 0).val = _; omega
  funext a
  fin_cases a
  · exact Fin.ext (hb.trans (he 0).symm)
  · exact Fin.ext ((show (y 1).val = 0 * _ + (y 1).val by omega).trans (he 1).symm)
  · exact Fin.ext (hv.trans (he 2).symm)

theorem arr_16 (c : Dev nD) : (dats m (o8 m) (o9 m) (o10 m) (o11 m) (o12 m) (o13 m) (o16 m) 0 c).arrAt 16 cfg0.N = G16 m c := by
  refine (dats m (o8 m) (o9 m) (o10 m) (o11 m) (o12 m) (o13 m) (o16 m) 0 c).arrAt_eq_of_covers 16 _ (by decide +kernel) fun t hf y => ?_
  rw [after0_16]
  have hr : (y 3).val < min 256 (1664 - (grid0.coords t 1).val * 256) := (y 3).isLt.trans_eq (congrFun (x_16 t) 3)
  have hv := tok_val t ⟨(y 3).val, hr.trans_le (min_le_left _ _)⟩ hr
  refine congrArg (G16 m c) ?_
  have he := fun a => win0_16.rect_emb_val t y a rfl
  simp only [e_16 t] at he
  have h0 : (y 0).val < 1 := (y 0).isLt.trans_eq (congrFun (x_16 t) 0)
  have hb : (bt t).val = (grid0.coords t 0).val * 1 + (y 0).val := by show (grid0.coords t 0).val = _; omega
  funext a
  fin_cases a
  · exact Fin.ext (hb.trans (he 0).symm)
  · exact Fin.ext ((show (y 1).val = 0 * _ + (y 1).val by omega).trans (he 1).symm)
  · exact Fin.ext ((show (y 2).val = 0 * _ + (y 2).val by omega).trans (he 2).symm)
  · exact Fin.ext (hv.trans (he 3).symm)

end Cert.PreKernelIdeal.Hand

end
-- ==== Proof.Pre.RefBlock.lean ====
/-
  What the reference computes, read at a token: each of its intermediate vectors, at row `R = 1664 b + n`, in terms of the
  rows of token `(b, n)` of the arrays it is computed from.
-/
module

public import proofs.«01_k».proof.Proof.Pre.Arrays
public import proofs.«01_k».proof.Proof.Gen.PreReferenceIdeal.Skeleton
public import proofs.«01_k».proof.Proof.Gen.PreReferenceIdeal

@[expose] public section

set_option maxRecDepth 16384

noncomputable section

namespace Cert.PreReferenceIdeal.Hand

open Cert.PreReferenceIdeal Cert.PreReferenceIdeal.Gen Cert.Rows Cert.PreRows
open Idealize.ShloMosaic
open scoped BigOperators

/-- The batch of row `R` of the flattened tokens. -/
abbrev bOf (R : Fin 8320) : Fin 5 := ⟨R.val / 1664, by omega⟩
/-- Its position within the batch. -/
abbrev nOf (R : Fin 8320) : Fin 1664 := ⟨R.val % 1664, by omega⟩
/-- The row of token `n` of batch `b`. -/
abbrev rowOf (b : Fin 5) (n : Fin 1664) : Fin 8320 := ⟨b.val * 1664 + n.val, by omega⟩

theorem bOf_rowOf (b : Fin 5) (n : Fin 1664) : bOf (rowOf b n) = b := Fin.ext (by show (b.val * 1664 + n.val) / 1664 = b.val; omega)
theorem nOf_rowOf (b : Fin 5) (n : Fin 1664) : nOf (rowOf b n) = n := Fin.ext (by show (b.val * 1664 + n.val) % 1664 = n.val; omega)

theorem absMax_one {K : ℕ} (f : Fin K → EReal) :
    Finset.fold max (Ideal.ofBits .f32 0xFF800000#32) (fun k => FloatOps.absf (F := Ideal) (φ := .f32) (f k)) Finset.univ = absMax f := by
  have hb : Ideal.ofBits .f32 0xFF800000#32 = ⊥ := by simp [Ideal.ofBits, Ideal.ieee]
  rw [hb]; rfl

/-! ## The pieces the stores are made of -/

/-- The largest magnitude of each row. -/
def rowMax (X : FVec Ideal S8320x768 .f32) : FVec Ideal S8320 .f32 :=
  multiReduction .maximumf [1] S8320 (absf X) 0xFF800000#32 reduces_S8320x768_S8320 (.inl rfl) rfl

theorem rowMax_at (X : FVec Ideal S8320x768 .f32) (R : Fin 8320) : rowMax X (ix1 R) = absMax (fun d => X (ix2 R d)) := by
  unfold rowMax
  pointwise [absMax_one]

/-- The scales of rows with given largest magnitudes. -/
def colOf (v57 : FVec Ideal S8320 .f32) : FVec Ideal S8320x1 .f32 :=
  have v58 : FVec Ideal S8320x1 .f32 := shapeCast S8320x1 v57 shapeCasts_S8320_S8320x1
  have cst_26 : Ideal .f32 := Scalar.ofBits .f32 0x00000000#32
  have v59 : FVec Ideal S8320x1 .f32 := broadcast S8320x1 cst_26
  have v60 : IVec S8320x1 1 := cmpf .oeq v58 v59
  have cst_27 : Ideal .f32 := Scalar.ofBits .f32 0x43E00000#32
  have v61 : FVec Ideal S8320x1 .f32 := broadcast S8320x1 cst_27
  have v62 : FVec Ideal S8320x1 .f32 := divf v58 v61
  have cst_28 : Ideal .f32 := Scalar.ofBits .f32 0x3F800000#32
  have v63 : FVec Ideal S8320x1 .f32 := broadcast S8320x1 cst_28
  have v64 : FVec Ideal S8320x1 .f32 := select v60 v63 v62
  v64

theorem colOf_at (M : FVec Ideal S8320 .f32) (R : Fin 8320) : colOf M (ix2 R 0) = scaleOf (M (ix1 R)) := by
  unfold colOf
  pointwise
  rfl

/-- The scale of each row of an array. -/
def scaleCol (X : FVec Ideal S8320x768 .f32) : FVec Ideal S8320x1 .f32 := colOf (rowMax X)

theorem scaleCol_at (X : FVec Ideal S8320x768 .f32) (R : Fin 8320) : scaleCol X (ix2 R 0) = scale (fun d => X (ix2 R d)) := by
  unfold scaleCol
  rw [colOf_at, rowMax_at]
  rfl

/-- The codes of an array at given row scales. -/
def codes (X : FVec Ideal S8320x768 .f32) (Y : FVec Ideal S8320x1 .f32) : FVec Ideal S8320x768 .fp8e4m3 :=
  have v13 : FVec Ideal S8320x768 .f32 := broadcastTo S8320x768 Y broadcasts_S8320x1_S8320x768
  have v14 : FVec Ideal S8320x768 .f32 := divf X v13
  have cst_6 : Ideal .f32 := Scalar.ofBits .f32 0xC3E00000#32
  have cst_7 : Ideal .f32 := Scalar.ofBits .f32 0x43E00000#32
  have v15 : FVec Ideal S8320x768 .f32 := broadcast S8320x768 cst_6
  have v16 : FVec Ideal S8320x768 .f32 := maximumf v15 v14
  have v17 : FVec Ideal S8320x768 .f32 := broadcast S8320x768 cst_7
  have v18 : FVec Ideal S8320x768 .f32 := minimumf v17 v16
  have v19 : FVec Ideal S8320x768 .fp8e4m3 := truncf .fp8e4m3 v18 bitsLt_fp8e4m3_f32
  v19

theorem codes_at (X : FVec Ideal S8320x768 .f32) (Y : FVec Ideal S8320x1 .f32) (R : Fin 8320) (d : Fin 768) :
    codes X Y (ix2 R d) = codeAt (X (ix2 R d)) (Y (ix2 R 0)) := by
  unfold codes
  pointwise
  rfl

/-- An array's columns scaled. -/
def times (X : FVec Ideal S8320x768 .f32) (v : Vec Ideal S1x768 .f32) : FVec Ideal S8320x768 .f32 :=
  mulf X (broadcastTo S8320x768 (shapeCast S1x768 v shapeCasts_S1x768_S1x768 : FVec Ideal S1x768 .f32) broadcasts_S1x768_S8320x768)

theorem times_at (X : FVec Ideal S8320x768 .f32) (v : Vec Ideal S1x768 .f32) (R : Fin 8320) (d : Fin 768) :
    times X v (ix2 R d) = X (ix2 R d) * v (ix2 0 d) := by
  unfold times
  pointwise

/-- A bias added to an array's columns. -/
def plus (X : FVec Ideal S8320x768 .f32) (v : Vec Ideal S1x768 .f32) : FVec Ideal S8320x768 .f32 :=
  addf X (broadcastTo S8320x768 (shapeCast S1x768 v shapeCasts_S1x768_S1x768 : FVec Ideal S1x768 .f32) broadcasts_S1x768_S8320x768)

theorem plus_at (X : FVec Ideal S8320x768 .f32) (v : Vec Ideal S1x768 .f32) (R : Fin 8320) (d : Fin 768) :
    plus X v (ix2 R d) = X (ix2 R d) + v (ix2 0 d) := by
  unfold plus
  pointwise

/-- The rows of an array laid out by batch, head, head column and token. -/
def heads (X : FVec Ideal S8320x768 .f32) : FVec Ideal S5x16x48x1664 .f32 :=
  have v89 : FVec Ideal S5x1664x768 .f32 := shapeCast S5x1664x768 X shapeCasts_S8320x768_S5x1664x768
  have v90 : FVec Ideal S5x768x1664 .f32 := transpose S5x768x1664 [0, 2, 1] v89 transposes_S5x1664x768_p0_2_1_S5x768x1664
  have v91 : FVec Ideal S5x16x48x1664 .f32 := shapeCast S5x16x48x1664 v90 shapeCasts_S5x768x1664_S5x16x48x1664
  v91

theorem heads_at (X : FVec Ideal S8320x768 .f32) (b : Fin 5) (h : Fin 16) (e : Fin 48) (n : Fin 1664) :
    heads X (ix4 b h e n) = head (fun d => X (ix2 (rowOf b n) d)) h e := by
  unfold heads head
  pointwise

/-- The largest magnitude of each head of each token. -/
def headMax (X : FVec Ideal S5x16x48x1664 .f32) : FVec Ideal S5x16x1664 .f32 :=
  multiReduction .maximumf [2] S5x16x1664 (absf X) 0xFF800000#32 reduces_S5x16x48x1664_S5x16x1664 (.inl rfl) rfl

theorem headMax_at (X : FVec Ideal S5x16x48x1664 .f32) (b : Fin 5) (h : Fin 16) (n : Fin 1664) :
    headMax X (ix3 b h n) = absMax (fun e => X (ix4 b h e n)) := by
  unfold headMax
  pointwise [absMax_one]

/-- The scales of heads with given largest magnitudes. -/
def headOf (v93 : FVec Ideal S5x16x1664 .f32) : FVec Ideal S5x16x1x1664 .f32 :=
  have v94 : FVec Ideal S5x16x1x1664 .f32 := shapeCast S5x16x1x1664 v93 shapeCasts_S5x16x1664_S5x16x1x1664
  have cst_46 : Ideal .f32 := Scalar.ofBits .f32 0x00000000#32
  have v95 : FVec Ideal S5x16x1x1664 .f32 := broadcast S5x16x1x1664 cst_46
  have v96 : IVec S5x16x1x1664 1 := cmpf .oeq v94 v95
  have cst_47 : Ideal .f32 := Scalar.ofBits .f32 0x43E00000#32
  have v97 : FVec Ideal S5x16x1x1664 .f32 := broadcast S5x16x1x1664 cst_47
  have v98 : FVec Ideal S5x16x1x1664 .f32 := divf v94 v97
  have cst_48 : Ideal .f32 := Scalar.ofBits .f32 0x3F800000#32
  have v99 : FVec Ideal S5x16x1x1664 .f32 := broadcast S5x16x1x1664 cst_48
  have v100 : FVec Ideal S5x16x1x1664 .f32 := select v96 v99 v98
  v100

theorem headOf_at (M : FVec Ideal S5x16x1664 .f32) (b : Fin 5) (h : Fin 16) (n : Fin 1664) :
    headOf M (ix4 b h 0 n) = scaleOf (M (ix3 b h n)) := by
  unfold headOf
  pointwise
  rfl

/-- The scale of each head of each token. -/
def headScale (X : FVec Ideal S5x16x48x1664 .f32) : FVec Ideal S5x16x1x1664 .f32 := headOf (headMax X)

theorem headScale_at (X : FVec Ideal S5x16x48x1664 .f32) (b : Fin 5) (h : Fin 16) (n : Fin 1664) :
    headScale X (ix4 b h 0 n) = scale (fun e => X (ix4 b h e n)) := by
  unfold headScale
  rw [headOf_at, headMax_at]
  rfl

/-- The scales with the axis of length one dropped. -/
def headFlat (Y : FVec Ideal S5x16x1x1664 .f32) : FVec Ideal S5x16x1664 .f32 :=
  shapeCast S5x16x1664 Y shapeCasts_S5x16x1x1664_S5x16x1664

theorem headFlat_at (Y : FVec Ideal S5x16x1x1664 .f32) (b : Fin 5) (h : Fin 16) (n : Fin 1664) :
    headFlat Y (ix3 b h n) = Y (ix4 b h 0 n) := by
  unfold headFlat
  pointwise

/-- The codes of the heads at given scales. -/
def headCodes (X : FVec Ideal S5x16x48x1664 .f32) (Y : FVec Ideal S5x16x1x1664 .f32) : FVec Ideal S5x16x48x1664 .fp8e4m3 :=
  have v101 : FVec Ideal S5x16x48x1664 .f32 := broadcastTo S5x16x48x1664 Y broadcasts_S5x16x1x1664_S5x16x48x1664
  have v102 : FVec Ideal S5x16x48x1664 .f32 := divf X v101
  have cst_49 : Ideal .f32 := Scalar.ofBits .f32 0xC3E00000#32
  have cst_50 : Ideal .f32 := Scalar.ofBits .f32 0x43E00000#32
  have v103 : FVec Ideal S5x16x48x1664 .f32 := broadcast S5x16x48x1664 cst_49
  have v104 : FVec Ideal S5x16x48x1664 .f32 := maximumf v103 v102
  have v105 : FVec Ideal S5x16x48x1664 .f32 := broadcast S5x16x48x1664 cst_50
  have v106 : FVec Ideal S5x16x48x1664 .f32 := minimumf v105 v104
  have v107 : FVec Ideal S5x16x48x1664 .fp8e4m3 := truncf .fp8e4m3 v106 bitsLt_fp8e4m3_f32
  v107

theorem headCodes_at (X : FVec Ideal S5x16x48x1664 .f32) (Y : FVec Ideal S5x16x1x1664 .f32) (b : Fin 5) (h : Fin 16) (e : Fin 48) (n : Fin 1664) :
    headCodes X Y (ix4 b h e n) = codeAt (X (ix4 b h e n)) (Y (ix4 b h 0 n)) := by
  unfold headCodes
  pointwise
  rfl

/-! ## The intermediate vectors -/

theorem pay2_at (v3 : Vec Ideal S5x1664x384 .bf16) (v22 : Vec Ideal S1x384 .f32) (R : Fin 8320) (k : Fin 384) :
    k0_pay2 v3 v22 (ix2 R k) = normed len384 (fun k => v3 (ix3 (bOf R) (nOf R) k)) k * v22 (ix2 0 k) := by
  unfold k0_pay2
  pointwise
  rfl

theorem pay3_at (v0 : Vec Ideal S5x1664x768 .bf16) (R : Fin 8320) (d : Fin 768) :
    k0_pay3 v0 (ix2 R d) = centred len768 (fun k => v0 (ix3 (bOf R) (nOf R) k)) d := by
  unfold k0_pay3
  pointwise
  rfl

theorem pay4_at (v0 : Vec Ideal S5x1664x768 .bf16) (R : Fin 8320) (d : Fin 768) :
    k0_pay4 v0 (ix2 R d) = Ideal.sqrt (var len768 (fun k => v0 (ix3 (bOf R) (nOf R) k)) + eps) := by
  unfold k0_pay4
  pointwise [pay3_at]
  rfl

theorem pay5_at (v26 : FVec Ideal S8320x384 .bf16) (v32 v41 : FVec Ideal S8320x768 .f32) (v43 : Vec Ideal S384x1x768 .bf16)
    (v46 : Vec Ideal S1x768 .f32) (v52 : Vec Ideal S384x1x768 .bf16) (R : Fin 8320) (d : Fin 768) :
    k0_pay5 v26 v32 v41 v43 v46 v52 (ix2 R d)
      = Ideal.div (v32 (ix2 R d)) (v41 (ix2 R d))
          * Ideal.logistic (dot (fun k => v26 (ix2 R k)) (fun k d => v43 (ix3 k 0 d)) d + v46 (ix2 0 d))
        + dot (fun k => v26 (ix2 R k)) (fun k d => v52 (ix3 k 0 d)) d := by
  unfold k0_pay5
  pointwise [dot_S8320x384_S384x768_S8320x768_1_0_0_1_n_n]
  rfl

theorem pay6_at (v26 : FVec Ideal S8320x384 .bf16) (v32 v41 : FVec Ideal S8320x768 .f32) (v43 : Vec Ideal S384x1x768 .bf16)
    (v46 : Vec Ideal S1x768 .f32) (v52 : Vec Ideal S384x1x768 .bf16) (R : Fin 8320) :
    k0_pay6 v26 v32 v41 v43 v46 v52 (ix2 R 0) = scale (fun d => k0_pay5 v26 v32 v41 v43 v46 v52 (ix2 R d)) := by
  rw [show k0_pay6 v26 v32 v41 v43 v46 v52 = scaleCol (k0_pay5 v26 v32 v41 v43 v46 v52) from rfl, scaleCol_at]

theorem pay7_at (v26 : FVec Ideal S8320x384 .bf16) (v32 v41 : FVec Ideal S8320x768 .f32) (v43 : Vec Ideal S384x1x768 .bf16)
    (v46 : Vec Ideal S1x768 .f32) (v52 : Vec Ideal S384x1x768 .bf16) (R : Fin 8320) (d : Fin 768) :
    k0_pay7 v26 v32 v41 v43 v46 v52 (ix2 R d) = code (fun d => k0_pay5 v26 v32 v41 v43 v46 v52 (ix2 R d)) d := by
  rw [show k0_pay7 v26 v32 v41 v43 v46 v52 = codes (k0_pay5 v26 v32 v41 v43 v46 v52) (k0_pay6 v26 v32 v41 v43 v46 v52) from rfl, codes_at, pay6_at]
  rfl

theorem pay8_at (v26 : FVec Ideal S8320x384 .bf16) (v32 v41 : FVec Ideal S8320x768 .f32) (v43 : Vec Ideal S384x1x768 .bf16)
    (v46 : Vec Ideal S1x768 .f32) (v52 : Vec Ideal S384x1x768 .bf16) (b : Fin 5) (n : Fin 1664) (d : Fin 768) :
    k0_pay8 v26 v32 v41 v43 v46 v52 (ix3 b n d) = code (fun d => k0_pay5 v26 v32 v41 v43 v46 v52 (ix2 (rowOf b n) d)) d := by
  rw [← pay7_at]
  unfold k0_pay8
  pointwise

theorem pay9_at (v26 : FVec Ideal S8320x384 .bf16) (v32 v41 : FVec Ideal S8320x768 .f32) (v43 : Vec Ideal S384x1x768 .bf16)
    (v46 : Vec Ideal S1x768 .f32) (v52 : Vec Ideal S384x1x768 .bf16) (b : Fin 5) (n : Fin 1664) :
    k0_pay9 v26 v32 v41 v43 v46 v52 (ix3 b 0 n) = scale (fun d => k0_pay5 v26 v32 v41 v43 v46 v52 (ix2 (rowOf b n) d)) := by
  rw [← pay6_at]
  unfold k0_pay9
  pointwise

theorem pay18_at (Y : FVec Ideal S8320x1 .f32) (C : FVec Ideal S8320x768 .fp8e4m3) (w : Vec Ideal S768x1x768 .fp8e4m3) (R : Fin 8320) (j : Fin 768) :
    k0_pay18 Y C w (ix2 R j) = dot (fun k => C (ix2 R k)) (fun k j => w (ix3 k 0 j)) j * Y (ix2 R 0) := by
  unfold k0_pay18
  pointwise [dot_S8320x768_S768x768_S8320x768_1_0_0_1_n_n]
  rfl

/-! ## The heads -/

/-- A projected row: the product of the codes, times the row's scale, times the column's. -/
def projAt (Y : FVec Ideal S8320x1 .f32) (C : FVec Ideal S8320x768 .fp8e4m3) (w : Vec Ideal S768x1x768 .fp8e4m3) (v : Vec Ideal S1x768 .f32)
    (R : Fin 8320) (j : Fin 768) : EReal := dot (fun k => C (ix2 R k)) (fun k j => w (ix3 k 0 j)) j * Y (ix2 R 0) * v (ix2 0 j)

theorem pay10_at (Y : FVec Ideal S8320x1 .f32) (C : FVec Ideal S8320x768 .fp8e4m3) (w : Vec Ideal S768x1x768 .fp8e4m3) (v u : Vec Ideal S1x768 .f32)
    (b : Fin 5) (h : Fin 16) (e : Fin 48) (n : Fin 1664) :
    k0_pay10 Y C w v u (ix4 b h e n) = head (fun j => projAt Y C w v (rowOf b n) j + u (ix2 0 j)) h e := by
  rw [show k0_pay10 Y C w v u = heads (plus (times (k0_pay18 Y C w) v) u) from rfl, heads_at]
  simp only [plus_at, times_at, pay18_at]
  rfl

theorem pay14_at (Y : FVec Ideal S8320x1 .f32) (C : FVec Ideal S8320x768 .fp8e4m3) (w : Vec Ideal S768x1x768 .fp8e4m3) (v : Vec Ideal S1x768 .f32)
    (b : Fin 5) (h : Fin 16) (e : Fin 48) (n : Fin 1664) :
    k0_pay14 Y C w v (ix4 b h e n) = head (fun j => projAt Y C w v (rowOf b n) j) h e := by
  rw [show k0_pay14 Y C w v = heads (times (k0_pay18 Y C w) v) from rfl, heads_at]
  simp only [times_at, pay18_at]
  rfl

theorem pay1_at (Y : FVec Ideal S8320x1 .f32) (C : FVec Ideal S8320x768 .fp8e4m3) (w : Vec Ideal S768x1x768 .fp8e4m3) (v : Vec Ideal S1x768 .f32)
    (b : Fin 5) (h : Fin 16) (e : Fin 48) (n : Fin 1664) :
    k0_pay1 (k0_pay18 Y C w) v (ix4 b h e n) = head (fun j => Ideal.logistic (projAt Y C w v (rowOf b n) j)) h e := by
  have hl : ∀ (X : FVec Ideal S8320x768 .f32) (R : Fin 8320) (d : Fin 768), (logistic X : FVec Ideal S8320x768 .f32) (ix2 R d) = Ideal.logistic (X (ix2 R d)) := fun X R d => rfl
  rw [show ∀ X, k0_pay1 X v = heads (logistic (times X v)) from fun X => rfl, heads_at]
  simp only [hl, times_at, pay18_at]
  rfl

theorem pay12_at (Y : FVec Ideal S8320x1 .f32) (C : FVec Ideal S8320x768 .fp8e4m3) (w : Vec Ideal S768x1x768 .fp8e4m3) (v u : Vec Ideal S1x768 .f32)
    (b : Fin 5) (h : Fin 16) (e : Fin 48) (n : Fin 1664) :
    k0_pay12 Y C w v u (ix4 b h e n) = code (fun e => k0_pay10 Y C w v u (ix4 b h e n)) e := by
  rw [show k0_pay12 Y C w v u = headCodes (k0_pay10 Y C w v u) (headScale (k0_pay10 Y C w v u)) from rfl, headCodes_at, headScale_at]
  rfl

theorem pay13_at (Y : FVec Ideal S8320x1 .f32) (C : FVec Ideal S8320x768 .fp8e4m3) (w : Vec Ideal S768x1x768 .fp8e4m3) (v u : Vec Ideal S1x768 .f32)
    (b : Fin 5) (h : Fin 16) (n : Fin 1664) :
    k0_pay13 Y C w v u (ix3 b h n) = scale (fun e => k0_pay10 Y C w v u (ix4 b h e n)) := by
  rw [show k0_pay13 Y C w v u = headFlat (headScale (k0_pay10 Y C w v u)) from rfl, headFlat_at, headScale_at]

theorem pay16_at (Y : FVec Ideal S8320x1 .f32) (C : FVec Ideal S8320x768 .fp8e4m3) (w : Vec Ideal S768x1x768 .fp8e4m3) (v : Vec Ideal S1x768 .f32)
    (b : Fin 5) (h : Fin 16) (e : Fin 48) (n : Fin 1664) :
    k0_pay16 Y C w v (ix4 b h e n) = code (fun e => k0_pay14 Y C w v (ix4 b h e n)) e := by
  rw [show k0_pay16 Y C w v = headCodes (k0_pay14 Y C w v) (headScale (k0_pay14 Y C w v)) from rfl, headCodes_at, headScale_at]
  rfl

theorem pay17_at (Y : FVec Ideal S8320x1 .f32) (C : FVec Ideal S8320x768 .fp8e4m3) (w : Vec Ideal S768x1x768 .fp8e4m3) (v : Vec Ideal S1x768 .f32)
    (b : Fin 5) (h : Fin 16) (n : Fin 1664) :
    k0_pay17 Y C w v (ix3 b h n) = scale (fun e => k0_pay14 Y C w v (ix4 b h e n)) := by
  rw [show k0_pay17 Y C w v = headFlat (headScale (k0_pay14 Y C w v)) from rfl, headFlat_at, headScale_at]

end Cert.PreReferenceIdeal.Hand

end
-- ==== Proof.Pre.RefRows.lean ====
/-
  The reference's stores, read at a token: each is the token function of Arrays.lean at that token's rows of the whole arrays
  and the weights the weight arrays hold.
-/
module

public import proofs.«01_k».proof.Proof.Pre.RefBlock
public import proofs.«01_k».proof.Proof.Gen.PreReferenceIdeal.Frame

@[expose] public section

set_option maxRecDepth 16384

noncomputable section

namespace Cert.PreReferenceIdeal.Hand

open Cert.PreReferenceIdeal Cert.PreReferenceIdeal.Gen Cert.Rows Cert.PreRows
open Idealize.ShloMosaic
open scoped BigOperators

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-! ## Loads -/

theorem ld_0 (x : Vec Ideal S5x1664x768 .bf16) : View.ld x r0_0 = x := View.ld_unit_zero (S := S5x1664x768) z3 _ x
theorem ld_1 (x : Vec Ideal S5x1664x384 .bf16) : View.ld x r0_1 = x := View.ld_unit_zero (S := S5x1664x384) z3 _ x
theorem ld_2 (x : Vec Ideal S1x384 .f32) : View.ld x r0_2 = x := View.ld_unit_zero (S := S1x384) z2 _ x
theorem ld_4 (x : Vec Ideal S1x768 .f32) : View.ld x r0_4 = x := View.ld_unit_zero (S := S1x768) z2 _ x
theorem ld_3 (x : Vec Ideal S384x2x768 .bf16) (k : Fin 384) (d : Fin 768) : (View.ld x r0_3 : Vec Ideal S384x1x768 .bf16) (ix3 k 0 d) = x (ix3 k 0 d) := by
  pointwise
theorem ld_5 (x : Vec Ideal S384x2x768 .bf16) (k : Fin 384) (d : Fin 768) : (View.ld x r0_5 : Vec Ideal S384x1x768 .bf16) (ix3 k 0 d) = x (ix3 k 1 d) := by
  pointwise
theorem ld_7 (x : Vec Ideal S768x4x768 .fp8e4m3) (k j : Fin 768) : (View.ld x r0_7 : Vec Ideal S768x1x768 .fp8e4m3) (ix3 k 0 j) = x (ix3 k 0 j) := by
  pointwise
theorem ld_11 (x : Vec Ideal S768x4x768 .fp8e4m3) (k j : Fin 768) : (View.ld x r0_11 : Vec Ideal S768x1x768 .fp8e4m3) (ix3 k 0 j) = x (ix3 k 1 j) := by
  pointwise
theorem ld_13 (x : Vec Ideal S768x4x768 .fp8e4m3) (k j : Fin 768) : (View.ld x r0_13 : Vec Ideal S768x1x768 .fp8e4m3) (ix3 k 0 j) = x (ix3 k 3 j) := by
  pointwise
theorem ld_8 (x : Vec Ideal S4x768 .f32) (j : Fin 768) : (View.ld x r0_8 : Vec Ideal S1x768 .f32) (ix2 0 j) = x (ix2 0 j) := by
  pointwise
theorem ld_12 (x : Vec Ideal S4x768 .f32) (j : Fin 768) : (View.ld x r0_12 : Vec Ideal S1x768 .f32) (ix2 0 j) = x (ix2 1 j) := by
  pointwise
theorem ld_14 (x : Vec Ideal S4x768 .f32) (j : Fin 768) : (View.ld x r0_14 : Vec Ideal S1x768 .f32) (ix2 0 j) = x (ix2 3 j) := by
  pointwise

/-! ## The token functions -/

/-- The weights the weight arrays hold. -/
def refW (x2 : Vec Ideal S1x384 .f32) (x3 : Vec Ideal S384x2x768 .bf16) (x4 : Vec Ideal S1x768 .f32) (x5 : Vec Ideal S768x4x768 .fp8e4m3) (x6 : Vec Ideal S4x768 .f32) (x7 : Vec Ideal S1x768 .f32) : PreRows.Weights where
  gain k := x2 (ix2 0 k)
  wada i k d := x3 (ix3 k i d)
  bada d := x4 (ix2 0 d)
  w p k j := x5 (ix3 k p j)
  ws p j := x6 (ix2 p j)
  bq j := x7 (ix2 0 j)

variable (x0 : Vec Ideal S5x1664x768 .bf16) (x1 : Vec Ideal S5x1664x384 .bf16) (x2 : Vec Ideal S1x384 .f32) (x3 : Vec Ideal S384x2x768 .bf16) (x4 : Vec Ideal S1x768 .f32) (x5 : Vec Ideal S768x4x768 .fp8e4m3) (x6 : Vec Ideal S4x768 .f32) (x7 : Vec Ideal S1x768 .f32)

theorem x1_of (g h : Vec Ideal S384x1x768 .bf16) (u : Vec Ideal S1x768 .f32) (hg : ∀ k d, g (ix3 k 0 d) = x3 (ix3 k 0 d)) (hh : ∀ k d, h (ix3 k 0 d) = x3 (ix3 k 1 d)) (hu : ∀ d, u (ix2 0 d) = x4 (ix2 0 d)) (R : Fin 8320) (d : Fin 768) :
    k0_pay5 (k0_pay19 x0 x1 x2 x3 x4 x5 x6 x7) (k0_pay20 x0 x1 x2 x3 x4 x5 x6 x7) (k0_pay21 x0 x1 x2 x3 x4 x5 x6 x7) g u h (ix2 R d) = (refW x2 x3 x4 x5 x6 x7).x1 (fun d => x0 (ix3 (bOf R) (nOf R) d)) (fun k => x1 (ix3 (bOf R) (nOf R) k)) d := by
  rw [pay5_at]
  unfold k0_pay19 k0_pay20 k0_pay21
  simp only [pay2_at, pay3_at, pay4_at, ld_0, ld_1, ld_2, hg, hh, hu]
  rfl

theorem x1_at (R : Fin 8320) (d : Fin 768) : k0_pay5 (k0_pay19 x0 x1 x2 x3 x4 x5 x6 x7) (k0_pay20 x0 x1 x2 x3 x4 x5 x6 x7) (k0_pay21 x0 x1 x2 x3 x4 x5 x6 x7) (View.ld x3 r0_3) (View.ld x4 r0_4) (View.ld x3 r0_5) (ix2 R d) = (refW x2 x3 x4 x5 x6 x7).x1 (fun d => x0 (ix3 (bOf R) (nOf R) d)) (fun k => x1 (ix3 (bOf R) (nOf R) k)) d :=
  x1_of x0 x1 x2 x3 x4 x5 x6 x7 _ _ _ (fun k d => ld_3 x3 k d) (fun k d => ld_5 x3 k d) (fun d => congrFun (ld_4 x4) (ix2 0 d)) R d

theorem x1_row (R : Fin 8320) : (fun d => k0_pay5 (k0_pay19 x0 x1 x2 x3 x4 x5 x6 x7) (k0_pay20 x0 x1 x2 x3 x4 x5 x6 x7) (k0_pay21 x0 x1 x2 x3 x4 x5 x6 x7) (View.ld x3 r0_3) (View.ld x4 r0_4) (View.ld x3 r0_5) (ix2 R d)) = (refW x2 x3 x4 x5 x6 x7).x1 (fun d => x0 (ix3 (bOf R) (nOf R) d)) (fun k => x1 (ix3 (bOf R) (nOf R) k)) := funext fun d => x1_at x0 x1 x2 x3 x4 x5 x6 x7 R d

theorem tok_codes_at (R : Fin 8320) (k : Fin 768) : k0_pay23 x0 x1 x2 x3 x4 x5 x6 x7 (ix2 R k) = code ((refW x2 x3 x4 x5 x6 x7).x1 (fun d => x0 (ix3 (bOf R) (nOf R) d)) (fun k => x1 (ix3 (bOf R) (nOf R) k))) k := by
  unfold k0_pay23
  rw [pay7_at, x1_row]

theorem tok_scales_at (R : Fin 8320) : k0_pay22 x0 x1 x2 x3 x4 x5 x6 x7 (ix2 R 0) = scale ((refW x2 x3 x4 x5 x6 x7).x1 (fun d => x0 (ix3 (bOf R) (nOf R) d)) (fun k => x1 (ix3 (bOf R) (nOf R) k))) := by
  unfold k0_pay22
  rw [pay6_at, x1_row]

/-- A projection of the body is the token's. -/
theorem proj_at (p : Fin 4) (w : Vec Ideal S768x1x768 .fp8e4m3) (v : Vec Ideal S1x768 .f32) (hw : ∀ k j, w (ix3 k 0 j) = x5 (ix3 k p j)) (hv : ∀ j, v (ix2 0 j) = x6 (ix2 p j)) (R : Fin 8320) (j : Fin 768) :
    projAt (k0_pay22 x0 x1 x2 x3 x4 x5 x6 x7) (k0_pay23 x0 x1 x2 x3 x4 x5 x6 x7) w v R j = (refW x2 x3 x4 x5 x6 x7).proj p (fun d => x0 (ix3 (bOf R) (nOf R) d)) (fun k => x1 (ix3 (bOf R) (nOf R) k)) j := by
  unfold projAt
  rw [tok_scales_at, hv]
  simp only [tok_codes_at, hw]
  rfl

/-! ## The heads -/

theorem q_at (b : Fin 5) (h : Fin 16) (e : Fin 48) (n : Fin 1664) :
    k0_pay10 (k0_pay22 x0 x1 x2 x3 x4 x5 x6 x7) (k0_pay23 x0 x1 x2 x3 x4 x5 x6 x7) (View.ld x5 r0_7) (View.ld x6 r0_8) (View.ld x7 r0_4) (ix4 b h e n) = head ((refW x2 x3 x4 x5 x6 x7).q (fun d => x0 (ix3 b n d)) (fun k => x1 (ix3 b n k))) h e := by
  rw [pay10_at]
  unfold head PreRows.Weights.q
  refine (congrArg₂ (fun t u : EReal => t + u) (proj_at x0 x1 x2 x3 x4 x5 x6 x7 0 _ _ (fun k j => ld_7 x5 k j) (fun j => ld_8 x6 j) (rowOf b n) ⟨h.val * 48 + e.val, by omega⟩) (congrFun (ld_4 x7) (ix2 0 ⟨h.val * 48 + e.val, by omega⟩))).trans ?_
  rw [bOf_rowOf, nOf_rowOf]
  rfl

theorem projRow_at (p : Fin 4) (w : Vec Ideal S768x1x768 .fp8e4m3) (v : Vec Ideal S1x768 .f32) (hw : ∀ k j, w (ix3 k 0 j) = x5 (ix3 k p j)) (hv : ∀ j, v (ix2 0 j) = x6 (ix2 p j)) (b : Fin 5) (n : Fin 1664) :
    (fun j => projAt (k0_pay22 x0 x1 x2 x3 x4 x5 x6 x7) (k0_pay23 x0 x1 x2 x3 x4 x5 x6 x7) w v (rowOf b n) j) = (refW x2 x3 x4 x5 x6 x7).proj p (fun d => x0 (ix3 b n d)) (fun k => x1 (ix3 b n k)) := by
  funext j
  rw [proj_at x0 x1 x2 x3 x4 x5 x6 x7 p w v hw hv, bOf_rowOf, nOf_rowOf]

theorem k_at (b : Fin 5) (h : Fin 16) (e : Fin 48) (n : Fin 1664) :
    k0_pay14 (k0_pay22 x0 x1 x2 x3 x4 x5 x6 x7) (k0_pay23 x0 x1 x2 x3 x4 x5 x6 x7) (View.ld x5 r0_11) (View.ld x6 r0_12) (ix4 b h e n) = head ((refW x2 x3 x4 x5 x6 x7).k (fun d => x0 (ix3 b n d)) (fun k => x1 (ix3 b n k))) h e :=
  (pay14_at _ _ _ _ b h e n).trans (congrArg (fun v : Fin 768 → EReal => head v h e)
    (projRow_at x0 x1 x2 x3 x4 x5 x6 x7 1 _ _ (fun k j => ld_11 x5 k j) (fun j => ld_12 x6 j) b n))

/-! ## The stores -/

theorem out8_at (b : Fin 5) (n : Fin 1664) (d : Fin 768) : out0_8 x0 x1 x2 x3 x4 x5 x6 x7 (ix3 b n d) = code ((refW x2 x3 x4 x5 x6 x7).x1 (fun d => x0 (ix3 b n d)) (fun k => x1 (ix3 b n k))) d := by
  unfold out0_8
  rw [View.canon_unit_zero (S := S5x1664x768) z3]
  rw [pay8_at, x1_row, bOf_rowOf, nOf_rowOf]

theorem out9_at (b : Fin 5) (n : Fin 1664) : out0_9 x0 x1 x2 x3 x4 x5 x6 x7 (ix3 b 0 n) = scale ((refW x2 x3 x4 x5 x6 x7).x1 (fun d => x0 (ix3 b n d)) (fun k => x1 (ix3 b n k))) := by
  unfold out0_9
  rw [View.canon_unit_zero (S := S5x1x1664) z3]
  rw [pay9_at, x1_row, bOf_rowOf, nOf_rowOf]

theorem out10_at (b : Fin 5) (h : Fin 16) (e : Fin 48) (n : Fin 1664) : out0_10 x0 x1 x2 x3 x4 x5 x6 x7 (ix4 b h e n) = code (head ((refW x2 x3 x4 x5 x6 x7).q (fun d => x0 (ix3 b n d)) (fun k => x1 (ix3 b n k))) h) e := by
  unfold out0_10
  rw [View.canon_unit_zero (S := S5x16x48x1664) z4]
  rw [pay12_at]
  exact congrArg (fun v : Fin 48 → EReal => code v e) (funext fun e => q_at x0 x1 x2 x3 x4 x5 x6 x7 b h e n)

theorem out11_at (b : Fin 5) (h : Fin 16) (n : Fin 1664) : out0_11 x0 x1 x2 x3 x4 x5 x6 x7 (ix3 b h n) = scale (head ((refW x2 x3 x4 x5 x6 x7).q (fun d => x0 (ix3 b n d)) (fun k => x1 (ix3 b n k))) h) := by
  unfold out0_11
  rw [View.canon_unit_zero (S := S5x16x1664) z3]
  rw [pay13_at]
  exact congrArg scale (funext fun e => q_at x0 x1 x2 x3 x4 x5 x6 x7 b h e n)

theorem out12_at (b : Fin 5) (h : Fin 16) (e : Fin 48) (n : Fin 1664) : out0_12 x0 x1 x2 x3 x4 x5 x6 x7 (ix4 b h e n) = code (head ((refW x2 x3 x4 x5 x6 x7).k (fun d => x0 (ix3 b n d)) (fun k => x1 (ix3 b n k))) h) e := by
  unfold out0_12
  rw [View.canon_unit_zero (S := S5x16x48x1664) z4]
  rw [pay16_at]
  exact congrArg (fun v : Fin 48 → EReal => code v e) (funext fun e => k_at x0 x1 x2 x3 x4 x5 x6 x7 b h e n)

theorem out13_at (b : Fin 5) (h : Fin 16) (n : Fin 1664) : out0_13 x0 x1 x2 x3 x4 x5 x6 x7 (ix3 b h n) = scale (head ((refW x2 x3 x4 x5 x6 x7).k (fun d => x0 (ix3 b n d)) (fun k => x1 (ix3 b n k))) h) := by
  unfold out0_13
  rw [View.canon_unit_zero (S := S5x16x1664) z3]
  rw [pay17_at]
  exact congrArg scale (funext fun e => k_at x0 x1 x2 x3 x4 x5 x6 x7 b h e n)

theorem out14_at (b : Fin 5) (h : Fin 16) (e : Fin 48) (n : Fin 1664) : out0_14 x0 x1 x2 x3 x4 x5 x6 x7 (ix4 b h e n) = head ((refW x2 x3 x4 x5 x6 x7).g (fun d => x0 (ix3 b n d)) (fun k => x1 (ix3 b n k))) h e := by
  unfold out0_14
  rw [View.canon_unit_zero (S := S5x16x48x1664) z4]
  rw [pay1_at]
  unfold head PreRows.Weights.g
  refine (congrArg Ideal.logistic (proj_at x0 x1 x2 x3 x4 x5 x6 x7 3 _ _ (fun k j => ld_13 x5 k j) (fun j => ld_14 x6 j) (rowOf b n) ⟨h.val * 48 + e.val, by omega⟩)).trans ?_
  rw [bOf_rowOf, nOf_rowOf]

end Cert.PreReferenceIdeal.Hand

end
-- ==== Proof.Pre.RefReads.lean ====
/-
  What the arrays the region reads hold, at an index, in terms of the program's arguments: the host lines before the region
  are reshapes.
-/
module

public import proofs.«01_k».proof.Proof.Gen.PreReferenceIdeal.Frame
public import proofs.«01_k».proof.Proof.Pre.Arrays
public import Idealize.ShloMosaic.Lib.StableHlo.ReadAt

@[expose] public section

set_option maxRecDepth 16384

noncomputable section

namespace Cert.PreReferenceIdeal.Hand

open Cert.PreReferenceIdeal Cert.PreReferenceIdeal.Gen Cert.Rows Cert.PreRows
open Idealize.ShloMosaic Idealize.ShloMosaic.TcCoe
open Idealize.SL.Sem

variable (m : (ℓ : Loc nD τ sig) → Buf (Elt Ideal) ℓ)

theorem V_gain (c : Dev nD) (k : Fin 384) :
    V m c main_v0 (ix2 0 k) = m ((c : Thread nD τ).loc main_arg2) (ix1 k) := by
  unfold V
  after_reads_at

theorem V_bada (c : Dev nD) (d : Fin 768) :
    V m c main_v1 (ix2 0 d) = m ((c : Thread nD τ).loc main_arg4) (ix1 d) := by
  unfold V
  after_reads_at

theorem V_w (c : Dev nD) (p : Fin 4) (k j : Fin 768) :
    V m c main_v2 (ix3 k p j) = m ((c : Thread nD τ).loc main_arg5) (ix4 k p ⟨j.val / 48, by omega⟩ ⟨j.val % 48, by omega⟩) := by
  unfold V
  after_reads_at

theorem V_ws (c : Dev nD) (p : Fin 4) (j : Fin 768) :
    V m c main_v3 (ix2 p j) = m ((c : Thread nD τ).loc main_arg6) (ix3 p ⟨j.val / 48, by omega⟩ ⟨j.val % 48, by omega⟩) := by
  unfold V
  after_reads_at

theorem V_bq (c : Dev nD) (j : Fin 768) :
    V m c main_v4 (ix2 0 j) = m ((c : Thread nD τ).loc main_arg7) (ix2 ⟨j.val / 48, by omega⟩ ⟨j.val % 48, by omega⟩) := by
  unfold V
  after_reads_at

/-- The program's inputs. -/
def inputs (c : Dev nD) : Inputs where
  W :=
    { gain := fun k => m ((c : Thread nD τ).loc main_arg2) (ix1 k)
      wada := fun i k d => m ((c : Thread nD τ).loc main_arg3) (ix3 k i d)
      bada := fun d => m ((c : Thread nD τ).loc main_arg4) (ix1 d)
      w := fun p k j => m ((c : Thread nD τ).loc main_arg5) (ix4 k p ⟨j.val / 48, by omega⟩ ⟨j.val % 48, by omega⟩)
      ws := fun p j => m ((c : Thread nD τ).loc main_arg6) (ix3 p ⟨j.val / 48, by omega⟩ ⟨j.val % 48, by omega⟩)
      bq := fun j => m ((c : Thread nD τ).loc main_arg7) (ix2 ⟨j.val / 48, by omega⟩ ⟨j.val % 48, by omega⟩) }
  a b n d := m ((c : Thread nD τ).loc main_arg0) (ix3 b n d)
  s b n k := m ((c : Thread nD τ).loc main_arg1) (ix3 b n k)

end Cert.PreReferenceIdeal.Hand

end
-- ==== Proof.Pre.RefArrays.lean ====
/-
  The arrays the reference's region leaves: one point, every window its whole array.
-/
module

public import proofs.«01_k».proof.Proof.Pre.RefRows
public import proofs.«01_k».proof.Proof.Pre.RefReads
public import Idealize.ShloMosaic.Lib.Pipeline.ValueKit.Geometry

@[expose] public section

set_option maxRecDepth 16384

noncomputable section

namespace Cert.PreReferenceIdeal.Hand

open Cert.PreReferenceIdeal Cert.PreReferenceIdeal.Gen Cert.Rows Cert.PreRows
open Idealize.ShloMosaic Idealize.ShloMosaic.TcCoe
open Idealize.SL.Sem

variable (m : (ℓ : Loc nD τ sig) → Buf (Elt Ideal) ℓ)

/-! ## The blocks are the arrays -/

theorem e_0 : ∀ t : Fin cfg0.N, win0_0.index t = ![0, 0, 0] := (by decide +kernel : ∀ t : Fin grid0.N, _)
theorem iblk_0 (c : Dev nD) (t : Fin cfg0.N) : (iblk m c 0 t : Vec Ideal S5x1664x768 .bf16) = V m c main_arg0 := by
  funext y
  blk_ext [iblk, e_0]
theorem e_1 : ∀ t : Fin cfg0.N, win0_1.index t = ![0, 0, 0] := (by decide +kernel : ∀ t : Fin grid0.N, _)
theorem iblk_1 (c : Dev nD) (t : Fin cfg0.N) : (iblk m c 1 t : Vec Ideal S5x1664x384 .bf16) = V m c main_arg1 := by
  funext y
  blk_ext [iblk, e_1]
theorem e_2 : ∀ t : Fin cfg0.N, win0_2.index t = ![0, 0] := (by decide +kernel : ∀ t : Fin grid0.N, _)
theorem iblk_2 (c : Dev nD) (t : Fin cfg0.N) : (iblk m c 2 t : Vec Ideal S1x384 .f32) = V m c main_v0 := by
  funext y
  blk_ext [iblk, e_2]
theorem e_3 : ∀ t : Fin cfg0.N, win0_3.index t = ![0, 0, 0] := (by decide +kernel : ∀ t : Fin grid0.N, _)
theorem iblk_3 (c : Dev nD) (t : Fin cfg0.N) : (iblk m c 3 t : Vec Ideal S384x2x768 .bf16) = V m c main_arg3 := by
  funext y
  blk_ext [iblk, e_3]
theorem e_4 : ∀ t : Fin cfg0.N, win0_4.index t = ![0, 0] := (by decide +kernel : ∀ t : Fin grid0.N, _)
theorem iblk_4 (c : Dev nD) (t : Fin cfg0.N) : (iblk m c 4 t : Vec Ideal S1x768 .f32) = V m c main_v1 := by
  funext y
  blk_ext [iblk, e_4]
theorem e_5 : ∀ t : Fin cfg0.N, win0_5.index t = ![0, 0, 0] := (by decide +kernel : ∀ t : Fin grid0.N, _)
theorem iblk_5 (c : Dev nD) (t : Fin cfg0.N) : (iblk m c 5 t : Vec Ideal S768x4x768 .fp8e4m3) = V m c main_v2 := by
  funext y
  blk_ext [iblk, e_5]
theorem e_6 : ∀ t : Fin cfg0.N, win0_6.index t = ![0, 0] := (by decide +kernel : ∀ t : Fin grid0.N, _)
theorem iblk_6 (c : Dev nD) (t : Fin cfg0.N) : (iblk m c 6 t : Vec Ideal S4x768 .f32) = V m c main_v3 := by
  funext y
  blk_ext [iblk, e_6]
theorem e_7 : ∀ t : Fin cfg0.N, win0_7.index t = ![0, 0] := (by decide +kernel : ∀ t : Fin grid0.N, _)
theorem iblk_7 (c : Dev nD) (t : Fin cfg0.N) : (iblk m c 7 t : Vec Ideal S1x768 .f32) = V m c main_v4 := by
  funext y
  blk_ext [iblk, e_7]

/-- The weights the body finds are the program's. -/
theorem weights_eq (c : Dev nD) : refW (V m c main_v0) (V m c main_arg3) (V m c main_v1) (V m c main_v2) (V m c main_v3) (V m c main_v4) = (inputs m c).W := by
  unfold refW inputs
  rw [PreRows.Weights.mk.injEq]
  exact ⟨funext fun k => V_gain m c k, by rw [V_main_arg3], funext fun d => V_bada m c d, funext fun p => funext fun k => funext fun j => V_w m c p k j,
    funext fun p => funext fun j => V_ws m c p j, funext fun j => V_bq m c j⟩

theorem a_row (c : Dev nD) (b : Fin 5) (n : Fin 1664) : (fun d => (V m c main_arg0 : Vec Ideal S5x1664x768 .bf16) (ix3 b n d)) = (inputs m c).a b n := by
  rw [V_main_arg0]; rfl
theorem s_row (c : Dev nD) (b : Fin 5) (n : Fin 1664) : (fun d => (V m c main_arg1 : Vec Ideal S5x1664x384 .bf16) (ix3 b n d)) = (inputs m c).s b n := by
  rw [V_main_arg1]; rfl

/-! ## The result arrays -/

/-- Result array 0. -/
def G8 (c : Dev nD) : Vec Ideal S5x1664x768 .fp8e4m3 := fun i => (inputs m c).xc (i 0) (i 1) (i 2)

theorem out8_eq (c : Dev nD) (j : S5x1664x768.Idx) : out0_8 (V m c main_arg0) (V m c main_arg1) (V m c main_v0) (V m c main_arg3) (V m c main_v1) (V m c main_v2) (V m c main_v3) (V m c main_v4) j = G8 m c j := by
  obtain ⟨b, n, d, rfl⟩ : ∃ b n d, j = ix3 b n d := ⟨j 0, j 1, j 2, funext fun a => by fin_cases a <;> rfl⟩
  rw [out8_at, weights_eq, a_row, s_row]
  rfl

theorem whole_8 : (cfg0.win 8).WholeAt t0_0 := by decide +kernel

theorem after_8 (c : Dev nD) : ((dats m 0 c).after 8 t0_0 : Vec Ideal S5x1664x768 .fp8e4m3) = G8 m c := by
  rw [after0_8, iblk_0, iblk_1, iblk_2, iblk_3, iblk_4, iblk_5, iblk_6, iblk_7]
  exact funext (out8_eq m c)

theorem arr_8 (c : Dev nD) : (dats m 0 c).arrAt 8 cfg0.N = G8 m c := by
  refine (dats m 0 c).arrAt_eq_of_after_last 8 t0_0 whole_8 _ fun j => ?_
  blk_simp
  exact congrFun (after_8 m c) j

/-- Result array 1. -/
def G9 (c : Dev nD) : Vec Ideal S5x1x1664 .f32 := fun i => (inputs m c).xs (i 0) (i 2)

theorem out9_eq (c : Dev nD) (j : S5x1x1664.Idx) : out0_9 (V m c main_arg0) (V m c main_arg1) (V m c main_v0) (V m c main_arg3) (V m c main_v1) (V m c main_v2) (V m c main_v3) (V m c main_v4) j = G9 m c j := by
  obtain ⟨b, n, rfl⟩ : ∃ b n, j = ix3 b (0 : Fin 1) n := ⟨j 0, j 2, funext fun a => by fin_cases a <;> first | rfl | exact Subsingleton.elim (α := Fin 1) _ _⟩
  rw [out9_at, weights_eq, a_row, s_row]
  rfl

theorem whole_9 : (cfg0.win 9).WholeAt t0_0 := by decide +kernel

theorem after_9 (c : Dev nD) : ((dats m 0 c).after 9 t0_0 : Vec Ideal S5x1x1664 .f32) = G9 m c := by
  rw [after0_9, iblk_0, iblk_1, iblk_2, iblk_3, iblk_4, iblk_5, iblk_6, iblk_7]
  exact funext (out9_eq m c)

theorem arr_9 (c : Dev nD) : (dats m 0 c).arrAt 9 cfg0.N = G9 m c := by
  refine (dats m 0 c).arrAt_eq_of_after_last 9 t0_0 whole_9 _ fun j => ?_
  blk_simp
  exact congrFun (after_9 m c) j

/-- Result array 2. -/
def G10 (c : Dev nD) : Vec Ideal S5x16x48x1664 .fp8e4m3 := fun i => (inputs m c).qc (i 0) (i 1) (i 2) (i 3)

theorem out10_eq (c : Dev nD) (j : S5x16x48x1664.Idx) : out0_10 (V m c main_arg0) (V m c main_arg1) (V m c main_v0) (V m c main_arg3) (V m c main_v1) (V m c main_v2) (V m c main_v3) (V m c main_v4) j = G10 m c j := by
  obtain ⟨b, h, e, n, rfl⟩ : ∃ b h e n, j = ix4 b h e n := ⟨j 0, j 1, j 2, j 3, funext fun a => by fin_cases a <;> rfl⟩
  rw [out10_at, weights_eq, a_row, s_row]
  rfl

theorem whole_10 : (cfg0.win 10).WholeAt t0_0 := by decide +kernel

theorem after_10 (c : Dev nD) : ((dats m 0 c).after 10 t0_0 : Vec Ideal S5x16x48x1664 .fp8e4m3) = G10 m c := by
  rw [after0_10, iblk_0, iblk_1, iblk_2, iblk_3, iblk_4, iblk_5, iblk_6, iblk_7]
  exact funext (out10_eq m c)

theorem arr_10 (c : Dev nD) : (dats m 0 c).arrAt 10 cfg0.N = G10 m c := by
  refine (dats m 0 c).arrAt_eq_of_after_last 10 t0_0 whole_10 _ fun j => ?_
  blk_simp
  exact congrFun (after_10 m c) j

/-- Result array 3. -/
def G11 (c : Dev nD) : Vec Ideal S5x16x1664 .f32 := fun i => (inputs m c).qs (i 0) (i 1) (i 2)

theorem out11_eq (c : Dev nD) (j : S5x16x1664.Idx) : out0_11 (V m c main_arg0) (V m c main_arg1) (V m c main_v0) (V m c main_arg3) (V m c main_v1) (V m c main_v2) (V m c main_v3) (V m c main_v4) j = G11 m c j := by
  obtain ⟨b, h, n, rfl⟩ : ∃ b h n, j = ix3 b h n := ⟨j 0, j 1, j 2, funext fun a => by fin_cases a <;> rfl⟩
  rw [out11_at, weights_eq, a_row, s_row]
  rfl

theorem whole_11 : (cfg0.win 11).WholeAt t0_0 := by decide +kernel

theorem after_11 (c : Dev nD) : ((dats m 0 c).after 11 t0_0 : Vec Ideal S5x16x1664 .f32) = G11 m c := by
  rw [after0_11, iblk_0, iblk_1, iblk_2, iblk_3, iblk_4, iblk_5, iblk_6, iblk_7]
  exact funext (out11_eq m c)

theorem arr_11 (c : Dev nD) : (dats m 0 c).arrAt 11 cfg0.N = G11 m c := by
  refine (dats m 0 c).arrAt_eq_of_after_last 11 t0_0 whole_11 _ fun j => ?_
  blk_simp
  exact congrFun (after_11 m c) j

/-- Result array 4. -/
def G12 (c : Dev nD) : Vec Ideal S5x16x48x1664 .fp8e4m3 := fun i => (inputs m c).kc (i 0) (i 1) (i 2) (i 3)

theorem out12_eq (c : Dev nD) (j : S5x16x48x1664.Idx) : out0_12 (V m c main_arg0) (V m c main_arg1) (V m c main_v0) (V m c main_arg3) (V m c main_v1) (V m c main_v2) (V m c main_v3) (V m c main_v4) j = G12 m c j := by
  obtain ⟨b, h, e, n, rfl⟩ : ∃ b h e n, j = ix4 b h e n := ⟨j 0, j 1, j 2, j 3, funext fun a => by fin_cases a <;> rfl⟩
  rw [out12_at, weights_eq, a_row, s_row]
  rfl

theorem whole_12 : (cfg0.win 12).WholeAt t0_0 := by decide +kernel

theorem after_12 (c : Dev nD) : ((dats m 0 c).after 12 t0_0 : Vec Ideal S5x16x48x1664 .fp8e4m3) = G12 m c := by
  rw [after0_12, iblk_0, iblk_1, iblk_2, iblk_3, iblk_4, iblk_5, iblk_6, iblk_7]
  exact funext (out12_eq m c)

theorem arr_12 (c : Dev nD) : (dats m 0 c).arrAt 12 cfg0.N = G12 m c := by
  refine (dats m 0 c).arrAt_eq_of_after_last 12 t0_0 whole_12 _ fun j => ?_
  blk_simp
  exact congrFun (after_12 m c) j

/-- Result array 5. -/
def G13 (c : Dev nD) : Vec Ideal S5x16x1664 .f32 := fun i => (inputs m c).ks (i 0) (i 1) (i 2)

theorem out13_eq (c : Dev nD) (j : S5x16x1664.Idx) : out0_13 (V m c main_arg0) (V m c main_arg1) (V m c main_v0) (V m c main_arg3) (V m c main_v1) (V m c main_v2) (V m c main_v3) (V m c main_v4) j = G13 m c j := by
  obtain ⟨b, h, n, rfl⟩ : ∃ b h n, j = ix3 b h n := ⟨j 0, j 1, j 2, funext fun a => by fin_cases a <;> rfl⟩
  rw [out13_at, weights_eq, a_row, s_row]
  rfl

theorem whole_13 : (cfg0.win 13).WholeAt t0_0 := by decide +kernel

theorem after_13 (c : Dev nD) : ((dats m 0 c).after 13 t0_0 : Vec Ideal S5x16x1664 .f32) = G13 m c := by
  rw [after0_13, iblk_0, iblk_1, iblk_2, iblk_3, iblk_4, iblk_5, iblk_6, iblk_7]
  exact funext (out13_eq m c)

theorem arr_13 (c : Dev nD) : (dats m 0 c).arrAt 13 cfg0.N = G13 m c := by
  refine (dats m 0 c).arrAt_eq_of_after_last 13 t0_0 whole_13 _ fun j => ?_
  blk_simp
  exact congrFun (after_13 m c) j

/-- Result array 6. -/
def G14 (c : Dev nD) : Vec Ideal S5x16x48x1664 .f32 := fun i => (inputs m c).g (i 0) (i 1) (i 2) (i 3)

theorem out14_eq (c : Dev nD) (j : S5x16x48x1664.Idx) : out0_14 (V m c main_arg0) (V m c main_arg1) (V m c main_v0) (V m c main_arg3) (V m c main_v1) (V m c main_v2) (V m c main_v3) (V m c main_v4) j = G14 m c j := by
  obtain ⟨b, h, e, n, rfl⟩ : ∃ b h e n, j = ix4 b h e n := ⟨j 0, j 1, j 2, j 3, funext fun a => by fin_cases a <;> rfl⟩
  rw [out14_at, weights_eq, a_row, s_row]
  rfl

theorem whole_14 : (cfg0.win 14).WholeAt t0_0 := by decide +kernel

theorem after_14 (c : Dev nD) : ((dats m 0 c).after 14 t0_0 : Vec Ideal S5x16x48x1664 .f32) = G14 m c := by
  rw [after0_14, iblk_0, iblk_1, iblk_2, iblk_3, iblk_4, iblk_5, iblk_6, iblk_7]
  exact funext (out14_eq m c)

theorem arr_14 (c : Dev nD) : (dats m 0 c).arrAt 14 cfg0.N = G14 m c := by
  refine (dats m 0 c).arrAt_eq_of_after_last 14 t0_0 whole_14 _ fun j => ?_
  blk_simp
  exact congrFun (after_14 m c) j

end Cert.PreReferenceIdeal.Hand

end
-- ==== Proof.Pre.Equation.lean ====
/-
  The runs of the two programs at the ideal instance, each result array named, and the equation between them: the programs'
  inputs are the same when their arguments are.
-/
module

public import proofs.«01_k».proof.Proof.Pre.KernelArrays
public import proofs.«01_k».proof.Proof.Pre.RefArrays
public import Idealize.ShloMosaic.Adequacy
public import Idealize.ShloMosaic.Init

@[expose] public section

set_option maxRecDepth 16384
set_option maxHeartbeats 1600000

noncomputable section

namespace Cert.PreKernelIdeal.Hand

open Cert.PreKernelIdeal Cert.PreKernelIdeal.Gen
open Idealize.ShloMosaic Idealize.ShloMosaic.TcCoe
open Idealize.SL.Sem

variable (m : (ℓ : Loc nD τ sig) → Buf (Elt Ideal) ℓ) (ρ : Dev nD → PrngReg)

/-- Every argument array ends as it began. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1.arr_in c 0 rfl).trans ((A_eq m (o8 m) (o9 m) (o10 m) (o11 m) (o12 m) (o13 m) (o16 m) c 0).trans (V_main_arg0 m c)),
      (h.1.arr_in c 1 rfl).trans ((A_eq m (o8 m) (o9 m) (o10 m) (o11 m) (o12 m) (o13 m) (o16 m) c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩) (run_main_quiescent m ρ (o8 m) (o9 m) (o10 m) (o11 m) (o12 m) (o13 m) (o16 m) (agree m))

/-- The frame: the arguments unchanged and every semaphore counter at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ (o8 m) (o9 m) (o10 m) (o11 m) (o12 m) (o13 m) (o16 m) (agree m)))

/-- The run's results, the arguments unchanged. -/
theorem results : θ_run defs (onTc (τ := τ) (main (F := Ideal))) ⟨m, fun _ => 0, ρ⟩ (fun r => ∀ c : Dev nD,
      r.2.mem ((c.tc : Thread nD τ).loc main_v9_0) = G8 m c
      ∧ r.2.mem ((c.tc : Thread nD τ).loc main_v9_1) = G9 m c
      ∧ r.2.mem ((c.tc : Thread nD τ).loc main_v9_2) = G10 m c
      ∧ r.2.mem ((c.tc : Thread nD τ).loc main_v9_3) = G11 m c
      ∧ r.2.mem ((c.tc : Thread nD τ).loc main_v9_4) = G12 m c
      ∧ r.2.mem ((c.tc : Thread nD τ).loc main_v9_5) = G13 m c
      ∧ r.2.mem ((c.tc : Thread nD τ).loc main_v9_8) = G16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((Pipeline.Dat.toRForget_arrAt_iff (dats m (o8 m) (o9 m) (o10 m) (o11 m) (o12 m) (o13 m) (o16 m) 0 c) (w := 8) rfl cfg0.N _).mp ((h.1.1 c).1 8)).trans (arr_8 m c),
      ((Pipeline.Dat.toRForget_arrAt_iff (dats m (o8 m) (o9 m) (o10 m) (o11 m) (o12 m) (o13 m) (o16 m) 0 c) (w := 9) rfl cfg0.N _).mp ((h.1.1 c).1 9)).trans (arr_9 m c),
      ((Pipeline.Dat.toRForget_arrAt_iff (dats m (o8 m) (o9 m) (o10 m) (o11 m) (o12 m) (o13 m) (o16 m) 0 c) (w := 10) rfl cfg0.N _).mp ((h.1.1 c).1 10)).trans (arr_10 m c),
      ((Pipeline.Dat.toRForget_arrAt_iff (dats m (o8 m) (o9 m) (o10 m) (o11 m) (o12 m) (o13 m) (o16 m) 0 c) (w := 11) rfl cfg0.N _).mp ((h.1.1 c).1 11)).trans (arr_11 m c),
      ((Pipeline.Dat.toRForget_arrAt_iff (dats m (o8 m) (o9 m) (o10 m) (o11 m) (o12 m) (o13 m) (o16 m) 0 c) (w := 12) rfl cfg0.N _).mp ((h.1.1 c).1 12)).trans (arr_12 m c),
      ((Pipeline.Dat.toRForget_arrAt_iff (dats m (o8 m) (o9 m) (o10 m) (o11 m) (o12 m) (o13 m) (o16 m) 0 c) (w := 13) rfl cfg0.N _).mp ((h.1.1 c).1 13)).trans (arr_13 m c),
      ((Pipeline.Dat.toRForget_arrAt_iff (dats m (o8 m) (o9 m) (o10 m) (o11 m) (o12 m) (o13 m) (o16 m) 0 c) (w := 16) rfl cfg0.N _).mp ((h.1.1 c).1 16)).trans (arr_16 m c), h.2 c⟩)
    (θ_run_and (run_main_quiescent m ρ (o8 m) (o9 m) (o10 m) (o11 m) (o12 m) (o13 m) (o16 m) (agree m)) (unchanged m ρ))

end Cert.PreKernelIdeal.Hand

namespace Cert.PreReferenceIdeal.Hand

open Cert.PreReferenceIdeal Cert.PreReferenceIdeal.Gen
open Idealize.ShloMosaic Idealize.ShloMosaic.TcCoe
open Idealize.SL.Sem

variable (m : (ℓ : Loc nD τ sig) → Buf (Elt Ideal) ℓ) (ρ : Dev nD → PrngReg)

/-- Every argument array ends as it began. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) ((θ_run defs _ _).mono (fun _ h => h.1) (run_main_quiescent m ρ))

/-- The frame: the arguments unchanged and every semaphore counter at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-- The run's results, the arguments unchanged. -/
theorem results : θ_run defs (onTc (τ := τ) (main (F := Ideal))) ⟨m, fun _ => 0, ρ⟩ (fun r => ∀ c : Dev nD,
      r.2.mem ((c.tc : Thread nD τ).loc main_v5_0) = G8 m c
      ∧ r.2.mem ((c.tc : Thread nD τ).loc main_v5_1) = G9 m c
      ∧ r.2.mem ((c.tc : Thread nD τ).loc main_v5_2) = G10 m c
      ∧ r.2.mem ((c.tc : Thread nD τ).loc main_v5_3) = G11 m c
      ∧ r.2.mem ((c.tc : Thread nD τ).loc main_v5_4) = G12 m c
      ∧ r.2.mem ((c.tc : Thread nD τ).loc main_v5_5) = G13 m c
      ∧ r.2.mem ((c.tc : Thread nD τ).loc main_v5_6) = G14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1.1 c).1 8).trans (arr_8 m c), ((h.1.1 c).1 9).trans (arr_9 m c), ((h.1.1 c).1 10).trans (arr_10 m c), ((h.1.1 c).1 11).trans (arr_11 m c), ((h.1.1 c).1 12).trans (arr_12 m c), ((h.1.1 c).1 13).trans (arr_13 m c), ((h.1.1 c).1 14).trans (arr_14 m c), h.2 c⟩)
    (θ_run_and (run_main_quiescent m ρ) (unchanged m ρ))

end Cert.PreReferenceIdeal.Hand

namespace Cert.PreRows

open Idealize.ShloMosaic Idealize.SL.Sem

/-- Equal arguments are equal inputs. -/
theorem inputs_eq (m : (ℓ : Loc Cert.PreKernelIdeal.nD Cert.PreKernelIdeal.τ Cert.PreKernelIdeal.sig) → Buf (Elt Ideal) ℓ)
    (m' : (ℓ : Loc Cert.PreReferenceIdeal.nD Cert.PreReferenceIdeal.τ Cert.PreReferenceIdeal.sig) → Buf (Elt Ideal) ℓ) (c : Dev Cert.PreKernelIdeal.nD)
    (h : m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0)
      ∧ m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1)
      ∧ m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2)
      ∧ m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3)
      ∧ m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4)
      ∧ m' ((c.tc : Thread Cert.PreReferenceIdeal.nD Cert.PreReferenceIdeal.τ).loc Cert.PreReferenceIdeal.main_arg5) = m ((c.tc : Thread Cert.PreKernelIdeal.nD Cert.PreKernelIdeal.τ).loc Cert.PreKernelIdeal.main_arg5)
      ∧ m' ((c.tc : Thread Cert.PreReferenceIdeal.nD Cert.PreReferenceIdeal.τ).loc Cert.PreReferenceIdeal.main_arg6) = m ((c.tc : Thread Cert.PreKernelIdeal.nD Cert.PreKernelIdeal.τ).loc Cert.PreKernelIdeal.main_arg6)
      ∧ m' ((c.tc : Thread Cert.PreReferenceIdeal.nD Cert.PreReferenceIdeal.τ).loc Cert.PreReferenceIdeal.main_arg7) = m ((c.tc : Thread Cert.PreKernelIdeal.nD Cert.PreKernelIdeal.τ).loc Cert.PreKernelIdeal.main_arg7)) :
    Cert.PreReferenceIdeal.Hand.inputs m' c = Cert.PreKernelIdeal.Hand.inputs m c := by
  obtain ⟨h0, h1, h2, h3, h4, h5, h6, h7⟩ := h
  unfold Cert.PreReferenceIdeal.Hand.inputs Cert.PreKernelIdeal.Hand.inputs
  rw [h0, h1, h2, h3, h4, h5, h6, h7]

end Cert.PreRows

end
-- ==== Proof.lean ====
/-
  The proof of `Cert.Claim`: for each of the two launches the three frames, the preservation claim (the ideal pass rewrote
  nothing) and the equality of the results of the kernel and of the reference.
-/
module

public import proofs.«01_k».proof.Defs
public import proofs.«01_k».proof.Proof.Post.KernelFrame
public import proofs.«01_k».proof.Proof.Post.Equation
public import proofs.«01_k».proof.Proof.Pre.KernelFrame
public import proofs.«01_k».proof.Proof.Pre.Equation

@[expose] public section

noncomputable section

namespace Cert.Proof

open Idealize.ShloMosaic Idealize.SL.Sem

theorem algebraic : Cert.algebraic_KernelIdeal_ReferenceIdeal (hKernelIdeal := Cert.KernelIdeal.Gen.facts) (hReferenceIdeal := Cert.ReferenceIdeal.Gen.facts) := by
  intro m g m' g' _ hargs
  refine ⟨Cert.KernelIdeal.Hand.G14 m, Cert.KernelIdeal.Hand.G15 m, Cert.KernelIdeal.Hand.G16 m, Cert.KernelIdeal.Hand.G17 m, Cert.KernelIdeal.Hand.G18 m, Cert.KernelIdeal.Hand.G19 m, Cert.KernelIdeal.Hand.G20 m, Cert.KernelIdeal.Hand.G21 m, Cert.KernelIdeal.Hand.results m g, ?_⟩
  refine (θ_run _ _ _).mono (fun r h c => ?_) (Cert.ReferenceIdeal.Hand.results m' g')
  have e := Cert.Rows.inputs_eq m m' c (hargs c)
  have hc := h c
  have e14 : Cert.ReferenceIdeal.Hand.G14 m' c = Cert.KernelIdeal.Hand.G14 m c := by unfold Cert.ReferenceIdeal.Hand.G14 Cert.KernelIdeal.Hand.G14; rw [e]
  have e15 : Cert.ReferenceIdeal.Hand.G15 m' c = Cert.KernelIdeal.Hand.G15 m c := by unfold Cert.ReferenceIdeal.Hand.G15 Cert.KernelIdeal.Hand.G15; rw [e]
  have e16 : Cert.ReferenceIdeal.Hand.G16 m' c = Cert.KernelIdeal.Hand.G16 m c := by unfold Cert.ReferenceIdeal.Hand.G16 Cert.KernelIdeal.Hand.G16; rw [e]
  have e17 : Cert.ReferenceIdeal.Hand.G17 m' c = Cert.KernelIdeal.Hand.G17 m c := by unfold Cert.ReferenceIdeal.Hand.G17 Cert.KernelIdeal.Hand.G17; rw [e]
  have e18 : Cert.ReferenceIdeal.Hand.G18 m' c = Cert.KernelIdeal.Hand.G18 m c := by unfold Cert.ReferenceIdeal.Hand.G18 Cert.KernelIdeal.Hand.G18; rw [e]
  have e19 : Cert.ReferenceIdeal.Hand.G19 m' c = Cert.KernelIdeal.Hand.G19 m c := by unfold Cert.ReferenceIdeal.Hand.G19 Cert.KernelIdeal.Hand.G19; rw [e]
  have e20 : Cert.ReferenceIdeal.Hand.G20 m' c = Cert.KernelIdeal.Hand.G20 m c := by unfold Cert.ReferenceIdeal.Hand.G20 Cert.KernelIdeal.Hand.G20; rw [e]
  have e21 : Cert.ReferenceIdeal.Hand.G21 m' c = Cert.KernelIdeal.Hand.G21 m c := by unfold Cert.ReferenceIdeal.Hand.G21 Cert.KernelIdeal.Hand.G21; rw [e]
  exact ⟨hc.1.trans e14, hc.2.1.trans e15, hc.2.2.1.trans e16, hc.2.2.2.1.trans e17, hc.2.2.2.2.1.trans e18, hc.2.2.2.2.2.1.trans e19, hc.2.2.2.2.2.2.1.trans e20, hc.2.2.2.2.2.2.2.1.trans e21, hc.2.2.2.2.2.2.2.2⟩

theorem algebraicPre : Cert.algebraic_PreKernelIdeal_PreReferenceIdeal (hPreKernelIdeal := Cert.PreKernelIdeal.Gen.facts) (hPreReferenceIdeal := Cert.PreReferenceIdeal.Gen.facts) := by
  intro m g m' g' _ hargs
  refine ⟨Cert.PreKernelIdeal.Hand.G8 m, Cert.PreKernelIdeal.Hand.G9 m, Cert.PreKernelIdeal.Hand.G10 m, Cert.PreKernelIdeal.Hand.G11 m, Cert.PreKernelIdeal.Hand.G12 m, Cert.PreKernelIdeal.Hand.G13 m, Cert.PreKernelIdeal.Hand.G16 m, Cert.PreKernelIdeal.Hand.results m g, ?_⟩
  refine (θ_run _ _ _).mono (fun r h c => ?_) (Cert.PreReferenceIdeal.Hand.results m' g')
  have e := Cert.PreRows.inputs_eq m m' c (hargs c)
  have hc := h c
  have e8 : Cert.PreReferenceIdeal.Hand.G8 m' c = Cert.PreKernelIdeal.Hand.G8 m c := by unfold Cert.PreReferenceIdeal.Hand.G8 Cert.PreKernelIdeal.Hand.G8; rw [e]
  have e9 : Cert.PreReferenceIdeal.Hand.G9 m' c = Cert.PreKernelIdeal.Hand.G9 m c := by unfold Cert.PreReferenceIdeal.Hand.G9 Cert.PreKernelIdeal.Hand.G9; rw [e]
  have e10 : Cert.PreReferenceIdeal.Hand.G10 m' c = Cert.PreKernelIdeal.Hand.G10 m c := by unfold Cert.PreReferenceIdeal.Hand.G10 Cert.PreKernelIdeal.Hand.G10; rw [e]
  have e11 : Cert.PreReferenceIdeal.Hand.G11 m' c = Cert.PreKernelIdeal.Hand.G11 m c := by unfold Cert.PreReferenceIdeal.Hand.G11 Cert.PreKernelIdeal.Hand.G11; rw [e]
  have e12 : Cert.PreReferenceIdeal.Hand.G12 m' c = Cert.PreKernelIdeal.Hand.G12 m c := by unfold Cert.PreReferenceIdeal.Hand.G12 Cert.PreKernelIdeal.Hand.G12; rw [e]
  have e13 : Cert.PreReferenceIdeal.Hand.G13 m' c = Cert.PreKernelIdeal.Hand.G13 m c := by unfold Cert.PreReferenceIdeal.Hand.G13 Cert.PreKernelIdeal.Hand.G13; rw [e]
  have e16 : Cert.PreReferenceIdeal.Hand.G14 m' c = Cert.PreKernelIdeal.Hand.G16 m c := by unfold Cert.PreReferenceIdeal.Hand.G14 Cert.PreKernelIdeal.Hand.G16; rw [e]
  exact ⟨hc.1.trans e8, hc.2.1.trans e9, hc.2.2.1.trans e10, hc.2.2.2.1.trans e11, hc.2.2.2.2.1.trans e12, hc.2.2.2.2.2.1.trans e13, hc.2.2.2.2.2.2.1.trans e16, hc.2.2.2.2.2.2.2⟩

theorem claim : Cert.Claim :=
  ⟨Cert.Kernel.Gen.facts, Cert.KernelIdeal.Gen.facts, Cert.ReferenceIdeal.Gen.facts,
    Cert.PreKernel.Gen.facts, Cert.PreKernelIdeal.Gen.facts, Cert.PreReferenceIdeal.Gen.facts,
    fun m g _ => Cert.Kernel.Hand.frame m g, fun m g _ => Cert.KernelIdeal.Hand.quiescent m g,
    fun m g _ => Cert.ReferenceIdeal.Hand.quiescent m g,
    fun m g _ => Cert.PreKernel.Hand.frame m g, fun m g _ => Cert.PreKernelIdeal.Hand.quiescent m g,
    fun m g _ => Cert.PreReferenceIdeal.Hand.quiescent m g, trivial, algebraic, trivial, algebraicPre⟩

end Cert.Proof

end
